-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_scores [hPre_finite_scores : Cert.Pre_finite_scores.Facts] (m : (ℓ : Loc Cert.FoxIdeal.nD Cert.FoxIdeal.τ Cert.FoxIdeal.sig) → Buf (Elt Ideal) ℓ) : Prop :=
  ∀ c : Dev Cert.FoxIdeal.nD,
    (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_scores [hPre_finite_scores : Cert.Pre_finite_scores.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_peaks [hPre_finite_peaks : Cert.Pre_finite_peaks.Facts] (m : (ℓ : Loc Cert.PostIdeal.nD Cert.PostIdeal.τ Cert.PostIdeal.sig) → Buf (Elt Ideal) ℓ) : Prop :=
  ∀ c : Dev Cert.PostIdeal.nD,
    (Cert.Pre_finite_peaks.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13)) (m ((c.tc : Thread Cert.PostIdeal.nD Cert.PostIdeal.τ).loc Cert.PostIdeal.main_arg14))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_peaks [hPre_finite_peaks : Cert.Pre_finite_peaks.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_peaks.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11)) (m ((c.tc : Thread Cert.PostRefIdeal.nD Cert.PostRefIdeal.τ).loc Cert.PostRefIdeal.main_arg12)) (m ((c.tc : Thread Cert.PostRefIdeal.nD Cert.PostRefIdeal.τ).loc Cert.PostRefIdeal.main_arg13)) (m ((c.tc : Thread Cert.PostRefIdeal.nD Cert.PostRefIdeal.τ).loc Cert.PostRefIdeal.main_arg14))) = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Decay (m : (ℓ : Loc Cert.Decay.nD Cert.Decay.τ Cert.Decay.sig) → Buf (Elt Bits) ℓ) : Prop :=
  True

def Pre_DecayIdeal (m : (ℓ : Loc Cert.DecayIdeal.nD Cert.DecayIdeal.τ Cert.DecayIdeal.sig) → Buf (Elt Ideal) ℓ) : Prop :=
  True

def Pre_DecayIdeal_finite_gates [hPre_finite_gates : Cert.Pre_finite_gates.Facts] (m : (ℓ : Loc Cert.DecayIdeal.nD Cert.DecayIdeal.τ Cert.DecayIdeal.sig) → Buf (Elt Ideal) ℓ) : Prop :=
  ∀ c : Dev Cert.DecayIdeal.nD,
    (Cert.Pre_finite_gates.fn (F := Ideal) (m ((c.tc : Thread Cert.DecayIdeal.nD Cert.DecayIdeal.τ).loc Cert.DecayIdeal.main_arg0)) (m ((c.tc : Thread Cert.DecayIdeal.nD Cert.DecayIdeal.τ).loc Cert.DecayIdeal.main_arg1)) (m ((c.tc : Thread Cert.DecayIdeal.nD Cert.DecayIdeal.τ).loc Cert.DecayIdeal.main_arg2)) (m ((c.tc : Thread Cert.DecayIdeal.nD Cert.DecayIdeal.τ).loc Cert.DecayIdeal.main_arg3)) (m ((c.tc : Thread Cert.DecayIdeal.nD Cert.DecayIdeal.τ).loc Cert.DecayIdeal.main_arg4))) = (fun _ => 1#1)

def Pre_DecayRefIdeal (m : (ℓ : Loc Cert.DecayRefIdeal.nD Cert.DecayRefIdeal.τ Cert.DecayRefIdeal.sig) → Buf (Elt Ideal) ℓ) : Prop :=
  True

def Pre_DecayRefIdeal_finite_gates [hPre_finite_gates : Cert.Pre_finite_gates.Facts] (m : (ℓ : Loc Cert.DecayRefIdeal.nD Cert.DecayRefIdeal.τ Cert.DecayRefIdeal.sig) → Buf (Elt Ideal) ℓ) : Prop :=
  ∀ c : Dev Cert.DecayRefIdeal.nD,
    (Cert.Pre_finite_gates.fn (F := Ideal) (m ((c.tc : Thread Cert.DecayRefIdeal.nD Cert.DecayRefIdeal.τ).loc Cert.DecayRefIdeal.main_arg0)) (m ((c.tc : Thread Cert.DecayRefIdeal.nD Cert.DecayRefIdeal.τ).loc Cert.DecayRefIdeal.main_arg1)) (m ((c.tc : Thread Cert.DecayRefIdeal.nD Cert.DecayRefIdeal.τ).loc Cert.DecayRefIdeal.main_arg2)) (m ((c.tc : Thread Cert.DecayRefIdeal.nD Cert.DecayRefIdeal.τ).loc Cert.DecayRefIdeal.main_arg3)) (m ((c.tc : Thread Cert.DecayRefIdeal.nD Cert.DecayRefIdeal.τ).loc Cert.DecayRefIdeal.main_arg4))) = (fun _ => 1#1)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_finite_scores [hFoxIdeal : Cert.FoxIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_scores m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_finite_scores [hFoxRefIdeal : Cert.FoxRefIdeal.Facts] [hPre_finite_scores : Cert.Pre_finite_scores.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_scores m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7)
      ∧ r.2.mem ((c.tc : Thread Cert.Inp.nD Cert.Inp.τ).loc Cert.Inp.main_arg8) = m ((c.tc : Thread Cert.Inp.nD Cert.Inp.τ).loc Cert.Inp.main_arg8))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
      ∧ r.2.mem ((c.tc : Thread Cert.InpIdeal.nD Cert.InpIdeal.τ).loc Cert.InpIdeal.main_arg8) = m ((c.tc : Thread Cert.InpIdeal.nD Cert.InpIdeal.τ).loc Cert.InpIdeal.main_arg8))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7)
      ∧ r.2.mem ((c.tc : Thread Cert.InpRefIdeal.nD Cert.InpRefIdeal.τ).loc Cert.InpRefIdeal.main_arg8) = m ((c.tc : Thread Cert.InpRefIdeal.nD Cert.InpRefIdeal.τ).loc Cert.InpRefIdeal.main_arg8))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ r.2.sem = fun _ => 0)

def quiescent_PostIdeal_pre_finite_peaks [hPostIdeal : Cert.PostIdeal.Facts] [hPre_finite_peaks : Cert.Pre_finite_peaks.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_peaks m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14))
      ∧ r.2.sem = fun _ => 0)

def quiescent_PostRefIdeal_pre_finite_peaks [hPostRefIdeal : Cert.PostRefIdeal.Facts] [hPre_finite_peaks : Cert.Pre_finite_peaks.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_peaks m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3)
      ∧ r.2.mem ((c.tc : Thread Cert.Memkv.nD Cert.Memkv.τ).loc Cert.Memkv.main_arg4) = m ((c.tc : Thread Cert.Memkv.nD Cert.Memkv.τ).loc Cert.Memkv.main_arg4)
      ∧ r.2.mem ((c.tc : Thread Cert.Memkv.nD Cert.Memkv.τ).loc Cert.Memkv.main_arg5) = m ((c.tc : Thread Cert.Memkv.nD Cert.Memkv.τ).loc Cert.Memkv.main_arg5)
      ∧ r.2.mem ((c.tc : Thread Cert.Memkv.nD Cert.Memkv.τ).loc Cert.Memkv.main_arg6) = m ((c.tc : Thread Cert.Memkv.nD Cert.Memkv.τ).loc Cert.Memkv.main_arg6)
      ∧ r.2.mem ((c.tc : Thread Cert.Memkv.nD Cert.Memkv.τ).loc Cert.Memkv.main_arg7) = m ((c.tc : Thread Cert.Memkv.nD Cert.Memkv.τ).loc Cert.Memkv.main_arg7)
      ∧ r.2.mem ((c.tc : Thread Cert.Memkv.nD Cert.Memkv.τ).loc Cert.Memkv.main_arg8) = m ((c.tc : Thread Cert.Memkv.nD Cert.Memkv.τ).loc Cert.Memkv.main_arg8)
      ∧ r.2.mem ((c.tc : Thread Cert.Memkv.nD Cert.Memkv.τ).loc Cert.Memkv.main_arg9) = m ((c.tc : Thread Cert.Memkv.nD Cert.Memkv.τ).loc Cert.Memkv.main_arg9))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3)
      ∧ r.2.mem ((c.tc : Thread Cert.MemkvIdeal.nD Cert.MemkvIdeal.τ).loc Cert.MemkvIdeal.main_arg4) = m ((c.tc : Thread Cert.MemkvIdeal.nD Cert.MemkvIdeal.τ).loc Cert.MemkvIdeal.main_arg4)
      ∧ r.2.mem ((c.tc : Thread Cert.MemkvIdeal.nD Cert.MemkvIdeal.τ).loc Cert.MemkvIdeal.main_arg5) = m ((c.tc : Thread Cert.MemkvIdeal.nD Cert.MemkvIdeal.τ).loc Cert.MemkvIdeal.main_arg5)
      ∧ r.2.mem ((c.tc : Thread Cert.MemkvIdeal.nD Cert.MemkvIdeal.τ).loc Cert.MemkvIdeal.main_arg6) = m ((c.tc : Thread Cert.MemkvIdeal.nD Cert.MemkvIdeal.τ).loc Cert.MemkvIdeal.main_arg6)
      ∧ r.2.mem ((c.tc : Thread Cert.MemkvIdeal.nD Cert.MemkvIdeal.τ).loc Cert.MemkvIdeal.main_arg7) = m ((c.tc : Thread Cert.MemkvIdeal.nD Cert.MemkvIdeal.τ).loc Cert.MemkvIdeal.main_arg7)
      ∧ r.2.mem ((c.tc : Thread Cert.MemkvIdeal.nD Cert.MemkvIdeal.τ).loc Cert.MemkvIdeal.main_arg8) = m ((c.tc : Thread Cert.MemkvIdeal.nD Cert.MemkvIdeal.τ).loc Cert.MemkvIdeal.main_arg8)
      ∧ r.2.mem ((c.tc : Thread Cert.MemkvIdeal.nD Cert.MemkvIdeal.τ).loc Cert.MemkvIdeal.main_arg9) = m ((c.tc : Thread Cert.MemkvIdeal.nD Cert.MemkvIdeal.τ).loc Cert.MemkvIdeal.main_arg9))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3)
      ∧ r.2.mem ((c.tc : Thread Cert.MemkvRefIdeal.nD Cert.MemkvRefIdeal.τ).loc Cert.MemkvRefIdeal.main_arg4) = m ((c.tc : Thread Cert.MemkvRefIdeal.nD Cert.MemkvRefIdeal.τ).loc Cert.MemkvRefIdeal.main_arg4)
      ∧ r.2.mem ((c.tc : Thread Cert.MemkvRefIdeal.nD Cert.MemkvRefIdeal.τ).loc Cert.MemkvRefIdeal.main_arg5) = m ((c.tc : Thread Cert.MemkvRefIdeal.nD Cert.MemkvRefIdeal.τ).loc Cert.MemkvRefIdeal.main_arg5)
      ∧ r.2.mem ((c.tc : Thread Cert.MemkvRefIdeal.nD Cert.MemkvRefIdeal.τ).loc Cert.MemkvRefIdeal.main_arg6) = m ((c.tc : Thread Cert.MemkvRefIdeal.nD Cert.MemkvRefIdeal.τ).loc Cert.MemkvRefIdeal.main_arg6)
      ∧ r.2.mem ((c.tc : Thread Cert.MemkvRefIdeal.nD Cert.MemkvRefIdeal.τ).loc Cert.MemkvRefIdeal.main_arg7) = m ((c.tc : Thread Cert.MemkvRefIdeal.nD Cert.MemkvRefIdeal.τ).loc Cert.MemkvRefIdeal.main_arg7)
      ∧ r.2.mem ((c.tc : Thread Cert.MemkvRefIdeal.nD Cert.MemkvRefIdeal.τ).loc Cert.MemkvRefIdeal.main_arg8) = m ((c.tc : Thread Cert.MemkvRefIdeal.nD Cert.MemkvRefIdeal.τ).loc Cert.MemkvRefIdeal.main_arg8)
      ∧ r.2.mem ((c.tc : Thread Cert.MemkvRefIdeal.nD Cert.MemkvRefIdeal.τ).loc Cert.MemkvRefIdeal.main_arg9) = m ((c.tc : Thread Cert.MemkvRefIdeal.nD Cert.MemkvRefIdeal.τ).loc Cert.MemkvRefIdeal.main_arg9))
      ∧ r.2.sem = fun _ => 0)

def quiescent_Decay [hDecay : Cert.Decay.Facts] : Prop :=
  ∀ (m : (ℓ : Loc Cert.Decay.nD Cert.Decay.τ Cert.Decay.sig) → Buf (Elt Bits) ℓ) (g : Dev Cert.Decay.nD → PrngReg), Pre_Decay m →
    θ_run (Cert.Decay.defs (F := Bits)) (onTc (τ := Cert.Decay.τ) (Cert.Decay.main (F := Bits))) ⟨m, fun _ => 0, g⟩ (fun r => (∀ c : Dev Cert.Decay.nD,
      r.2.mem ((c.tc : Thread Cert.Decay.nD Cert.Decay.τ).loc Cert.Decay.main_arg0) = m ((c.tc : Thread Cert.Decay.nD Cert.Decay.τ).loc Cert.Decay.main_arg0)
      ∧ r.2.mem ((c.tc : Thread Cert.Decay.nD Cert.Decay.τ).loc Cert.Decay.main_arg1) = m ((c.tc : Thread Cert.Decay.nD Cert.Decay.τ).loc Cert.Decay.main_arg1)
      ∧ r.2.mem ((c.tc : Thread Cert.Decay.nD Cert.Decay.τ).loc Cert.Decay.main_arg2) = m ((c.tc : Thread Cert.Decay.nD Cert.Decay.τ).loc Cert.Decay.main_arg2)
      ∧ r.2.mem ((c.tc : Thread Cert.Decay.nD Cert.Decay.τ).loc Cert.Decay.main_arg3) = m ((c.tc : Thread Cert.Decay.nD Cert.Decay.τ).loc Cert.Decay.main_arg3)
      ∧ r.2.mem ((c.tc : Thread Cert.Decay.nD Cert.Decay.τ).loc Cert.Decay.main_arg4) = m ((c.tc : Thread Cert.Decay.nD Cert.Decay.τ).loc Cert.Decay.main_arg4))
      ∧ r.2.sem = fun _ => 0)

def quiescent_DecayIdeal [hDecayIdeal : Cert.DecayIdeal.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
      ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1)
      ∧ r.2.mem ((c.tc : Thread Cert.DecayIdeal.nD Cert.DecayIdeal.τ).loc Cert.DecayIdeal.main_arg2) = m ((c.tc : Thread Cert.DecayIdeal.nD Cert.DecayIdeal.τ).loc Cert.DecayIdeal.main_arg2)
      ∧ r.2.mem ((c.tc : Thread Cert.DecayIdeal.nD Cert.DecayIdeal.τ).loc Cert.DecayIdeal.main_arg3) = m ((c.tc : Thread Cert.DecayIdeal.nD Cert.DecayIdeal.τ).loc Cert.DecayIdeal.main_arg3)
      ∧ r.2.mem ((c.tc : Thread Cert.DecayIdeal.nD Cert.DecayIdeal.τ).loc Cert.DecayIdeal.main_arg4) = m ((c.tc : Thread Cert.DecayIdeal.nD Cert.DecayIdeal.τ).loc Cert.DecayIdeal.main_arg4))
      ∧ r.2.sem = fun _ => 0)

def quiescent_DecayIdeal_pre_finite_gates [hDecayIdeal : Cert.DecayIdeal.Facts] [hPre_finite_gates : Cert.Pre_finite_gates.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal_finite_gates m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
      ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1)
      ∧ r.2.mem ((c.tc : Thread Cert.DecayIdeal.nD Cert.DecayIdeal.τ).loc Cert.DecayIdeal.main_arg2) = m ((c.tc : Thread Cert.DecayIdeal.nD Cert.DecayIdeal.τ).loc Cert.DecayIdeal.main_arg2)
      ∧ r.2.mem ((c.tc : Thread Cert.DecayIdeal.nD Cert.DecayIdeal.τ).loc Cert.DecayIdeal.main_arg3) = m ((c.tc : Thread Cert.DecayIdeal.nD Cert.DecayIdeal.τ).loc Cert.DecayIdeal.main_arg3)
      ∧ r.2.mem ((c.tc : Thread Cert.DecayIdeal.nD Cert.DecayIdeal.τ).loc Cert.DecayIdeal.main_arg4) = m ((c.tc : Thread Cert.DecayIdeal.nD Cert.DecayIdeal.τ).loc Cert.DecayIdeal.main_arg4))
      ∧ r.2.sem = fun _ => 0)

def quiescent_DecayRefIdeal [hDecayRefIdeal : Cert.DecayRefIdeal.Facts] : Prop :=
  ∀ (m : (ℓ : Loc Cert.DecayRefIdeal.nD Cert.DecayRefIdeal.τ Cert.DecayRefIdeal.sig) → Buf (Elt Ideal) ℓ) (g : Dev Cert.DecayRefIdeal.nD → PrngReg), Pre_DecayRefIdeal m →
    θ_run (Cert.DecayRefIdeal.defs (F := Ideal)) (onTc (τ := Cert.DecayRefIdeal.τ) (Cert.DecayRefIdeal.main (F := Ideal))) ⟨m, fun _ => 0, g⟩ (fun r => (∀ c : Dev Cert.DecayRefIdeal.nD,
      r.2.mem ((c.tc : Thread Cert.DecayRefIdeal.nD Cert.DecayRefIdeal.τ).loc Cert.DecayRefIdeal.main_arg0) = m ((c.tc : Thread Cert.DecayRefIdeal.nD Cert.DecayRefIdeal.τ).loc Cert.DecayRefIdeal.main_arg0)
      ∧ r.2.mem ((c.tc : Thread Cert.DecayRefIdeal.nD Cert.DecayRefIdeal.τ).loc Cert.DecayRefIdeal.main_arg1) = m ((c.tc : Thread Cert.DecayRefIdeal.nD Cert.DecayRefIdeal.τ).loc Cert.DecayRefIdeal.main_arg1)
      ∧ r.2.mem ((c.tc : Thread Cert.DecayRefIdeal.nD Cert.DecayRefIdeal.τ).loc Cert.DecayRefIdeal.main_arg2) = m ((c.tc : Thread Cert.DecayRefIdeal.nD Cert.DecayRefIdeal.τ).loc Cert.DecayRefIdeal.main_arg2)
      ∧ r.2.mem ((c.tc : Thread Cert.DecayRefIdeal.nD Cert.DecayRefIdeal.τ).loc Cert.DecayRefIdeal.main_arg3) = m ((c.tc : Thread Cert.DecayRefIdeal.nD Cert.DecayRefIdeal.τ).loc Cert.DecayRefIdeal.main_arg3)
      ∧ r.2.mem ((c.tc : Thread Cert.DecayRefIdeal.nD Cert.DecayRefIdeal.τ).loc Cert.DecayRefIdeal.main_arg4) = m ((c.tc : Thread Cert.DecayRefIdeal.nD Cert.DecayRefIdeal.τ).loc Cert.DecayRefIdeal.main_arg4))
      ∧ r.2.sem = fun _ => 0)

def quiescent_DecayRefIdeal_pre_finite_gates [hDecayRefIdeal : Cert.DecayRefIdeal.Facts] [hPre_finite_gates : Cert.Pre_finite_gates.Facts] : Prop :=
  ∀ (m : (ℓ : Loc Cert.DecayRefIdeal.nD Cert.DecayRefIdeal.τ Cert.DecayRefIdeal.sig) → Buf (Elt Ideal) ℓ) (g : Dev Cert.DecayRefIdeal.nD → PrngReg), Pre_DecayRefIdeal_finite_gates m →
    θ_run (Cert.DecayRefIdeal.defs (F := Ideal)) (onTc (τ := Cert.DecayRefIdeal.τ) (Cert.DecayRefIdeal.main (F := Ideal))) ⟨m, fun _ => 0, g⟩ (fun r => (∀ c : Dev Cert.DecayRefIdeal.nD,
      r.2.mem ((c.tc : Thread Cert.DecayRefIdeal.nD Cert.DecayRefIdeal.τ).loc Cert.DecayRefIdeal.main_arg0) = m ((c.tc : Thread Cert.DecayRefIdeal.nD Cert.DecayRefIdeal.τ).loc Cert.DecayRefIdeal.main_arg0)
      ∧ r.2.mem ((c.tc : Thread Cert.DecayRefIdeal.nD Cert.DecayRefIdeal.τ).loc Cert.DecayRefIdeal.main_arg1) = m ((c.tc : Thread Cert.DecayRefIdeal.nD Cert.DecayRefIdeal.τ).loc Cert.DecayRefIdeal.main_arg1)
      ∧ r.2.mem ((c.tc : Thread Cert.DecayRefIdeal.nD Cert.DecayRefIdeal.τ).loc Cert.DecayRefIdeal.main_arg2) = m ((c.tc : Thread Cert.DecayRefIdeal.nD Cert.DecayRefIdeal.τ).loc Cert.DecayRefIdeal.main_arg2)
      ∧ r.2.mem ((c.tc : Thread Cert.DecayRefIdeal.nD Cert.DecayRefIdeal.τ).loc Cert.DecayRefIdeal.main_arg3) = m ((c.tc : Thread Cert.DecayRefIdeal.nD Cert.DecayRefIdeal.τ).loc Cert.DecayRefIdeal.main_arg3)
      ∧ r.2.mem ((c.tc : Thread Cert.DecayRefIdeal.nD Cert.DecayRefIdeal.τ).loc Cert.DecayRefIdeal.main_arg4) = m ((c.tc : Thread Cert.DecayRefIdeal.nD Cert.DecayRefIdeal.τ).loc Cert.DecayRefIdeal.main_arg4))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite_scores [hFoxIdeal : Cert.FoxIdeal.Facts] [hFoxRefIdeal : Cert.FoxRefIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_scores m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v40) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)
      ∧ m' ((c.tc : Thread Cert.InpRefIdeal.nD Cert.InpRefIdeal.τ).loc Cert.InpRefIdeal.main_arg7) = m ((c.tc : Thread Cert.InpIdeal.nD Cert.InpIdeal.τ).loc Cert.InpIdeal.main_arg7)
      ∧ m' ((c.tc : Thread Cert.InpRefIdeal.nD Cert.InpRefIdeal.τ).loc Cert.InpRefIdeal.main_arg8) = m ((c.tc : Thread Cert.InpIdeal.nD Cert.InpIdeal.τ).loc Cert.InpIdeal.main_arg8)) →
    ∃ (v0 : (c : Dev Cert.InpIdeal.nD) → Buf (Elt Ideal) ((c.tc : Thread Cert.InpIdeal.nD Cert.InpIdeal.τ).loc Cert.InpIdeal.main_v0_0)) (v1 : (c : Dev Cert.InpIdeal.nD) → Buf (Elt Ideal) ((c.tc : Thread Cert.InpIdeal.nD Cert.InpIdeal.τ).loc Cert.InpIdeal.main_v0_1)) (v2 : (c : Dev Cert.InpIdeal.nD) → Buf (Elt Ideal) ((c.tc : Thread Cert.InpIdeal.nD Cert.InpIdeal.τ).loc Cert.InpIdeal.main_v0_2)) (v3 : (c : Dev Cert.InpIdeal.nD) → Buf (Elt Ideal) ((c.tc : Thread Cert.InpIdeal.nD Cert.InpIdeal.τ).loc Cert.InpIdeal.main_v0_3)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v0_0) = v0 c
          ∧ r.2.mem ((c.tc : Thread Cert.InpIdeal.nD Cert.InpIdeal.τ).loc Cert.InpIdeal.main_v0_1) = v1 c
          ∧ r.2.mem ((c.tc : Thread Cert.InpIdeal.nD Cert.InpIdeal.τ).loc Cert.InpIdeal.main_v0_2) = v2 c
          ∧ r.2.mem ((c.tc : Thread Cert.InpIdeal.nD Cert.InpIdeal.τ).loc Cert.InpIdeal.main_v0_3) = v3 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
          ∧ r.2.mem ((c.tc : Thread Cert.InpIdeal.nD Cert.InpIdeal.τ).loc Cert.InpIdeal.main_arg8) = m ((c.tc : Thread Cert.InpIdeal.nD Cert.InpIdeal.τ).loc Cert.InpIdeal.main_arg8))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v82) = v0 c
          ∧ r.2.mem ((c.tc : Thread Cert.InpRefIdeal.nD Cert.InpRefIdeal.τ).loc Cert.InpRefIdeal.main_v55) = v1 c
          ∧ r.2.mem ((c.tc : Thread Cert.InpRefIdeal.nD Cert.InpRefIdeal.τ).loc Cert.InpRefIdeal.main_v85) = v2 c
          ∧ r.2.mem ((c.tc : Thread Cert.InpRefIdeal.nD Cert.InpRefIdeal.τ).loc Cert.InpRefIdeal.main_v93) = v3 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6)
          ∧ r.2.mem ((c.tc : Thread Cert.InpRefIdeal.nD Cert.InpRefIdeal.τ).loc Cert.InpRefIdeal.main_arg7) = m' ((c.tc : Thread Cert.InpRefIdeal.nD Cert.InpRefIdeal.τ).loc Cert.InpRefIdeal.main_arg7)
          ∧ r.2.mem ((c.tc : Thread Cert.InpRefIdeal.nD Cert.InpRefIdeal.τ).loc Cert.InpRefIdeal.main_arg8) = m' ((c.tc : Thread Cert.InpRefIdeal.nD Cert.InpRefIdeal.τ).loc Cert.InpRefIdeal.main_arg8))

def preserves_Post_PostIdeal : Prop :=
  True

def algebraic_PostIdeal_PostRefIdeal_pre_finite_peaks [hPostIdeal : Cert.PostIdeal.Facts] [hPostRefIdeal : Cert.PostRefIdeal.Facts] [hPre_finite_peaks : Cert.Pre_finite_peaks.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_peaks m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)
      ∧ m' ((c.tc : Thread Cert.PostRefIdeal.nD Cert.PostRefIdeal.τ).loc Cert.PostRefIdeal.main_arg14) = m ((c.tc : Thread Cert.PostIdeal.nD Cert.PostIdeal.τ).loc Cert.PostIdeal.main_arg14)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)) (v2 : (c : Dev Cert.PostIdeal.nD) → Buf (Elt Ideal) ((c.tc : Thread Cert.PostIdeal.nD Cert.PostIdeal.τ).loc Cert.PostIdeal.main_v0_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_v0_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v71) = v0 c
          ∧ r.2.mem ((c.tc : Thread Cert.PostRefIdeal.nD Cert.PostRefIdeal.τ).loc Cert.PostRefIdeal.main_v74) = v1 c
          ∧ r.2.mem ((c.tc : Thread Cert.PostRefIdeal.nD Cert.PostRefIdeal.τ).loc Cert.PostRefIdeal.main_v77) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13)
          ∧ r.2.mem ((c.tc : Thread Cert.PostRefIdeal.nD Cert.PostRefIdeal.τ).loc Cert.PostRefIdeal.main_arg14) = m' ((c.tc : Thread Cert.PostRefIdeal.nD Cert.PostRefIdeal.τ).loc Cert.PostRefIdeal.main_arg14))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)
      ∧ m' ((c.tc : Thread Cert.MemkvRefIdeal.nD Cert.MemkvRefIdeal.τ).loc Cert.MemkvRefIdeal.main_arg4) = m ((c.tc : Thread Cert.MemkvIdeal.nD Cert.MemkvIdeal.τ).loc Cert.MemkvIdeal.main_arg4)
      ∧ m' ((c.tc : Thread Cert.MemkvRefIdeal.nD Cert.MemkvRefIdeal.τ).loc Cert.MemkvRefIdeal.main_arg5) = m ((c.tc : Thread Cert.MemkvIdeal.nD Cert.MemkvIdeal.τ).loc Cert.MemkvIdeal.main_arg5)
      ∧ m' ((c.tc : Thread Cert.MemkvRefIdeal.nD Cert.MemkvRefIdeal.τ).loc Cert.MemkvRefIdeal.main_arg6) = m ((c.tc : Thread Cert.MemkvIdeal.nD Cert.MemkvIdeal.τ).loc Cert.MemkvIdeal.main_arg6)
      ∧ m' ((c.tc : Thread Cert.MemkvRefIdeal.nD Cert.MemkvRefIdeal.τ).loc Cert.MemkvRefIdeal.main_arg7) = m ((c.tc : Thread Cert.MemkvIdeal.nD Cert.MemkvIdeal.τ).loc Cert.MemkvIdeal.main_arg7)
      ∧ m' ((c.tc : Thread Cert.MemkvRefIdeal.nD Cert.MemkvRefIdeal.τ).loc Cert.MemkvRefIdeal.main_arg8) = m ((c.tc : Thread Cert.MemkvIdeal.nD Cert.MemkvIdeal.τ).loc Cert.MemkvIdeal.main_arg8)
      ∧ m' ((c.tc : Thread Cert.MemkvRefIdeal.nD Cert.MemkvRefIdeal.τ).loc Cert.MemkvRefIdeal.main_arg9) = m ((c.tc : Thread Cert.MemkvIdeal.nD Cert.MemkvIdeal.τ).loc Cert.MemkvIdeal.main_arg9)) →
    ∃ (v0 : (c : Dev Cert.MemkvIdeal.nD) → Buf (Elt Ideal) ((c.tc : Thread Cert.MemkvIdeal.nD Cert.MemkvIdeal.τ).loc Cert.MemkvIdeal.main_v3_0)) (v1 : (c : Dev Cert.MemkvIdeal.nD) → Buf (Elt Ideal) ((c.tc : Thread Cert.MemkvIdeal.nD Cert.MemkvIdeal.τ).loc Cert.MemkvIdeal.main_v3_1)) (v2 : (c : Dev Cert.MemkvIdeal.nD) → Buf (Elt Ideal) ((c.tc : Thread Cert.MemkvIdeal.nD Cert.MemkvIdeal.τ).loc Cert.MemkvIdeal.main_v3_2)) (v3 : (c : Dev Cert.MemkvIdeal.nD) → Buf (Elt Ideal) ((c.tc : Thread Cert.MemkvIdeal.nD Cert.MemkvIdeal.τ).loc Cert.MemkvIdeal.main_v3_3)) (v4 : (c : Dev Cert.MemkvIdeal.nD) → Buf (Elt Ideal) ((c.tc : Thread Cert.MemkvIdeal.nD Cert.MemkvIdeal.τ).loc Cert.MemkvIdeal.main_v3_4)) (v5 : (c : Dev Cert.MemkvIdeal.nD) → Buf (Elt Ideal) ((c.tc : Thread Cert.MemkvIdeal.nD Cert.MemkvIdeal.τ).loc Cert.MemkvIdeal.main_v3_5)) (v6 : (c : Dev Cert.MemkvIdeal.nD) → Buf (Elt Ideal) ((c.tc : Thread Cert.MemkvIdeal.nD Cert.MemkvIdeal.τ).loc Cert.MemkvIdeal.main_v3_6)) (v7 : (c : Dev Cert.MemkvIdeal.nD) → Buf (Elt Ideal) ((c.tc : Thread Cert.MemkvIdeal.nD Cert.MemkvIdeal.τ).loc Cert.MemkvIdeal.main_v3_7)) (v8 : (c : Dev Cert.MemkvIdeal.nD) → Buf (Elt Ideal) ((c.tc : Thread Cert.MemkvIdeal.nD Cert.MemkvIdeal.τ).loc Cert.MemkvIdeal.main_v3_8)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v3_0) = v0 c
          ∧ r.2.mem ((c.tc : Thread Cert.MemkvIdeal.nD Cert.MemkvIdeal.τ).loc Cert.MemkvIdeal.main_v3_1) = v1 c
          ∧ r.2.mem ((c.tc : Thread Cert.MemkvIdeal.nD Cert.MemkvIdeal.τ).loc Cert.MemkvIdeal.main_v3_2) = v2 c
          ∧ r.2.mem ((c.tc : Thread Cert.MemkvIdeal.nD Cert.MemkvIdeal.τ).loc Cert.MemkvIdeal.main_v3_3) = v3 c
          ∧ r.2.mem ((c.tc : Thread Cert.MemkvIdeal.nD Cert.MemkvIdeal.τ).loc Cert.MemkvIdeal.main_v3_4) = v4 c
          ∧ r.2.mem ((c.tc : Thread Cert.MemkvIdeal.nD Cert.MemkvIdeal.τ).loc Cert.MemkvIdeal.main_v3_5) = v5 c
          ∧ r.2.mem ((c.tc : Thread Cert.MemkvIdeal.nD Cert.MemkvIdeal.τ).loc Cert.MemkvIdeal.main_v3_6) = v6 c
          ∧ r.2.mem ((c.tc : Thread Cert.MemkvIdeal.nD Cert.MemkvIdeal.τ).loc Cert.MemkvIdeal.main_v3_7) = v7 c
          ∧ r.2.mem ((c.tc : Thread Cert.MemkvIdeal.nD Cert.MemkvIdeal.τ).loc Cert.MemkvIdeal.main_v3_8) = v8 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3)
          ∧ r.2.mem ((c.tc : Thread Cert.MemkvIdeal.nD Cert.MemkvIdeal.τ).loc Cert.MemkvIdeal.main_arg4) = m ((c.tc : Thread Cert.MemkvIdeal.nD Cert.MemkvIdeal.τ).loc Cert.MemkvIdeal.main_arg4)
          ∧ r.2.mem ((c.tc : Thread Cert.MemkvIdeal.nD Cert.MemkvIdeal.τ).loc Cert.MemkvIdeal.main_arg5) = m ((c.tc : Thread Cert.MemkvIdeal.nD Cert.MemkvIdeal.τ).loc Cert.MemkvIdeal.main_arg5)
          ∧ r.2.mem ((c.tc : Thread Cert.MemkvIdeal.nD Cert.MemkvIdeal.τ).loc Cert.MemkvIdeal.main_arg6) = m ((c.tc : Thread Cert.MemkvIdeal.nD Cert.MemkvIdeal.τ).loc Cert.MemkvIdeal.main_arg6)
          ∧ r.2.mem ((c.tc : Thread Cert.MemkvIdeal.nD Cert.MemkvIdeal.τ).loc Cert.MemkvIdeal.main_arg7) = m ((c.tc : Thread Cert.MemkvIdeal.nD Cert.MemkvIdeal.τ).loc Cert.MemkvIdeal.main_arg7)
          ∧ r.2.mem ((c.tc : Thread Cert.MemkvIdeal.nD Cert.MemkvIdeal.τ).loc Cert.MemkvIdeal.main_arg8) = m ((c.tc : Thread Cert.MemkvIdeal.nD Cert.MemkvIdeal.τ).loc Cert.MemkvIdeal.main_arg8)
          ∧ r.2.mem ((c.tc : Thread Cert.MemkvIdeal.nD Cert.MemkvIdeal.τ).loc Cert.MemkvIdeal.main_arg9) = m ((c.tc : Thread Cert.MemkvIdeal.nD Cert.MemkvIdeal.τ).loc Cert.MemkvIdeal.main_arg9))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v33) = v0 c
          ∧ r.2.mem ((c.tc : Thread Cert.MemkvRefIdeal.nD Cert.MemkvRefIdeal.τ).loc Cert.MemkvRefIdeal.main_v35) = v1 c
          ∧ r.2.mem ((c.tc : Thread Cert.MemkvRefIdeal.nD Cert.MemkvRefIdeal.τ).loc Cert.MemkvRefIdeal.main_v38) = v2 c
          ∧ r.2.mem ((c.tc : Thread Cert.MemkvRefIdeal.nD Cert.MemkvRefIdeal.τ).loc Cert.MemkvRefIdeal.main_v41) = v3 c
          ∧ r.2.mem ((c.tc : Thread Cert.MemkvRefIdeal.nD Cert.MemkvRefIdeal.τ).loc Cert.MemkvRefIdeal.main_v44) = v4 c
          ∧ r.2.mem ((c.tc : Thread Cert.MemkvRefIdeal.nD Cert.MemkvRefIdeal.τ).loc Cert.MemkvRefIdeal.main_v47) = v5 c
          ∧ r.2.mem ((c.tc : Thread Cert.MemkvRefIdeal.nD Cert.MemkvRefIdeal.τ).loc Cert.MemkvRefIdeal.main_v50) = v6 c
          ∧ r.2.mem ((c.tc : Thread Cert.MemkvRefIdeal.nD Cert.MemkvRefIdeal.τ).loc Cert.MemkvRefIdeal.main_v53) = v7 c
          ∧ r.2.mem ((c.tc : Thread Cert.MemkvRefIdeal.nD Cert.MemkvRefIdeal.τ).loc Cert.MemkvRefIdeal.main_v56) = v8 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3)
          ∧ r.2.mem ((c.tc : Thread Cert.MemkvRefIdeal.nD Cert.MemkvRefIdeal.τ).loc Cert.MemkvRefIdeal.main_arg4) = m' ((c.tc : Thread Cert.MemkvRefIdeal.nD Cert.MemkvRefIdeal.τ).loc Cert.MemkvRefIdeal.main_arg4)
          ∧ r.2.mem ((c.tc : Thread Cert.MemkvRefIdeal.nD Cert.MemkvRefIdeal.τ).loc Cert.MemkvRefIdeal.main_arg5) = m' ((c.tc : Thread Cert.MemkvRefIdeal.nD Cert.MemkvRefIdeal.τ).loc Cert.MemkvRefIdeal.main_arg5)
          ∧ r.2.mem ((c.tc : Thread Cert.MemkvRefIdeal.nD Cert.MemkvRefIdeal.τ).loc Cert.MemkvRefIdeal.main_arg6) = m' ((c.tc : Thread Cert.MemkvRefIdeal.nD Cert.MemkvRefIdeal.τ).loc Cert.MemkvRefIdeal.main_arg6)
          ∧ r.2.mem ((c.tc : Thread Cert.MemkvRefIdeal.nD Cert.MemkvRefIdeal.τ).loc Cert.MemkvRefIdeal.main_arg7) = m' ((c.tc : Thread Cert.MemkvRefIdeal.nD Cert.MemkvRefIdeal.τ).loc Cert.MemkvRefIdeal.main_arg7)
          ∧ r.2.mem ((c.tc : Thread Cert.MemkvRefIdeal.nD Cert.MemkvRefIdeal.τ).loc Cert.MemkvRefIdeal.main_arg8) = m' ((c.tc : Thread Cert.MemkvRefIdeal.nD Cert.MemkvRefIdeal.τ).loc Cert.MemkvRefIdeal.main_arg8)
          ∧ r.2.mem ((c.tc : Thread Cert.MemkvRefIdeal.nD Cert.MemkvRefIdeal.τ).loc Cert.MemkvRefIdeal.main_arg9) = m' ((c.tc : Thread Cert.MemkvRefIdeal.nD Cert.MemkvRefIdeal.τ).loc Cert.MemkvRefIdeal.main_arg9))

def preserves_Decay_DecayIdeal : Prop :=
  True

def algebraic_DecayIdeal_DecayRefIdeal_pre_finite_gates [hDecayIdeal : Cert.DecayIdeal.Facts] [hDecayRefIdeal : Cert.DecayRefIdeal.Facts] [hPre_finite_gates : Cert.Pre_finite_gates.Facts] : Prop :=
  ∀ (m : (ℓ : Loc Cert.DecayIdeal.nD Cert.DecayIdeal.τ Cert.DecayIdeal.sig) → Buf (Elt Ideal) ℓ) (g : Dev Cert.DecayIdeal.nD → PrngReg)
    (m' : (ℓ : Loc Cert.DecayRefIdeal.nD Cert.DecayRefIdeal.τ Cert.DecayRefIdeal.sig) → Buf (Elt Ideal) ℓ) (g' : Dev Cert.DecayRefIdeal.nD → PrngReg), Pre_DecayIdeal_finite_gates m →
    (∀ c : Dev Cert.DecayIdeal.nD,
      m' ((c.tc : Thread Cert.DecayRefIdeal.nD Cert.DecayRefIdeal.τ).loc Cert.DecayRefIdeal.main_arg0) = m ((c.tc : Thread Cert.DecayIdeal.nD Cert.DecayIdeal.τ).loc Cert.DecayIdeal.main_arg0)
      ∧ m' ((c.tc : Thread Cert.DecayRefIdeal.nD Cert.DecayRefIdeal.τ).loc Cert.DecayRefIdeal.main_arg1) = m ((c.tc : Thread Cert.DecayIdeal.nD Cert.DecayIdeal.τ).loc Cert.DecayIdeal.main_arg1)
      ∧ m' ((c.tc : Thread Cert.DecayRefIdeal.nD Cert.DecayRefIdeal.τ).loc Cert.DecayRefIdeal.main_arg2) = m ((c.tc : Thread Cert.DecayIdeal.nD Cert.DecayIdeal.τ).loc Cert.DecayIdeal.main_arg2)
      ∧ m' ((c.tc : Thread Cert.DecayRefIdeal.nD Cert.DecayRefIdeal.τ).loc Cert.DecayRefIdeal.main_arg3) = m ((c.tc : Thread Cert.DecayIdeal.nD Cert.DecayIdeal.τ).loc Cert.DecayIdeal.main_arg3)
      ∧ m' ((c.tc : Thread Cert.DecayRefIdeal.nD Cert.DecayRefIdeal.τ).loc Cert.DecayRefIdeal.main_arg4) = m ((c.tc : Thread Cert.DecayIdeal.nD Cert.DecayIdeal.τ).loc Cert.DecayIdeal.main_arg4)) →
    ∃ (v0 : (c : Dev Cert.DecayIdeal.nD) → Buf (Elt Ideal) ((c.tc : Thread Cert.DecayIdeal.nD Cert.DecayIdeal.τ).loc Cert.DecayIdeal.main_v7_0)) (v1 : (c : Dev Cert.DecayIdeal.nD) → Buf (Elt Ideal) ((c.tc : Thread Cert.DecayIdeal.nD Cert.DecayIdeal.τ).loc Cert.DecayIdeal.main_v7_1)),
      θ_run (Cert.DecayIdeal.defs (F := Ideal)) (onTc (τ := Cert.DecayIdeal.τ) (Cert.DecayIdeal.main (F := Ideal))) ⟨m, fun _ => 0, g⟩ (fun r => ∀ c : Dev Cert.DecayIdeal.nD,
          r.2.mem ((c.tc : Thread Cert.DecayIdeal.nD Cert.DecayIdeal.τ).loc Cert.DecayIdeal.main_v7_0) = v0 c
          ∧ r.2.mem ((c.tc : Thread Cert.DecayIdeal.nD Cert.DecayIdeal.τ).loc Cert.DecayIdeal.main_v7_1) = v1 c
          ∧ r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
          ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1)
          ∧ r.2.mem ((c.tc : Thread Cert.DecayIdeal.nD Cert.DecayIdeal.τ).loc Cert.DecayIdeal.main_arg2) = m ((c.tc : Thread Cert.DecayIdeal.nD Cert.DecayIdeal.τ).loc Cert.DecayIdeal.main_arg2)
          ∧ r.2.mem ((c.tc : Thread Cert.DecayIdeal.nD Cert.DecayIdeal.τ).loc Cert.DecayIdeal.main_arg3) = m ((c.tc : Thread Cert.DecayIdeal.nD Cert.DecayIdeal.τ).loc Cert.DecayIdeal.main_arg3)
          ∧ r.2.mem ((c.tc : Thread Cert.DecayIdeal.nD Cert.DecayIdeal.τ).loc Cert.DecayIdeal.main_arg4) = m ((c.tc : Thread Cert.DecayIdeal.nD Cert.DecayIdeal.τ).loc Cert.DecayIdeal.main_arg4))
      ∧ θ_run (Cert.DecayRefIdeal.defs (F := Ideal)) (onTc (τ := Cert.DecayRefIdeal.τ) (Cert.DecayRefIdeal.main (F := Ideal))) ⟨m', fun _ => 0, g'⟩ (fun r => ∀ c : Dev Cert.DecayRefIdeal.nD,
          r.2.mem ((c.tc : Thread Cert.DecayRefIdeal.nD Cert.DecayRefIdeal.τ).loc Cert.DecayRefIdeal.main_v19) = v0 c
          ∧ r.2.mem ((c.tc : Thread Cert.DecayRefIdeal.nD Cert.DecayRefIdeal.τ).loc Cert.DecayRefIdeal.main_v25) = v1 c
          ∧ r.2.mem ((c.tc : Thread Cert.DecayRefIdeal.nD Cert.DecayRefIdeal.τ).loc Cert.DecayRefIdeal.main_arg0) = m' ((c.tc : Thread Cert.DecayRefIdeal.nD Cert.DecayRefIdeal.τ).loc Cert.DecayRefIdeal.main_arg0)
          ∧ r.2.mem ((c.tc : Thread Cert.DecayRefIdeal.nD Cert.DecayRefIdeal.τ).loc Cert.DecayRefIdeal.main_arg1) = m' ((c.tc : Thread Cert.DecayRefIdeal.nD Cert.DecayRefIdeal.τ).loc Cert.DecayRefIdeal.main_arg1)
          ∧ r.2.mem ((c.tc : Thread Cert.DecayRefIdeal.nD Cert.DecayRefIdeal.τ).loc Cert.DecayRefIdeal.main_arg2) = m' ((c.tc : Thread Cert.DecayRefIdeal.nD Cert.DecayRefIdeal.τ).loc Cert.DecayRefIdeal.main_arg2)
          ∧ r.2.mem ((c.tc : Thread Cert.DecayRefIdeal.nD Cert.DecayRefIdeal.τ).loc Cert.DecayRefIdeal.main_arg3) = m' ((c.tc : Thread Cert.DecayRefIdeal.nD Cert.DecayRefIdeal.τ).loc Cert.DecayRefIdeal.main_arg3)
          ∧ r.2.mem ((c.tc : Thread Cert.DecayRefIdeal.nD Cert.DecayRefIdeal.τ).loc Cert.DecayRefIdeal.main_arg4) = m' ((c.tc : Thread Cert.DecayRefIdeal.nD Cert.DecayRefIdeal.τ).loc Cert.DecayRefIdeal.main_arg4))

def Claim : Prop :=
  ∃ (hFox : Cert.Fox.Facts) (hFoxIdeal : Cert.FoxIdeal.Facts) (hFoxRefIdeal : Cert.FoxRefIdeal.Facts) (hFfn : Cert.Ffn.Facts) (hFfnIdeal : Cert.FfnIdeal.Facts) (hFfnRefIdeal : Cert.FfnRefIdeal.Facts) (hInp : Cert.Inp.Facts) (hInpIdeal : Cert.InpIdeal.Facts) (hInpRefIdeal : Cert.InpRefIdeal.Facts) (hPost : Cert.Post.Facts) (hPostIdeal : Cert.PostIdeal.Facts) (hPostRefIdeal : Cert.PostRefIdeal.Facts) (hMemkv : Cert.Memkv.Facts) (hMemkvIdeal : Cert.MemkvIdeal.Facts) (hMemkvRefIdeal : Cert.MemkvRefIdeal.Facts) (hDecay : Cert.Decay.Facts) (hDecayIdeal : Cert.DecayIdeal.Facts) (hDecayRefIdeal : Cert.DecayRefIdeal.Facts) (hPre_finite_scores : Cert.Pre_finite_scores.Facts) (hPre_finite_peaks : Cert.Pre_finite_peaks.Facts) (hPre_finite_gates : Cert.Pre_finite_gates.Facts),
    quiescent_Fox (hFox := hFox)
    ∧ quiescent_FoxIdeal (hFoxIdeal := hFoxIdeal)
    ∧ quiescent_FoxIdeal_pre_finite_scores (hFoxIdeal := hFoxIdeal) (hPre_finite_scores := hPre_finite_scores)
    ∧ quiescent_FoxRefIdeal (hFoxRefIdeal := hFoxRefIdeal)
    ∧ quiescent_FoxRefIdeal_pre_finite_scores (hFoxRefIdeal := hFoxRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Inp (hInp := hInp)
    ∧ quiescent_InpIdeal (hInpIdeal := hInpIdeal)
    ∧ quiescent_InpRefIdeal (hInpRefIdeal := hInpRefIdeal)
    ∧ quiescent_Post (hPost := hPost)
    ∧ quiescent_PostIdeal (hPostIdeal := hPostIdeal)
    ∧ quiescent_PostIdeal_pre_finite_peaks (hPostIdeal := hPostIdeal) (hPre_finite_peaks := hPre_finite_peaks)
    ∧ quiescent_PostRefIdeal (hPostRefIdeal := hPostRefIdeal)
    ∧ quiescent_PostRefIdeal_pre_finite_peaks (hPostRefIdeal := hPostRefIdeal) (hPre_finite_peaks := hPre_finite_peaks)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Decay (hDecay := hDecay)
    ∧ quiescent_DecayIdeal (hDecayIdeal := hDecayIdeal)
    ∧ quiescent_DecayIdeal_pre_finite_gates (hDecayIdeal := hDecayIdeal) (hPre_finite_gates := hPre_finite_gates)
    ∧ quiescent_DecayRefIdeal (hDecayRefIdeal := hDecayRefIdeal)
    ∧ quiescent_DecayRefIdeal_pre_finite_gates (hDecayRefIdeal := hDecayRefIdeal) (hPre_finite_gates := hPre_finite_gates)
    ∧ preserves_Fox_FoxIdeal
    ∧ algebraic_FoxIdeal_FoxRefIdeal_pre_finite_scores (hFoxIdeal := hFoxIdeal) (hFoxRefIdeal := hFoxRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Inp_InpIdeal
    ∧ algebraic_InpIdeal_InpRefIdeal (hInpIdeal := hInpIdeal) (hInpRefIdeal := hInpRefIdeal)
    ∧ preserves_Post_PostIdeal
    ∧ algebraic_PostIdeal_PostRefIdeal_pre_finite_peaks (hPostIdeal := hPostIdeal) (hPostRefIdeal := hPostRefIdeal) (hPre_finite_peaks := hPre_finite_peaks)
    ∧ preserves_Memkv_MemkvIdeal
    ∧ algebraic_MemkvIdeal_MemkvRefIdeal (hMemkvIdeal := hMemkvIdeal) (hMemkvRefIdeal := hMemkvRefIdeal)
    ∧ preserves_Decay_DecayIdeal
    ∧ algebraic_DecayIdeal_DecayRefIdeal_pre_finite_gates (hDecayIdeal := hDecayIdeal) (hDecayRefIdeal := hDecayRefIdeal) (hPre_finite_gates := hPre_finite_gates)
-- ==== Pre_finite_gates.lean ====
abbrev S16384x128 : Shape := ⟨2, ![16384, 128]⟩
abbrev S128x512 : Shape := ⟨2, ![128, 512]⟩
abbrev S1x512 : Shape := ⟨2, ![1, 512]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x128 .f32) (main_arg1 : FVec F S128x512 .bf16) (main_arg2 : FVec F S128x512 .bf16) (main_arg3 : FVec F S1x512 .f32) (main_arg4 : FVec F S1x512 .f32) : IVec S16384x128 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  main_v2
-- ==== Pre_finite_peaks.lean ====
abbrev S16384x512 : Shape := ⟨2, ![16384, 512]⟩
abbrev S16384x2048 : Shape := ⟨2, ![16384, 2048]⟩
abbrev S16384x1024 : Shape := ⟨2, ![16384, 1024]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S1x128 : Shape := ⟨2, ![1, 128]⟩
abbrev S4x2048x512 : Shape := ⟨3, ![4, 2048, 512]⟩
abbrev S4x1024x5632 : Shape := ⟨3, ![4, 1024, 5632]⟩
abbrev S4x2816x1024 : Shape := ⟨3, ![4, 2816, 1024]⟩
abbrev S_ : Shape := ⟨0, ![]⟩
abbrev S16384 : Shape := ⟨1, ![16384]⟩
abbrev S16384x1 : Shape := ⟨2, ![16384, 1]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S128 : Shape := ⟨1, ![128]⟩
abbrev S1x1x1x128 : Shape := ⟨4, ![1, 1, 1, 128]⟩
abbrev S1x2048x512 : Shape := ⟨3, ![1, 2048, 512]⟩
abbrev S2048x512 : Shape := ⟨2, ![2048, 512]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩

class Facts : Prop where
  bitsLt_bf16_f32 : FTy.bits .bf16 < FTy.bits .f32
  slices_S16384x2048_S16384x1024_0_0 : S16384x2048.Slices ![0, 0] S16384x1024
  slices_S16384x2048_S16384x1024_0_1024 : S16384x2048.Slices ![0, 1024] S16384x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  shapeCasts_S16384x512_S8x2048x4x128 : S16384x512.ShapeCasts S8x2048x4x128
  reducesTo_S8x2048x4x128_S8x2048x4_d3 : S8x2048x4x128.ReducesTo [3] S8x2048x4
  bcast_S8x2048x4_S8x2048x4x1_0_1_2 : S8x2048x4.BroadcastsInDim S8x2048x4x1 (![0, 1, 2] : Fin 3 → Fin S8x2048x4x1.rank)
  bcast_S_S8x2048x4x1 : S_.BroadcastsInDim S8x2048x4x1 (![] : Fin 0 → Fin S8x2048x4x1.rank)
  bcast_S8x2048x4x1_S8x2048x4x128_0_1_2_3 : S8x2048x4x1.BroadcastsInDim S8x2048x4x128 (![0, 1, 2, 3] : Fin 4 → Fin S8x2048x4x128.rank)
  shapeCasts_S1x128_S128 : S1x128.ShapeCasts S128
  bcast_S128_S1x1x1x128_3 : S128.BroadcastsInDim S1x1x1x128 (![3] : Fin 1 → Fin S1x1x1x128.rank)
  bcast_S1x1x1x128_S8x2048x4x128_0_1_2_3 : S1x1x1x128.BroadcastsInDim S8x2048x4x128 (![0, 1, 2, 3] : Fin 4 → Fin S8x2048x4x128.rank)
  slices_S4x2048x512_S1x2048x512_3_0_0 : S4x2048x512.Slices ![3, 0, 0] S1x2048x512
  shapeCasts_S1x2048x512_S2048x512 : S1x2048x512.ShapeCasts S2048x512
  shapeCasts_S2048x512_S8x256x4x128 : S2048x512.ShapeCasts S8x256x4x128
  bcast_S_S8x4x2048x256 : S_.BroadcastsInDim S8x4x2048x256 (![] : Fin 0 → Fin S8x4x2048x256.rank)
  reducesTo_S8x4x2048x256_S8x4x2048_d3 : S8x4x2048x256.ReducesTo [3] S8x4x2048
  bcast_S_S8x4x2048 : S_.BroadcastsInDim S8x4x2048 (![] : Fin 0 → Fin S8x4x2048.rank)
  dot_S16384x512_S512x1024_S16384x1024_1_0_0_1_n_n_wf : DotDims.WF S16384x512 S512x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x512_S16384x512_1_0_0_1_n_n_wf : DotDims.WF S16384x1024 S1024x512 S16384x512 [1] [0] [0] [1] [] []
  dot_S8x2048x4x128_S8x256x4x128_S8x4x2048x256_3_3_1_1_02_02_wf : DotDims.WF S8x2048x4x128 S8x256x4x128 S8x4x2048x256 [3] [3] [1] [1] [0, 2] [0, 2]

variable [Facts]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S8x2048x4x128_S8x256x4x128_S8x4x2048x256_3_3_1_1_02_02 : DotDims S8x2048x4x128 S8x256x4x128 S8x4x2048x256 where
  lhsContracting := [3]
  rhsContracting := [3]
  lhsNonContracting := [1]
  rhsNonContracting := [1]
  lhsBatch := [0, 2]
  rhsBatch := [0, 2]
  wf := dot_S8x2048x4x128_S8x256x4x128_S8x4x2048x256_3_3_1_1_02_02_wf
def fn_part2 {F : FTy → Type} [FloatOps F] (main_arg10 : FVec F S4x2048x512 .bf16) (main_v39 : FVec F S8x2048x4x128 .f32) (main_v41 : FVec F S1x1x1x128 .f32) : IVec S8x4x2048 1 :=
  let main_v42 : FVec F S8x2048x4x128 .f32 := broadcastInDim S8x2048x4x128 ![0, 1, 2, 3] bcast_S1x1x1x128_S8x2048x4x128_0_1_2_3 main_v41
  let main_v43 : FVec F S8x2048x4x128 .f32 := mulf main_v39 main_v42
  let main_v44 : FVec F S4x2048x512 .f32 := (extf .f32 · bitsLt_bf16_f32) main_arg10
  let main_v45 : FVec F S1x2048x512 .f32 := (extractStridedSlice S1x2048x512 ![3, 0, 0] · slices_S4x2048x512_S1x2048x512_3_0_0) main_v44
  let main_v46 : FVec F S2048x512 .f32 := shapeCast S2048x512 main_v45 shapeCasts_S1x2048x512_S2048x512
  let main_v47 : FVec F S8x256x4x128 .f32 := shapeCast S8x256x4x128 main_v46 shapeCasts_S2048x512_S8x256x4x128
  let main_v48 : FVec F S8x4x2048x256 .f32 := (fun l r => Host.dotGeneral dot_S8x2048x4x128_S8x256x4x128_S8x4x2048x256_3_3_1_1_02_02 none l r) main_v43 main_v47
  let main_cst_5 : FVec F S_ .f32 := constant S_ .f32 0x3DB504F3#32
  let main_v49 : FVec F S8x4x2048x256 .f32 := broadcastInDim S8x4x2048x256 ![] bcast_S_S8x4x2048x256 main_cst_5
  let main_v50 : FVec F S8x4x2048x256 .f32 := mulf main_v48 main_v49
  let main_cst_6 : FVec F S_ .f32 := constant S_ .f32 0xFF800000#32
  let main_v51 : FVec F S8x4x2048 .f32 := (fun x v => Host.reduce FloatOps.maximumf x v reducesTo_S8x4x2048x256_S8x4x2048_d3 h_S_) main_v50 main_cst_6
  let main_v52 : FVec F S8x4x2048 .f32 := Host.absf main_v51
  let main_cst_7 : FVec F S_ .f32 := constant S_ .f32 0x7F800000#32
  let main_v53 : FVec F S8x4x2048 .f32 := broadcastInDim S8x4x2048 ![] bcast_S_S8x4x2048 main_cst_7
  let main_v54 : IVec S8x4x2048 1 := cmpf .olt main_v52 main_v53
  main_v54

def fn_part1 {F : FTy → Type} [FloatOps F] (main_arg7 : FVec F S1x1024 .f32) (main_arg8 : FVec F S1024x512 .bf16) (main_arg9 : FVec F S1x128 .f32) (main_arg10 : FVec F S4x2048x512 .bf16) (main_v14 : FVec F S16384x1024 .f32) (main_v19 : FVec F S16384x1 .f32) (main_v20 : FVec F S16384x1 .f32) : IVec S8x4x2048 1 :=
  let main_v21 : FVec F S16384x1 .f32 := addf main_v19 main_v20
  let main_v22 : FVec F S16384x1 .f32 := Host.rsqrt main_v21
  let main_v23 : FVec F S16384x1024 .f32 := broadcastInDim S16384x1024 ![0, 1] bcast_S16384x1_S16384x1024_0_1 main_v22
  let main_v24 : FVec F S16384x1024 .f32 := mulf main_v14 main_v23
  let main_v25 : FVec F S16384x1024 .f32 := broadcastInDim S16384x1024 ![0, 1] bcast_S1x1024_S16384x1024_0_1 main_arg7
  let main_v26 : FVec F S16384x1024 .f32 := mulf main_v24 main_v25
  let main_v27 : FVec F S1024x512 .f32 := (extf .f32 · bitsLt_bf16_f32) main_arg8
  let main_v28 : FVec F S16384x512 .f32 := (fun l r => Host.dotGeneral dot_S16384x1024_S1024x512_S16384x512_1_0_0_1_n_n none l r) main_v26 main_v27
  let main_v29 : FVec F S8x2048x4x128 .f32 := shapeCast S8x2048x4x128 main_v28 shapeCasts_S16384x512_S8x2048x4x128
  let main_v30 : FVec F S8x2048x4x128 .f32 := mulf main_v29 main_v29
  let main_cst_2 : FVec F S_ .f32 := constant S_ .f32 0x00000000#32
  let main_v31 : FVec F S8x2048x4 .f32 := (fun x v => Host.reduceAdd x v reducesTo_S8x2048x4x128_S8x2048x4_d3 h_S_) main_v30 main_cst_2
  let main_v32 : FVec F S8x2048x4x1 .f32 := broadcastInDim S8x2048x4x1 ![0, 1, 2] bcast_S8x2048x4_S8x2048x4x1_0_1_2 main_v31
  let main_cst_3 : FVec F S_ .f32 := constant S_ .f32 0x43000000#32
  let main_v33 : FVec F S8x2048x4x1 .f32 := broadcastInDim S8x2048x4x1 ![] bcast_S_S8x2048x4x1 main_cst_3
  let main_v34 : FVec F S8x2048x4x1 .f32 := Host.divf main_v32 main_v33
  let main_cst_4 : FVec F S_ .f32 := constant S_ .f32 0x358637BD#32
  let main_v35 : FVec F S8x2048x4x1 .f32 := broadcastInDim S8x2048x4x1 ![] bcast_S_S8x2048x4x1 main_cst_4
  let main_v36 : FVec F S8x2048x4x1 .f32 := addf main_v34 main_v35
  let main_v37 : FVec F S8x2048x4x1 .f32 := Host.rsqrt main_v36
  let main_v38 : FVec F S8x2048x4x128 .f32 := broadcastInDim S8x2048x4x128 ![0, 1, 2, 3] bcast_S8x2048x4x1_S8x2048x4x128_0_1_2_3 main_v37
  let main_v39 : FVec F S8x2048x4x128 .f32 := mulf main_v29 main_v38
  let main_v40 : FVec F S128 .f32 := shapeCast S128 main_arg9 shapeCasts_S1x128_S128
  let main_v41 : FVec F S1x1x1x128 .f32 := broadcastInDim S1x1x1x128 ![3] bcast_S128_S1x1x1x128_3 main_v40
  fn_part2 (F := F) main_arg10 main_v39 main_v41

def fn {F : FTy → Type} [FloatOps F] (main_arg0 : FVec F S16384x512 .bf16) (main_arg1 : FVec F S16384x512 .bf16) (main_arg2 : FVec F S16384x2048 .bf16) (main_arg3 : FVec F S16384x1024 .f32) (main_arg4 : FVec F S512x1024 .bf16) (main_arg5 : FVec F S512x1024 .bf16) (main_arg6 : FVec F S1024x1024 .bf16) (main_arg7 : FVec F S1x1024 .f32) (main_arg8 : FVec F S1024x512 .bf16) (main_arg9 : FVec F S1x128 .f32) (main_arg10 : FVec F S4x2048x512 .bf16) (main_arg11 : FVec F S4x2048x512 .bf16) (main_arg12 : FVec F S512x1024 .bf16) (main_arg13 : FVec F S4x1024x5632 .f32) (main_arg14 : FVec F S4x2816x1024 .f32) : IVec S8x4x2048 1 :=
  let main_v0 : FVec F S16384x2048 .f32 := (extf .f32 · bitsLt_bf16_f32) main_arg2
  let main_v1 : FVec F S16384x1024 .f32 := (extractStridedSlice S16384x1024 ![0, 0] · slices_S16384x2048_S16384x1024_0_0) main_v0
  let main_v2 : FVec F S16384x512 .f32 := (extf .f32 · bitsLt_bf16_f32) main_arg0
  let main_v3 : FVec F S512x1024 .f32 := (extf .f32 · bitsLt_bf16_f32) main_arg4
  let main_v4 : FVec F S16384x1024 .f32 := (fun l r => Host.dotGeneral dot_S16384x512_S512x1024_S16384x1024_1_0_0_1_n_n none l r) main_v2 main_v3
  let main_v5 : FVec F S16384x1024 .f32 := mulf main_v1 main_v4
  let main_v6 : FVec F S16384x1024 .f32 := (extractStridedSlice S16384x1024 ![0, 1024] · slices_S16384x2048_S16384x1024_0_1024) main_v0
  let main_v7 : FVec F S16384x512 .f32 := (extf .f32 · bitsLt_bf16_f32) main_arg1
  let main_v8 : FVec F S512x1024 .f32 := (extf .f32 · bitsLt_bf16_f32) main_arg5
  let main_v9 : FVec F S16384x1024 .f32 := (fun l r => Host.dotGeneral dot_S16384x512_S512x1024_S16384x1024_1_0_0_1_n_n none l r) main_v7 main_v8
  let main_v10 : FVec F S16384x1024 .f32 := mulf main_v6 main_v9
  let main_v11 : FVec F S16384x1024 .f32 := addf main_v5 main_v10
  let main_v12 : FVec F S1024x1024 .f32 := (extf .f32 · bitsLt_bf16_f32) main_arg6
  let main_v13 : FVec F S16384x1024 .f32 := (fun l r => Host.dotGeneral dot_S16384x1024_S1024x1024_S16384x1024_1_0_0_1_n_n none l r) main_v11 main_v12
  let main_v14 : FVec F S16384x1024 .f32 := addf main_arg3 main_v13
  let main_v15 : FVec F S16384x1024 .f32 := mulf main_v14 main_v14
  let main_cst : FVec F S_ .f32 := constant S_ .f32 0x00000000#32
  let main_v16 : FVec F S16384 .f32 := (fun x v => Host.reduceAdd x v reducesTo_S16384x1024_S16384_d1 h_S_) main_v15 main_cst
  let main_v17 : FVec F S16384x1 .f32 := broadcastInDim S16384x1 ![0] bcast_S16384_S16384x1_0 main_v16
  let main_cst_0 : FVec F S_ .f32 := constant S_ .f32 0x44800000#32
  let main_v18 : FVec F S16384x1 .f32 := broadcastInDim S16384x1 ![] bcast_S_S16384x1 main_cst_0
  let main_v19 : FVec F S16384x1 .f32 := Host.divf main_v17 main_v18
  let main_cst_1 : FVec F S_ .f32 := constant S_ .f32 0x358637BD#32
  let main_v20 : FVec F S16384x1 .f32 := broadcastInDim S16384x1 ![] bcast_S_S16384x1 main_cst_1
  fn_part1 (F := F) main_arg7 main_arg8 main_arg9 main_arg10 main_v14 main_v19 main_v20
-- ==== Pre_finite_scores.lean ====
abbrev S16384x1536 : Shape := ⟨2, ![16384, 1536]⟩
abbrev S16384x512 : Shape := ⟨2, ![16384, 512]⟩
abbrev S_ : Shape := ⟨0, ![]⟩

class Facts : Prop where
  slices_S16384x1536_S16384x512_0_0 : S16384x1536.Slices ![0, 0] S16384x512
  bcast_S_S16384x512 : S_.BroadcastsInDim S16384x512 (![] : Fin 0 → Fin S16384x512.rank)
  slices_S16384x1536_S16384x512_0_512 : S16384x1536.Slices ![0, 512] S16384x512

variable [Facts]

def fn {F : FTy → Type} [FloatOps F] (main_arg0 : FVec F S16384x1536 .bf16) (main_arg1 : FVec F S16384x512 .bf16) (main_arg2 : FVec F S16384x512 .bf16) : IVec S16384x512 1 :=
  let main_v0 : FVec F S16384x512 .bf16 := (extractStridedSlice S16384x512 ![0, 0] · slices_S16384x1536_S16384x512_0_0) main_arg0
  let main_v1 : FVec F S16384x512 .bf16 := Host.absf main_v0
  let main_cst : FVec F S_ .bf16 := constant S_ .bf16 0x7F80#16
  let main_v2 : FVec F S16384x512 .bf16 := broadcastInDim S16384x512 ![] bcast_S_S16384x512 main_cst
  let main_v3 : IVec S16384x512 1 := cmpf .olt main_v1 main_v2
  let main_v4 : FVec F S16384x512 .bf16 := (extractStridedSlice S16384x512 ![0, 512] · slices_S16384x1536_S16384x512_0_512) main_arg0
  let main_v5 : FVec F S16384x512 .bf16 := Host.absf main_v4
  let main_cst_0 : FVec F S_ .bf16 := constant S_ .bf16 0x7F80#16
  let main_v6 : FVec F S16384x512 .bf16 := broadcastInDim S16384x512 ![] bcast_S_S16384x512 main_cst_0
  let main_v7 : IVec S16384x512 1 := cmpf .olt main_v5 main_v6
  let main_v8 : IVec S16384x512 1 := andi main_v3 main_v7
  let main_v9 : FVec F S16384x512 .bf16 := Host.absf main_arg1
  let main_cst_1 : FVec F S_ .bf16 := constant S_ .bf16 0x7F80#16
  let main_v10 : FVec F S16384x512 .bf16 := broadcastInDim S16384x512 ![] bcast_S_S16384x512 main_cst_1
  let main_v11 : IVec S16384x512 1 := cmpf .olt main_v9 main_v10
  let main_v12 : IVec S16384x512 1 := andi main_v8 main_v11
  let main_v13 : FVec F S16384x512 .bf16 := Host.absf main_arg2
  let main_cst_2 : FVec F S_ .bf16 := constant S_ .bf16 0x7F80#16
  let main_v14 : FVec F S16384x512 .bf16 := broadcastInDim S16384x512 ![] bcast_S_S16384x512 main_cst_2
  let main_v15 : IVec S16384x512 1 := cmpf .olt main_v13 main_v14
  let main_v16 : IVec S16384x512 1 := andi main_v12 main_v15
  main_v16
-- ==== Fox.lean ====
abbrev S16384x1536 : Shape := ⟨2, ![16384, 1536]⟩
abbrev S16384x512 : Shape := ⟨2, ![16384, 512]⟩
abbrev S2048x256 : Shape := ⟨2, ![2048, 256]⟩
abbrev S1x128 : Shape := ⟨2, ![1, 128]⟩
abbrev S512x128 : Shape := ⟨2, ![512, 128]⟩
abbrev S512x1 : Shape := ⟨2, ![512, 1]⟩
abbrev S512x256 : Shape := ⟨2, ![512, 256]⟩
abbrev S512x512 : Shape := ⟨2, ![512, 512]⟩
abbrev S512 : Shape := ⟨1, ![512]⟩

abbrev nBuf : Space → Nat
  | .hbm => 4
  | .vmem => 12
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S16384x512, .bf16⟩
  | .hbm, ⟨3, _⟩ => ⟨S16384x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S16384x1536 : Shape := ⟨2, ![16384, 1536]⟩
abbrev S16384x512 : Shape := ⟨2, ![16384, 512]⟩
abbrev S8x2048x3x8x64 : Shape := ⟨5, ![8, 2048, 3, 8, 64]⟩
abbrev S8x2048x1x8x64 : Shape := ⟨5, ![8, 2048, 1, 8, 64]⟩
abbrev S8x2048x8x64 : Shape := ⟨4, ![8, 2048, 8, 64]⟩
abbrev S8x2048x4x2x64 : Shape := ⟨5, ![8, 2048, 4, 2, 64]⟩
abbrev S8x8x2048x2048 : Shape := ⟨4, ![8, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 51
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S16384x512, .bf16⟩
  | .hbm, ⟨3, _⟩ => ⟨S16384x1536, .f32⟩
  | .hbm, ⟨4, _⟩ => ⟨S8x2048x3x8x64, .f32⟩
  | .hbm, ⟨5, _⟩ => ⟨S8x2048x1x8x64, .f32⟩
  | .hbm, ⟨6, _⟩ => ⟨S8x2048x8x64, .f32⟩
  | .hbm, ⟨7, _⟩ => ⟨S8x2048x1x8x64, .f32⟩
  | .hbm, ⟨8, _⟩ => ⟨S8x2048x8x64, .f32⟩
  | .hbm, ⟨9, _⟩ => ⟨S8x2048x1x8x64, .f32⟩
  | .hbm, ⟨10, _⟩ => ⟨S8x2048x8x64, .f32⟩
  | .hbm, ⟨11, _⟩ => ⟨S16384x512, .f32⟩
  | .hbm, ⟨12, _⟩ => ⟨S8x2048x4x2x64, .f32⟩
  | .hbm, ⟨13, _⟩ => ⟨S8x2048x4x2x64, .f32⟩
  | .hbm, ⟨14, _⟩ => ⟨S8x2048x8x64, .f32⟩
  | .hbm, ⟨15, _⟩ => ⟨S16384x512, .f32⟩
  | .hbm, ⟨16, _⟩ => ⟨S8x2048x4x2x64, .f32⟩
  | .hbm, ⟨17, _⟩ => ⟨S8x2048x4x2x64, .f32⟩
  | .hbm, ⟨18, _⟩ => ⟨S8x2048x8x64, .f32⟩
  | .hbm, ⟨19, _⟩ => ⟨S8x8x2048x2048, .f32⟩
  | .hbm, ⟨20, _⟩ => ⟨S8x8x2048x2048, .f32⟩
  | .hbm, ⟨21, _⟩ => ⟨S8x8x2048x2048, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S8x8x2048x2048, .i1⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S8x8x2048, .f32⟩
  | .hbm, ⟨36, _⟩ => ⟨S8x8x2048x1, .f32⟩
  | .hbm, ⟨37, _⟩ => ⟨S8x8x2048x2048, .f32⟩
  | .hbm, ⟨38, _⟩ => ⟨S8x8x2048x2048, .f32⟩
  | .hbm, ⟨39, _⟩ => ⟨S_, .f32⟩
  | .hbm, ⟨40, _⟩ => ⟨S8x8x2048x2048, .f32⟩
  | .hbm, ⟨41, _⟩ => ⟨S8x8x2048x2048, .f32⟩
  | .hbm, ⟨42, _⟩ => ⟨S_, .f32⟩
  | .hbm, ⟨43, _⟩ => ⟨S8x8x2048, .f32⟩
  | .hbm, ⟨44, _⟩ => ⟨S8x8x2048x1, .f32⟩
  | .hbm, ⟨45, _⟩ => ⟨S8x8x2048x2048, .f32⟩
  | .hbm, ⟨46, _⟩ => ⟨S8x8x2048x2048, .f32⟩
  | .hbm, ⟨47, _⟩ => ⟨S8x8x64x2048, .f32⟩
  | .hbm, ⟨48, _⟩ => ⟨S8x2048x8x64, .f32⟩
  | .hbm, ⟨49, _⟩ => ⟨S16384x512, .f32⟩
  | .hbm, ⟨50, _⟩ => ⟨S16384x512, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S1024x2816 : Shape := ⟨2, ![1024, 2816]⟩
abbrev S1024 : Shape := ⟨1, ![1024]⟩
abbrev S1024x1 : Shape := ⟨2, ![1024, 1]⟩
abbrev S1024x256 : Shape := ⟨2, ![1024, 256]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1024x5632, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S2816x1024, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Inp.lean ====
abbrev S16384x1024 : Shape := ⟨2, ![16384, 1024]⟩
abbrev S1x1024 : Shape := ⟨2, ![1, 1024]⟩
abbrev S1536x1024 : Shape := ⟨2, ![1536, 1024]⟩
abbrev S3584x1024 : Shape := ⟨2, ![3584, 1024]⟩
abbrev S128x1024 : Shape := ⟨2, ![128, 1024]⟩
abbrev S1x128 : Shape := ⟨2, ![1, 128]⟩
abbrev S1x512 : Shape := ⟨2, ![1, 512]⟩
abbrev S3x512 : Shape := ⟨2, ![3, 512]⟩
abbrev S16384x1536 : Shape := ⟨2, ![16384, 1536]⟩
abbrev S16384x128 : Shape := ⟨2, ![16384, 128]⟩
abbrev S16384x512 : Shape := ⟨2, ![16384, 512]⟩
abbrev S16384x2048 : Shape := ⟨2, ![16384, 2048]⟩
abbrev S1024x1024 : Shape := ⟨2, ![1024, 1024]⟩
abbrev S1024x1536 : Shape := ⟨2, ![1024, 1536]⟩
abbrev S1024x128 : Shape := ⟨2, ![1024, 128]⟩
abbrev S1024x512 : Shape := ⟨2, ![1024, 512]⟩
abbrev S1024x2048 : Shape := ⟨2, ![1024, 2048]⟩
abbrev S16x512 : Shape := ⟨2, ![16, 512]⟩
abbrev S1024 : Shape := ⟨1, ![1024]⟩
abbrev S1024x1 : Shape := ⟨2, ![1024, 1]⟩
abbrev S512x1024 : Shape := ⟨2, ![512, 1024]⟩
abbrev S16x128 : Shape := ⟨2, ![16, 128]⟩
abbrev S256x1024 : Shape := ⟨2, ![256, 1024]⟩
abbrev S1024x256 : Shape := ⟨2, ![1024, 256]⟩
abbrev S1008x128 : Shape := ⟨2, ![1008, 128]⟩

abbrev nBuf : Space → Nat
  | .hbm => 13
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1536x1024, .bf16⟩
  | .hbm, ⟨3, _⟩ => ⟨S3584x1024, .bf16⟩
  | .hbm, ⟨4, _⟩ => ⟨S128x1024, .bf16⟩
  | .hbm, ⟨5, _⟩ => ⟨S1x128, .f32⟩
  | .hbm, ⟨6, _⟩ => ⟨S1x512, .f32⟩
  | .hbm, ⟨7, _⟩ => ⟨S1x512, .f32⟩
  | .hbm, ⟨8, _⟩ => ⟨S3x512, .f32⟩
  | .hbm, ⟨9, _⟩ => ⟨S16384x1536, .bf16⟩
  | .hbm, ⟨10, _⟩ => ⟨S16384x128, .f32⟩
  | .hbm, ⟨11, _⟩ => ⟨S16384x512, .bf16⟩
  | .hbm, ⟨12, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1536x1024, .bf16⟩
  | .local _ .vmem, ⟨4, _⟩ => ⟨S3584x1024, .bf16⟩
  | .local _ .vmem, ⟨5, _⟩ => ⟨S128x1024, .bf16⟩
  | .local _ .vmem, ⟨6, _⟩ => ⟨S1x128, .f32⟩
  | .local _ .vmem, ⟨7, _⟩ => ⟨S1x512, .f32⟩
  | .local _ .vmem, ⟨8, _⟩ => ⟨S1x512, .f32⟩
  | .local _ .vmem, ⟨9, _⟩ => ⟨S3x512, .f32⟩
  | .local _ .vmem, ⟨10, _⟩ => ⟨S1024x1536, .bf16⟩
  | .local _ .vmem, ⟨11, _⟩ => ⟨S1024x1536, .bf16⟩
  | .local _ .vmem, ⟨12, _⟩ => ⟨S1024x128, .f32⟩
  | .local _ .vmem, ⟨13, _⟩ => ⟨S1024x128, .f32⟩
  | .local _ .vmem, ⟨14, _⟩ => ⟨S1024x512, .bf16⟩
  | .local _ .vmem, ⟨15, _⟩ => ⟨S1024x512, .bf16⟩
  | .local _ .vmem, ⟨16, _⟩ => ⟨S1024x2048, .bf16⟩
  | .local _ .vmem, ⟨17, _⟩ => ⟨S1024x2048, .bf16⟩
  | .local _ .vmem, ⟨18, _⟩ => ⟨S16x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InpRefIdeal.lean ====
abbrev S16384x1024 : Shape := ⟨2, ![16384, 1024]⟩
abbrev S1x1024 : Shape := ⟨2, ![1, 1024]⟩
abbrev S1536x1024 : Shape := ⟨2, ![1536, 1024]⟩
abbrev S3584x1024 : Shape := ⟨2, ![3584, 1024]⟩
abbrev S128x1024 : Shape := ⟨2, ![128, 1024]⟩
abbrev S1x128 : Shape := ⟨2, ![1, 128]⟩
abbrev S1x512 : Shape := ⟨2, ![1, 512]⟩
abbrev S3x512 : Shape := ⟨2, ![3, 512]⟩
abbrev S_ : Shape := ⟨0, ![]⟩
abbrev S16384 : Shape := ⟨1, ![16384]⟩
abbrev S16384x1 : Shape := ⟨2, ![16384, 1]⟩
abbrev S1024x1536 : Shape := ⟨2, ![1024, 1536]⟩
abbrev S16384x1536 : Shape := ⟨2, ![16384, 1536]⟩
abbrev S1024x3584 : Shape := ⟨2, ![1024, 3584]⟩
abbrev S16384x3584 : Shape := ⟨2, ![16384, 3584]⟩
abbrev S16384x512 : Shape := ⟨2, ![16384, 512]⟩
abbrev S16384x8x64 : Shape := ⟨3, ![16384, 8, 64]⟩
abbrev S16384x8 : Shape := ⟨2, ![16384, 8]⟩
abbrev S16384x8x1 : Shape := ⟨3, ![16384, 8, 1]⟩
abbrev S1024x128 : Shape := ⟨2, ![1024, 128]⟩
abbrev S16384x128 : Shape := ⟨2, ![16384, 128]⟩
abbrev S8x2048x512 : Shape := ⟨3, ![8, 2048, 512]⟩
abbrev S8x2050x512 : Shape := ⟨3, ![8, 2050, 512]⟩
abbrev S512 : Shape := ⟨1, ![512]⟩
abbrev S1x1x512 : Shape := ⟨3, ![1, 1, 512]⟩
abbrev S16384x2048 : Shape := ⟨2, ![16384, 2048]⟩

abbrev nBuf : Space → Nat
  | .hbm => 131
  | .vmem => 0
  | .smem => 0
  | _ => 0

abbrev hbmTy0_0 (i : Nat) : BufTy := match i % 128 with
  | 0 => ⟨S16384x1024, .f32⟩
  | 1 => ⟨S1x1024, .f32⟩
  | 2 => ⟨S1536x1024, .bf16⟩
  | 3 => ⟨S3584x1024, .bf16⟩
  | 4 => ⟨S128x1024, .bf16⟩
  | 5 => ⟨S1x128, .f32⟩
  | 6 => ⟨S1x512, .f32⟩
  | 7 => ⟨S1x512, .f32⟩
  | 8 => ⟨S3x512, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S16384x1024, .f32⟩
  | 23 => ⟨S16384x1024, .f32⟩
  | 24 => ⟨S1536x1024, .f32⟩
  | 25 => ⟨S1024x1536, .f32⟩
  | 26 => ⟨S16384x1536, .f32⟩
  | 27 => ⟨S3584x1024, .f32⟩
  | 28 => ⟨S1024x3584, .f32⟩
  | 29 => ⟨S16384x3584, .f32⟩
  | 30 => ⟨S16384x512, .f32⟩
  | 31 => ⟨S16384x8x64, .f32⟩
  | 32 => ⟨S16384x8x64, .f32⟩
  | 33 => ⟨S_, .f32⟩
  | 34 => ⟨S16384x8, .f32⟩
  | 35 => ⟨S16384x8x1, .f32⟩
  | 36 => ⟨S_, .f32⟩
  | 37 => ⟨S16384x8x1, .f32⟩
  | 38 => ⟨S16384x8x1, .f32⟩
  | 39 => ⟨S_, .f32⟩
  | 40 => ⟨S16384x8x1, .f32⟩
  | 41 => ⟨S16384x8x1, .f32⟩
  | 42 => ⟨S16384x8x1, .f32⟩
  | 43 => ⟨S16384x8x64, .f32⟩
  | 44 => ⟨S16384x8x64, .f32⟩
  | 45 => ⟨S16384x512, .f32⟩
  | 46 => ⟨S16384x512, .f32⟩
  | 47 => ⟨S16384x512, .f32⟩
  | 48 => ⟨S16384x512, .f32⟩
  | 49 => ⟨S16384x8x64, .f32⟩
  | 50 => ⟨S16384x8x64, .f32⟩
  | 51 => ⟨S_, .f32⟩
  | 52 => ⟨S16384x8, .f32⟩
  | 53 => ⟨S16384x8x1, .f32⟩
  | 54 => ⟨S_, .f32⟩
  | 55 => ⟨S16384x8x1, .f32⟩
  | 56 => ⟨S16384x8x1, .f32⟩
  | 57 => ⟨S_, .f32⟩
  | 58 => ⟨S16384x8x1, .f32⟩
  | 59 => ⟨S16384x8x1, .f32⟩
  | 60 => ⟨S16384x8x1, .f32⟩
  | 61 => ⟨S16384x8x64, .f32⟩
  | 62 => ⟨S16384x8x64, .f32⟩
  | 63 => ⟨S16384x512, .f32⟩
  | 64 => ⟨S16384x512, .f32⟩
  | 65 => ⟨S16384x512, .f32⟩
  | 66 => ⟨S16384x512, .f32⟩
  | 67 => ⟨S16384x1536, .f32⟩
  | 68 => ⟨S128x1024, .f32⟩
  | 69 => ⟨S1024x128, .f32⟩
  | 70 => ⟨S16384x128, .f32⟩
  | 71 => ⟨S16384x128, .f32⟩
  | 72 => ⟨S16384x128, .f32⟩
  | 73 => ⟨S16384x128, .f32⟩
  | 74 => ⟨S_, .f32⟩
  | 75 => ⟨S16384x128, .f32⟩
  | 76 => ⟨S16384x128, .f32⟩
  | 77 => ⟨S16384x128, .f32⟩
  | 78 => ⟨S16384x128, .f32⟩
  | 79 => ⟨S16384x128, .i1⟩
  | 80 => ⟨S16384x128, .f32⟩
  | 81 => ⟨S16384x128, .f32⟩
  | 82 => ⟨S16384x128, .f32⟩
  | 83 => ⟨S16384x128, .f32⟩
  | 84 => ⟨S16384x128, .f32⟩
  | 85 => ⟨S16384x128, .f32⟩
  | 86 => ⟨S16384x128, .f32⟩
  | 87 => ⟨S16384x128, .f32⟩
  | 88 => ⟨S16384x128, .f32⟩
  | 89 => ⟨S16384x512, .f32⟩
  | 90 => ⟨S16384x512, .f32⟩
  | 91 => ⟨S16384x512, .f32⟩
  | 92 => ⟨S16384x512, .f32⟩
  | 93 => ⟨S8x2048x512, .f32⟩
  | 94 => ⟨S_, .i32⟩
  | 95 => ⟨S_, .f32⟩
  | 96 => ⟨S8x2050x512, .f32⟩
  | 97 => ⟨S1x512, .f32⟩
  | 98 => ⟨S512, .f32⟩
  | 99 => ⟨S8x2048x512, .f32⟩
  | 100 => ⟨S1x1x512, .f32⟩
  | 101 => ⟨S8x2048x512, .f32⟩
  | 102 => ⟨S8x2048x512, .f32⟩
  | 103 => ⟨S1x512, .f32⟩
  | 104 => ⟨S512, .f32⟩
  | 105 => ⟨S8x2048x512, .f32⟩
  | 106 => ⟨S1x1x512, .f32⟩
  | 107 => ⟨S8x2048x512, .f32⟩
  | 108 => ⟨S8x2048x512, .f32⟩
  | 109 => ⟨S8x2048x512, .f32⟩
  | 110 => ⟨S1x512, .f32⟩
  | 111 => ⟨S512, .f32⟩
  | 112 => ⟨S8x2048x512, .f32⟩
  | 113 => ⟨S1x1x512, .f32⟩
  | 114 => ⟨S8x2048x512, .f32⟩
  | 115 => ⟨S8x2048x512, .f32⟩
  | 116 => ⟨S8x2048x512, .f32⟩
  | 117 => ⟨S16384x1536, .bf16⟩
  | 118 => ⟨S16384x512, .f32⟩
  | 119 => ⟨S16384x512, .f32⟩
  | 120 => ⟨S16384x512, .bf16⟩
  | 121 => ⟨S16384x2048, .f32⟩
  | 122 => ⟨S16384x2048, .f32⟩
  | 123 => ⟨S16384x2048, .f32⟩
  | 124 => ⟨S_, .f32⟩
  | 125 => ⟨S16384x2048, .f32⟩
  | 126 => ⟨S16384x2048, .f32⟩
  | 127 => ⟨S_, .f32⟩
  | _ => ⟨S16384x1024, .f32⟩

abbrev hbmTy0_1 (i : Nat) : BufTy := match i % 128 with
  | 0 => ⟨S16384x2048, .f32⟩
  | 1 => ⟨S16384x2048, .f32⟩
  | 2 => ⟨S16384x2048, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call0_v0 : Ref sig .tc := ⟨.hbm, 73, rfl⟩
abbrev main_call0_call0_cst : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_call0_v2 : Ref sig .tc := ⟨.hbm, 77, rfl⟩
abbrev main_call0_call0_v3 : Ref sig .tc := ⟨.hbm, 78, rfl⟩
abbrev main_call0_call0_v4 : Ref sig .tc := ⟨.hbm, 79, rfl⟩
abbrev main_call0_call0_v5 : Ref sig .tc := ⟨.hbm, 80, rfl⟩
abbrev main_call0_call0_v6 : Ref sig .tc := ⟨.hbm, 81, rfl⟩
abbrev main_call0_call0_v7 : Ref sig .tc := ⟨.hbm, 82, rfl⟩
abbrev main_call0_call0_v8 : Ref sig .tc := ⟨.hbm, 83, rfl⟩
abbrev main_call0_call0_v9 : Ref sig .tc := ⟨.hbm, 84, rfl⟩
abbrev main_call0_call0_v10 : Ref sig .tc := ⟨.hbm, 85, rfl⟩
abbrev main_call0_call0_v11 : Ref sig .tc := ⟨.hbm, 86, rfl⟩
abbrev main_call0_v1 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c : Ref sig .tc := ⟨.hbm, 94, rfl⟩
abbrev main_call1_v0 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_8 : Ref sig .tc := ⟨.hbm, 124, rfl⟩
abbrev main_v89 : Ref sig .tc := ⟨.hbm, 125, rfl⟩
abbrev main_v90 : Ref sig .tc := ⟨.hbm, 126, rfl⟩
abbrev main_cst_9 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]
-- ==== Post.lean ====
abbrev S16384x512 : Shape := ⟨2, ![16384, 512]⟩
abbrev S16384x2048 : Shape := ⟨2, ![16384, 2048]⟩
abbrev S16384x1024 : Shape := ⟨2, ![16384, 1024]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S1x128 : Shape := ⟨2, ![1, 128]⟩
abbrev S4x2048x512 : Shape := ⟨3, ![4, 2048, 512]⟩
abbrev S4x1024x5632 : Shape := ⟨3, ![4, 1024, 5632]⟩
abbrev S4x2816x1024 : Shape := ⟨3, ![4, 2816, 1024]⟩
abbrev S1024x5632 : Shape := ⟨2, ![1024, 5632]⟩
abbrev S2816x1024 : Shape := ⟨2, ![2816, 1024]⟩
abbrev S1024x2048 : Shape := ⟨2, ![1024, 2048]⟩
abbrev S1x256x512 : Shape := ⟨3, ![1, 256, 512]⟩
abbrev S1x64x5632 : Shape := ⟨3, ![1, 64, 5632]⟩
abbrev S1x176x1024 : Shape := ⟨3, ![1, 176, 1024]⟩
abbrev S64x5632 : Shape := ⟨2, ![64, 5632]⟩
abbrev S176x1024 : Shape := ⟨2, ![176, 1024]⟩
abbrev S512x256 : Shape := ⟨2, ![512, 256]⟩
abbrev S1024x256 : Shape := ⟨2, ![1024, 256]⟩
abbrev S1024 : Shape := ⟨1, ![1024]⟩
abbrev S1024x1 : Shape := ⟨2, ![1024, 1]⟩
abbrev S1024x128 : Shape := ⟨2, ![1024, 128]⟩
abbrev S1x256x128 : Shape := ⟨3, ![1, 256, 128]⟩
abbrev S256x128 : Shape := ⟨2, ![256, 128]⟩

abbrev nBuf : Space → Nat
  | .hbm => 18
  | .vmem => 30
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x2048, .bf16⟩
  | .hbm, ⟨3, _⟩ => ⟨S16384x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S1024x512, .bf16⟩
  | .hbm, ⟨9, _⟩ => ⟨S1x128, .f32⟩
  | .hbm, ⟨10, _⟩ => ⟨S4x2048x512, .bf16⟩
  | .hbm, ⟨11, _⟩ => ⟨S4x2048x512, .bf16⟩
  | .hbm, ⟨12, _⟩ => ⟨S512x1024, .bf16⟩
  | .hbm, ⟨13, _⟩ => ⟨S4x1024x5632, .f32⟩
  | .hbm, ⟨14, _⟩ => ⟨S4x2816x1024, .f32⟩
  | .hbm, ⟨15, _⟩ => ⟨S16384x1024, .f32⟩
  | .hbm, ⟨16, _⟩ => ⟨S1024x5632, .bf16⟩
  | .hbm, ⟨17, _⟩ => ⟨S2816x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x512, .bf16⟩
  | .local _ .vmem, ⟨13, _⟩ => ⟨S1x128, .f32⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S512x1024, .bf16⟩
  | .local _ .vmem, ⟨19, _⟩ => ⟨S1x64x5632, .f32⟩
  | .local _ .vmem, ⟨20, _⟩ => ⟨S1x64x5632, .f32⟩
  | .local _ .vmem, ⟨21, _⟩ => ⟨S1x176x1024, .f32⟩
  | .local _ .vmem, ⟨22, _⟩ => ⟨S1x176x1024, .f32⟩
  | .local _ .vmem, ⟨23, _⟩ => ⟨S1024x1024, .f32⟩
  | .local _ .vmem, ⟨24, _⟩ => ⟨S1024x1024, .f32⟩
  | .local _ .vmem, ⟨25, _⟩ => ⟨S64x5632, .bf16⟩
  | .local _ .vmem, ⟨26, _⟩ => ⟨S64x5632, .bf16⟩
  | .local _ .vmem, ⟨27, _⟩ => ⟨S176x1024, .bf16⟩
  | .local _ .vmem, ⟨28, _⟩ => ⟨S176x1024, .bf16⟩
  | .local _ .vmem, ⟨29, _⟩ => ⟨S1024x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c0_i32 : BitVec 32 := 0#32
  let c64_i32 : BitVec 32 := 64#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v2 : BitVec 32 := Scalar.muli c64_i32 v1
  let v3 : BitVec 32 := Scalar.addi c0_i32 v2
  v3
def k0_mult2 (i : grid0.Coords) : BitVec 32 :=
  let c0_i32 : BitVec 32 := 0#32
  let c176_i32 : BitVec 32 := 176#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v2 : BitVec 32 := Scalar.muli c176_i32 v1
  let v3 : BitVec 32 := Scalar.addi c0_i32 v2
  v3
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c64_i32 : BitVec 32 := 64#32
  let v2 : BitVec 32 := Scalar.muli c64_i32 v1
  let c0_i32 : BitVec 32 := 0#32
  let v3 : BitVec 32 := Scalar.addi c0_i32 v2
  let v4 : BitVec 32 := v3
  let c3_i32 : BitVec 32 := 3#32
  let c0_i32_0 : BitVec 32 := 0#32
  let c0_i32_1 : BitVec 32 := 0#32
  ![c3_i32.toNat, v4.toNat, c0_i32_0.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c176_i32 : BitVec 32 := 176#32
  let v2 : BitVec 32 := Scalar.muli c176_i32 v1
  let c0_i32 : BitVec 32 := 0#32
  let v3 : BitVec 32 := Scalar.addi c0_i32 v2
  let v4 : BitVec 32 := v3
  let c3_i32 : BitVec 32 := 3#32
  let c0_i32_0 : BitVec 32 := 0#32
  let c0_i32_1 : BitVec 32 := 0#32
  ![c3_i32.toNat, v4.toNat, c0_i32_0.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x64x5632 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S176x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== PostRefIdeal.lean ====
abbrev S16384x512 : Shape := ⟨2, ![16384, 512]⟩
abbrev S16384x2048 : Shape := ⟨2, ![16384, 2048]⟩
abbrev S16384x1024 : Shape := ⟨2, ![16384, 1024]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S1x128 : Shape := ⟨2, ![1, 128]⟩
abbrev S4x2048x512 : Shape := ⟨3, ![4, 2048, 512]⟩
abbrev S4x1024x5632 : Shape := ⟨3, ![4, 1024, 5632]⟩
abbrev S4x2816x1024 : Shape := ⟨3, ![4, 2816, 1024]⟩
abbrev S_ : Shape := ⟨0, ![]⟩
abbrev S16384 : Shape := ⟨1, ![16384]⟩
abbrev S16384x1 : Shape := ⟨2, ![16384, 1]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S128 : Shape := ⟨1, ![128]⟩
abbrev S1x1x1x128 : Shape := ⟨4, ![1, 1, 1, 128]⟩
abbrev S1x2048x512 : Shape := ⟨3, ![1, 2048, 512]⟩
abbrev S2048x512 : Shape := ⟨2, ![2048, 512]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩

abbrev nBuf : Space → Nat
  | .hbm => 103
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x2048, .bf16⟩
  | .hbm, ⟨3, _⟩ => ⟨S16384x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S1024x512, .bf16⟩
  | .hbm, ⟨9, _⟩ => ⟨S1x128, .f32⟩
  | .hbm, ⟨10, _⟩ => ⟨S4x2048x512, .bf16⟩
  | .hbm, ⟨11, _⟩ => ⟨S4x2048x512, .bf16⟩
  | .hbm, ⟨12, _⟩ => ⟨S512x1024, .bf16⟩
  | .hbm, ⟨13, _⟩ => ⟨S4x1024x5632, .f32⟩
  | .hbm, ⟨14, _⟩ => ⟨S4x2816x1024, .f32⟩
  | .hbm, ⟨15, _⟩ => ⟨S16384x2048, .f32⟩
  | .hbm, ⟨16, _⟩ => ⟨S16384x1024, .f32⟩
  | .hbm, ⟨17, _⟩ => ⟨S16384x512, .f32⟩
  | .hbm, ⟨18, _⟩ => ⟨S512x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x512, .f32⟩
  | .hbm, ⟨23, _⟩ => ⟨S512x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S1024x512, .f32⟩
  | .hbm, ⟨46, _⟩ => ⟨S16384x512, .f32⟩
  | .hbm, ⟨47, _⟩ => ⟨S8x2048x4x128, .f32⟩
  | .hbm, ⟨48, _⟩ => ⟨S8x2048x4x128, .f32⟩
  | .hbm, ⟨49, _⟩ => ⟨S_, .f32⟩
  | .hbm, ⟨50, _⟩ => ⟨S8x2048x4, .f32⟩
  | .hbm, ⟨51, _⟩ => ⟨S8x2048x4x1, .f32⟩
  | .hbm, ⟨52, _⟩ => ⟨S_, .f32⟩
  | .hbm, ⟨53, _⟩ => ⟨S8x2048x4x1, .f32⟩
  | .hbm, ⟨54, _⟩ => ⟨S8x2048x4x1, .f32⟩
  | .hbm, ⟨55, _⟩ => ⟨S_, .f32⟩
  | .hbm, ⟨56, _⟩ => ⟨S8x2048x4x1, .f32⟩
  | .hbm, ⟨57, _⟩ => ⟨S8x2048x4x1, .f32⟩
  | .hbm, ⟨58, _⟩ => ⟨S8x2048x4x1, .f32⟩
  | .hbm, ⟨59, _⟩ => ⟨S8x2048x4x128, .f32⟩
  | .hbm, ⟨60, _⟩ => ⟨S8x2048x4x128, .f32⟩
  | .hbm, ⟨61, _⟩ => ⟨S128, .f32⟩
  | .hbm, ⟨62, _⟩ => ⟨S1x1x1x128, .f32⟩
  | .hbm, ⟨63, _⟩ => ⟨S8x2048x4x128, .f32⟩
  | .hbm, ⟨64, _⟩ => ⟨S8x2048x4x128, .f32⟩
  | .hbm, ⟨65, _⟩ => ⟨S4x2048x512, .f32⟩
  | .hbm, ⟨66, _⟩ => ⟨S1x2048x512, .f32⟩
  | .hbm, ⟨67, _⟩ => ⟨S2048x512, .f32⟩
  | .hbm, ⟨68, _⟩ => ⟨S8x256x4x128, .f32⟩
  | .hbm, ⟨69, _⟩ => ⟨S4x2048x512, .f32⟩
  | .hbm, ⟨70, _⟩ => ⟨S1x2048x512, .f32⟩
  | .hbm, ⟨71, _⟩ => ⟨S2048x512, .f32⟩
  | .hbm, ⟨72, _⟩ => ⟨S8x256x4x128, .f32⟩
  | .hbm, ⟨73, _⟩ => ⟨S8x4x2048x256, .f32⟩
  | .hbm, ⟨74, _⟩ => ⟨S_, .f32⟩
  | .hbm, ⟨75, _⟩ => ⟨S8x4x2048x256, .f32⟩
  | .hbm, ⟨76, _⟩ => ⟨S8x4x2048x256, .f32⟩
  | .hbm, ⟨77, _⟩ => ⟨S_, .f32⟩
  | .hbm, ⟨78, _⟩ => ⟨S8x4x2048, .f32⟩
  | .hbm, ⟨79, _⟩ => ⟨S_, .f32⟩
  | .hbm, ⟨80, _⟩ => ⟨S8x4x2048, .f32⟩
  | .hbm, ⟨81, _⟩ => ⟨S8x4x2048, .f32⟩
  | .hbm, ⟨82, _⟩ => ⟨S8x4x2048x1, .f32⟩
  | .hbm, ⟨83, _⟩ => ⟨S8x4x2048x256, .f32⟩
  | .hbm, ⟨84, _⟩ => ⟨S8x4x2048x256, .f32⟩
  | .hbm, ⟨85, _⟩ => ⟨S8x4x2048x256, .f32⟩
  | .hbm, ⟨86, _⟩ => ⟨S_, .f32⟩
  | .hbm, ⟨87, _⟩ => ⟨S8x4x2048, .f32⟩
  | .hbm, ⟨88, _⟩ => ⟨S8x4x2048x1, .f32⟩
  | .hbm, ⟨89, _⟩ => ⟨S8x4x2048x256, .f32⟩
  | .hbm, ⟨90, _⟩ => ⟨S8x4x2048x256, .f32⟩
  | .hbm, ⟨91, _⟩ => ⟨S8x4x128x2048, .f32⟩
  | .hbm, ⟨92, _⟩ => ⟨S8x2048x4x128, .f32⟩
  | .hbm, ⟨93, _⟩ => ⟨S16384x512, .f32⟩
  | .hbm, ⟨94, _⟩ => ⟨S512x1024, .f32⟩
  | .hbm, ⟨95, _⟩ => ⟨S16384x1024, .f32⟩
  | .hbm, ⟨96, _⟩ => ⟨S16384x1024, .f32⟩
  | .hbm, ⟨97, _⟩ => ⟨S1x1024x5632, .f32⟩
  | .hbm, ⟨98, _⟩ => ⟨S1024x5632, .f32⟩
  | .hbm, ⟨99, _⟩ => ⟨S1024x5632, .bf16⟩
  | .hbm, ⟨100, _⟩ => ⟨S1x2816x1024, .f32⟩
  | .hbm, ⟨101, _⟩ => ⟨S2816x1024, .f32⟩
  | .hbm, ⟨102, _⟩ => ⟨S2816x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_cst_7 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== Memkv.lean ====
abbrev S8x256x1024 : Shape := ⟨3, ![8, 256, 1024]⟩
abbrev S4x1024 : Shape := ⟨2, ![4, 1024]⟩
abbrev S4x1024x1024 : Shape := ⟨3, ![4, 1024, 1024]⟩
abbrev S4x128 : Shape := ⟨2, ![4, 128]⟩
abbrev S4x5128x1024 : Shape := ⟨3, ![4, 5128, 1024]⟩
abbrev S4x512x1024 : Shape := ⟨3, ![4, 512, 1024]⟩
abbrev S4x1024x512 : Shape := ⟨3, ![4, 1024, 512]⟩
abbrev S2048x1024 : Shape := ⟨2, ![2048, 1024]⟩
abbrev S4x1x1024 : Shape := ⟨3, ![4, 1, 1024]⟩
abbrev S4x1x128 : Shape := ⟨3, ![4, 1, 128]⟩
abbrev S4x2048x512 : Shape := ⟨3, ![4, 2048, 512]⟩
abbrev S1536x1024 : Shape := ⟨2, ![1536, 1024]⟩
abbrev S3584x1024 : Shape := ⟨2, ![3584, 1024]⟩
abbrev S512x1024 : Shape := ⟨2, ![512, 1024]⟩
abbrev S1024x1024 : Shape := ⟨2, ![1024, 1024]⟩
abbrev S1024x512 : Shape := ⟨2, ![1024, 512]⟩
abbrev S1x1x1024 : Shape := ⟨3, ![1, 1, 1024]⟩
abbrev S1x1024x1024 : Shape := ⟨3, ![1, 1024, 1024]⟩
abbrev S1x1x128 : Shape := ⟨3, ![1, 1, 128]⟩
abbrev S1x192x1024 : Shape := ⟨3, ![1, 192, 1024]⟩
abbrev S1x448x1024 : Shape := ⟨3, ![1, 448, 1024]⟩
abbrev S1x64x1024 : Shape := ⟨3, ![1, 64, 1024]⟩
abbrev S1x128x1024 : Shape := ⟨3, ![1, 128, 1024]⟩
abbrev S1x128x512 : Shape := ⟨3, ![1, 128, 512]⟩
abbrev S1x1024x512 : Shape := ⟨3, ![1, 1024, 512]⟩
abbrev S192x1024 : Shape := ⟨2, ![192, 1024]⟩
abbrev S448x1024 : Shape := ⟨2, ![448, 1024]⟩
abbrev S64x1024 : Shape := ⟨2, ![64, 1024]⟩
abbrev S128x1024 : Shape := ⟨2, ![128, 1024]⟩
abbrev S128x512 : Shape := ⟨2, ![128, 512]⟩
abbrev S1x1024 : Shape := ⟨2, ![1, 1024]⟩
abbrev S1024 : Shape := ⟨1, ![1024]⟩
abbrev S1024x1 : Shape := ⟨2, ![1024, 1]⟩
abbrev S1024x128 : Shape := ⟨2, ![1024, 128]⟩
abbrev S1x128 : Shape := ⟨2, ![1, 128]⟩
abbrev S1x1024x128 : Shape := ⟨3, ![1, 1024, 128]⟩

abbrev nBuf : Space → Nat
  | .hbm => 22
  | .vmem => 40
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x1024, .f32⟩
  | .hbm, ⟨3, _⟩ => ⟨S4x128, .f32⟩
  | .hbm, ⟨4, _⟩ => ⟨S4x5128x1024, .f32⟩
  | .hbm, ⟨5, _⟩ => ⟨S4x512x1024, .f32⟩
  | .hbm, ⟨6, _⟩ => ⟨S4x512x1024, .f32⟩
  | .hbm, ⟨7, _⟩ => ⟨S4x1024x1024, .f32⟩
  | .hbm, ⟨8, _⟩ => ⟨S4x1024x512, .f32⟩
  | .hbm, ⟨9, _⟩ => ⟨S4x512x1024, .f32⟩
  | .hbm, ⟨10, _⟩ => ⟨S2048x1024, .f32⟩
  | .hbm, ⟨11, _⟩ => ⟨S4x1x1024, .f32⟩
  | .hbm, ⟨12, _⟩ => ⟨S4x1x128, .f32⟩
  | .hbm, ⟨13, _⟩ => ⟨S4x2048x512, .bf16⟩
  | .hbm, ⟨14, _⟩ => ⟨S4x2048x512, .bf16⟩
  | .hbm, ⟨15, _⟩ => ⟨S1536x1024, .bf16⟩
  | .hbm, ⟨16, _⟩ => ⟨S3584x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1024x512, .bf16⟩
  | .hbm, ⟨21, _⟩ => ⟨S512x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x128, .f32⟩
  | .local _ .vmem, ⟨7, _⟩ => ⟨S1x1x128, .f32⟩
  | .local _ .vmem, ⟨8, _⟩ => ⟨S1x192x1024, .f32⟩
  | .local _ .vmem, ⟨9, _⟩ => ⟨S1x192x1024, .f32⟩
  | .local _ .vmem, ⟨10, _⟩ => ⟨S1x448x1024, .f32⟩
  | .local _ .vmem, ⟨11, _⟩ => ⟨S1x448x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x512, .f32⟩
  | .local _ .vmem, ⟨19, _⟩ => ⟨S1x128x512, .f32⟩
  | .local _ .vmem, ⟨20, _⟩ => ⟨S1x64x1024, .f32⟩
  | .local _ .vmem, ⟨21, _⟩ => ⟨S1x64x1024, .f32⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S192x1024, .bf16⟩
  | .local _ .vmem, ⟨27, _⟩ => ⟨S192x1024, .bf16⟩
  | .local _ .vmem, ⟨28, _⟩ => ⟨S448x1024, .bf16⟩
  | .local _ .vmem, ⟨29, _⟩ => ⟨S448x1024, .bf16⟩
  | .local _ .vmem, ⟨30, _⟩ => ⟨S64x1024, .bf16⟩
  | .local _ .vmem, ⟨31, _⟩ => ⟨S64x1024, .bf16⟩
  | .local _ .vmem, ⟨32, _⟩ => ⟨S64x1024, .bf16⟩
  | .local _ .vmem, ⟨33, _⟩ => ⟨S64x1024, .bf16⟩
  | .local _ .vmem, ⟨34, _⟩ => ⟨S128x1024, .bf16⟩
  | .local _ .vmem, ⟨35, _⟩ => ⟨S128x1024, .bf16⟩
  | .local _ .vmem, ⟨36, _⟩ => ⟨S128x512, .bf16⟩
  | .local _ .vmem, ⟨37, _⟩ => ⟨S128x512, .bf16⟩
  | .local _ .vmem, ⟨38, _⟩ => ⟨S64x1024, .bf16⟩
  | .local _ .vmem, ⟨39, _⟩ => ⟨S64x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let c0_i32 : BitVec 32 := 0#32
  let c192_i32 : BitVec 32 := 192#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v2 : BitVec 32 := Scalar.muli c192_i32 v1
  let v3 : BitVec 32 := Scalar.addi c0_i32 v2
  v3
def k0_mult2 (i : grid0.Coords) : BitVec 32 :=
  let c1544_i32 : BitVec 32 := 1544#32
  let c448_i32 : BitVec 32 := 448#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v2 : BitVec 32 := Scalar.muli c448_i32 v1
  let v3 : BitVec 32 := Scalar.addi c1544_i32 v2
  v3
def k0_mult3 (i : grid0.Coords) : BitVec 32 :=
  let c0_i32 : BitVec 32 := 0#32
  let c64_i32 : BitVec 32 := 64#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v2 : BitVec 32 := Scalar.muli c64_i32 v1
  let v3 : BitVec 32 := Scalar.addi c0_i32 v2
  v3
def k0_mult4 (i : grid0.Coords) : BitVec 32 :=
  let c0_i32 : BitVec 32 := 0#32
  let c64_i32 : BitVec 32 := 64#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v2 : BitVec 32 := Scalar.muli c64_i32 v1
  let v3 : BitVec 32 := Scalar.addi c0_i32 v2
  v3
def k0_mult5 (i : grid0.Coords) : BitVec 32 :=
  let c0_i32 : BitVec 32 := 0#32
  let c128_i32 : BitVec 32 := 128#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v2 : BitVec 32 := Scalar.muli c128_i32 v1
  let v3 : BitVec 32 := Scalar.addi c0_i32 v2
  v3
def k0_mult6 (i : grid0.Coords) : BitVec 32 :=
  let c0_i32 : BitVec 32 := 0#32
  let c128_i32 : BitVec 32 := 128#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v2 : BitVec 32 := Scalar.muli c128_i32 v1
  let v3 : BitVec 32 := Scalar.addi c0_i32 v2
  v3
def k0_mult7 (i : grid0.Coords) : BitVec 32 :=
  let c0_i32 : BitVec 32 := 0#32
  let c64_i32 : BitVec 32 := 64#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v2 : BitVec 32 := Scalar.muli c64_i32 v1
  let v3 : BitVec 32 := Scalar.addi c0_i32 v2
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c192_i32 : BitVec 32 := 192#32
  let v2 : BitVec 32 := Scalar.muli c192_i32 v1
  let c0_i32 : BitVec 32 := 0#32
  let v3 : BitVec 32 := Scalar.addi c0_i32 v2
  let v4 : BitVec 32 := v3
  let c0_i32_0 : BitVec 32 := 0#32
  let c0_i32_1 : BitVec 32 := 0#32
  let c0_i32_2 : BitVec 32 := 0#32
  ![c0_i32_0.toNat, v4.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c448_i32 : BitVec 32 := 448#32
  let v2 : BitVec 32 := Scalar.muli c448_i32 v1
  let c1544_i32 : BitVec 32 := 1544#32
  let v3 : BitVec 32 := Scalar.addi c1544_i32 v2
  let v4 : BitVec 32 := v3
  let c0_i32 : BitVec 32 := 0#32
  let c0_i32_0 : BitVec 32 := 0#32
  let c0_i32_1 : BitVec 32 := 0#32
  ![c0_i32.toNat, v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c64_i32 : BitVec 32 := 64#32
  let v2 : BitVec 32 := Scalar.muli c64_i32 v1
  let c0_i32 : BitVec 32 := 0#32
  let v3 : BitVec 32 := Scalar.addi c0_i32 v2
  let v4 : BitVec 32 := v3
  let c0_i32_0 : BitVec 32 := 0#32
  let c0_i32_1 : BitVec 32 := 0#32
  let c0_i32_2 : BitVec 32 := 0#32
  ![c0_i32_0.toNat, v4.toNat, c0_i32_1.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c64_i32 : BitVec 32 := 64#32
  let v2 : BitVec 32 := Scalar.muli c64_i32 v1
  let c0_i32 : BitVec 32 := 0#32
  let v3 : BitVec 32 := Scalar.addi c0_i32 v2
  let v4 : BitVec 32 := v3
  let c0_i32_0 : BitVec 32 := 0#32
  let c0_i32_1 : BitVec 32 := 0#32
  let c0_i32_2 : BitVec 32 := 0#32
  ![c0_i32_0.toNat, v4.toNat, c0_i32_1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c128_i32 : BitVec 32 := 128#32
  let v2 : BitVec 32 := Scalar.muli c128_i32 v1
  let c0_i32 : BitVec 32 := 0#32
  let v3 : BitVec 32 := Scalar.addi c0_i32 v2
  let v4 : BitVec 32 := v3
  let c0_i32_0 : BitVec 32 := 0#32
  let c0_i32_1 : BitVec 32 := 0#32
  let c0_i32_2 : BitVec 32 := 0#32
  ![c0_i32_0.toNat, v4.toNat, c0_i32_1.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c128_i32 : BitVec 32 := 128#32
  let v2 : BitVec 32 := Scalar.muli c128_i32 v1
  let c0_i32 : BitVec 32 := 0#32
  let v3 : BitVec 32 := Scalar.addi c0_i32 v2
  let v4 : BitVec 32 := v3
  let c0_i32_0 : BitVec 32 := 0#32
  let c0_i32_1 : BitVec 32 := 0#32
  let c0_i32_2 : BitVec 32 := 0#32
  ![c0_i32_0.toNat, v4.toNat, c0_i32_1.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c64_i32 : BitVec 32 := 64#32
  let v2 : BitVec 32 := Scalar.muli c64_i32 v1
  let c0_i32 : BitVec 32 := 0#32
  let v3 : BitVec 32 := Scalar.addi c0_i32 v2
  let v4 : BitVec 32 := v3
  let c0_i32_0 : BitVec 32 := 0#32
  let c0_i32_1 : BitVec 32 := 0#32
  let c0_i32_2 : BitVec 32 := 0#32
  ![c0_i32_0.toNat, v4.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x448x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S192x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S448x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MemkvRefIdeal.lean ====
abbrev S8x256x1024 : Shape := ⟨3, ![8, 256, 1024]⟩
abbrev S4x1024 : Shape := ⟨2, ![4, 1024]⟩
abbrev S4x1024x1024 : Shape := ⟨3, ![4, 1024, 1024]⟩
abbrev S4x128 : Shape := ⟨2, ![4, 128]⟩
abbrev S4x5128x1024 : Shape := ⟨3, ![4, 5128, 1024]⟩
abbrev S4x512x1024 : Shape := ⟨3, ![4, 512, 1024]⟩
abbrev S4x1024x512 : Shape := ⟨3, ![4, 1024, 512]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x2048x1024 : Shape := ⟨3, ![1, 2048, 1024]⟩
abbrev S4x1x1024 : Shape := ⟨3, ![4, 1, 1024]⟩
abbrev S4x2048x1024 : Shape := ⟨3, ![4, 2048, 1024]⟩
abbrev S4x2048x512 : Shape := ⟨3, ![4, 2048, 512]⟩
abbrev S4x2048x4x128 : Shape := ⟨4, ![4, 2048, 4, 128]⟩
abbrev S4x2048x4 : Shape := ⟨3, ![4, 2048, 4]⟩
abbrev S4x2048x4x1 : Shape := ⟨4, ![4, 2048, 4, 1]⟩
abbrev S4x1x1x128 : Shape := ⟨4, ![4, 1, 1, 128]⟩
abbrev S1x1536x1024 : Shape := ⟨3, ![1, 1536, 1024]⟩
abbrev S1536x1024 : Shape := ⟨2, ![1536, 1024]⟩
abbrev S1x3584x1024 : Shape := ⟨3, ![1, 3584, 1024]⟩
abbrev S3584x1024 : Shape := ⟨2, ![3584, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 73
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x1024, .f32⟩
  | .hbm, ⟨3, _⟩ => ⟨S4x128, .f32⟩
  | .hbm, ⟨4, _⟩ => ⟨S4x5128x1024, .f32⟩
  | .hbm, ⟨5, _⟩ => ⟨S4x512x1024, .f32⟩
  | .hbm, ⟨6, _⟩ => ⟨S4x512x1024, .f32⟩
  | .hbm, ⟨7, _⟩ => ⟨S4x1024x1024, .f32⟩
  | .hbm, ⟨8, _⟩ => ⟨S4x1024x512, .f32⟩
  | .hbm, ⟨9, _⟩ => ⟨S4x512x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x2048x1024, .f32⟩
  | .hbm, ⟨25, _⟩ => ⟨S4x1x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x512, .f32⟩
  | .hbm, ⟨31, _⟩ => ⟨S4x2048x4x128, .f32⟩
  | .hbm, ⟨32, _⟩ => ⟨S4x2048x4x128, .f32⟩
  | .hbm, ⟨33, _⟩ => ⟨S_, .f32⟩
  | .hbm, ⟨34, _⟩ => ⟨S4x2048x4, .f32⟩
  | .hbm, ⟨35, _⟩ => ⟨S4x2048x4x1, .f32⟩
  | .hbm, ⟨36, _⟩ => ⟨S_, .f32⟩
  | .hbm, ⟨37, _⟩ => ⟨S4x2048x4x1, .f32⟩
  | .hbm, ⟨38, _⟩ => ⟨S4x2048x4x1, .f32⟩
  | .hbm, ⟨39, _⟩ => ⟨S_, .f32⟩
  | .hbm, ⟨40, _⟩ => ⟨S4x2048x4x1, .f32⟩
  | .hbm, ⟨41, _⟩ => ⟨S4x2048x4x1, .f32⟩
  | .hbm, ⟨42, _⟩ => ⟨S4x2048x4x1, .f32⟩
  | .hbm, ⟨43, _⟩ => ⟨S4x2048x4x128, .f32⟩
  | .hbm, ⟨44, _⟩ => ⟨S4x2048x4x128, .f32⟩
  | .hbm, ⟨45, _⟩ => ⟨S4x1x1x128, .f32⟩
  | .hbm, ⟨46, _⟩ => ⟨S4x2048x4x128, .f32⟩
  | .hbm, ⟨47, _⟩ => ⟨S4x2048x4x128, .f32⟩
  | .hbm, ⟨48, _⟩ => ⟨S4x2048x512, .f32⟩
  | .hbm, ⟨49, _⟩ => ⟨S4x2048x512, .bf16⟩
  | .hbm, ⟨50, _⟩ => ⟨S4x2048x512, .f32⟩
  | .hbm, ⟨51, _⟩ => ⟨S4x2048x512, .bf16⟩
  | .hbm, ⟨52, _⟩ => ⟨S1x1536x1024, .f32⟩
  | .hbm, ⟨53, _⟩ => ⟨S1536x1024, .f32⟩
  | .hbm, ⟨54, _⟩ => ⟨S1536x1024, .bf16⟩
  | .hbm, ⟨55, _⟩ => ⟨S1x3584x1024, .f32⟩
  | .hbm, ⟨56, _⟩ => ⟨S3584x1024, .f32⟩
  | .hbm, ⟨57, _⟩ => ⟨S3584x1024, .bf16⟩
  | .hbm, ⟨58, _⟩ => ⟨S1x512x1024, .f32⟩
  | .hbm, ⟨59, _⟩ => ⟨S512x1024, .f32⟩
  | .hbm, ⟨60, _⟩ => ⟨S512x1024, .bf16⟩
  | .hbm, ⟨61, _⟩ => ⟨S1x512x1024, .f32⟩
  | .hbm, ⟨62, _⟩ => ⟨S512x1024, .f32⟩
  | .hbm, ⟨63, _⟩ => ⟨S512x1024, .bf16⟩
  | .hbm, ⟨64, _⟩ => ⟨S1x1024x1024, .f32⟩
  | .hbm, ⟨65, _⟩ => ⟨S1024x1024, .f32⟩
  | .hbm, ⟨66, _⟩ => ⟨S1024x1024, .bf16⟩
  | .hbm, ⟨67, _⟩ => ⟨S1x1024x512, .f32⟩
  | .hbm, ⟨68, _⟩ => ⟨S1024x512, .f32⟩
  | .hbm, ⟨69, _⟩ => ⟨S1024x512, .bf16⟩
  | .hbm, ⟨70, _⟩ => ⟨S1x512x1024, .f32⟩
  | .hbm, ⟨71, _⟩ => ⟨S512x1024, .f32⟩
  | .hbm, ⟨72, _⟩ => ⟨S512x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Decay.lean ====
abbrev S16384x128 : Shape := ⟨2, ![16384, 128]⟩
abbrev S128x512 : Shape := ⟨2, ![128, 512]⟩
abbrev S1x512 : Shape := ⟨2, ![1, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16384x512 : Shape := ⟨2, ![16384, 512]⟩
abbrev S4096x128 : Shape := ⟨2, ![4096, 128]⟩
abbrev S4096x512 : Shape := ⟨2, ![4096, 512]⟩
abbrev S1x128 : Shape := ⟨2, ![1, 128]⟩
abbrev S256x128 : Shape := ⟨2, ![256, 128]⟩
abbrev S256x384 : Shape := ⟨2, ![256, 384]⟩

abbrev nBuf : Space → Nat
  | .hbm => 14
  | .vmem => 11
  | .smem => 0
  | _ => 0

abbrev bufTy : (tb : Table) → Fin (tcTables nBuf tb) → BufTy
  | .hbm, ⟨0, _⟩ => ⟨S16384x128, .f32⟩
  | .hbm, ⟨1, _⟩ => ⟨S128x512, .bf16⟩
  | .hbm, ⟨2, _⟩ => ⟨S128x512, .bf16⟩
  | .hbm, ⟨3, _⟩ => ⟨S1x512, .f32⟩
  | .hbm, ⟨4, _⟩ => ⟨S1x512, .f32⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S256x256, .bf16⟩
  | .hbm, ⟨12, _⟩ => ⟨S16384x512, .bf16⟩
  | .hbm, ⟨13, _⟩ => ⟨S16384x512, .bf16⟩
  | .local _ .vmem, ⟨0, _⟩ => ⟨S4096x128, .f32⟩
  | .local _ .vmem, ⟨1, _⟩ => ⟨S4096x128, .f32⟩
  | .local _ .vmem, ⟨2, _⟩ => ⟨S256x256, .bf16⟩
  | .local _ .vmem, ⟨3, _⟩ => ⟨S128x512, .bf16⟩
  | .local _ .vmem, ⟨4, _⟩ => ⟨S128x512, .bf16⟩
  | .local _ .vmem, ⟨5, _⟩ => ⟨S1x512, .f32⟩
  | .local _ .vmem, ⟨6, _⟩ => ⟨S1x512, .f32⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DecayRefIdeal.lean ====
abbrev S16384x128 : Shape := ⟨2, ![16384, 128]⟩
abbrev S128x512 : Shape := ⟨2, ![128, 512]⟩
abbrev S1x512 : Shape := ⟨2, ![1, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16384x8 : Shape := ⟨2, ![16384, 8]⟩
abbrev S8x2048x8 : Shape := ⟨3, ![8, 2048, 8]⟩
abbrev S8x8x2048 : Shape := ⟨3, ![8, 8, 2048]⟩
abbrev S_ : Shape := ⟨0, ![]⟩
abbrev S8x512 : Shape := ⟨2, ![8, 512]⟩
abbrev S16384x512 : Shape := ⟨2, ![16384, 512]⟩

abbrev nBuf : Space → Nat
  | .hbm => 32
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x512, .bf16⟩
  | .hbm, ⟨2, _⟩ => ⟨S128x512, .bf16⟩
  | .hbm, ⟨3, _⟩ => ⟨S1x512, .f32⟩
  | .hbm, ⟨4, _⟩ => ⟨S1x512, .f32⟩
  | .hbm, ⟨5, _⟩ => ⟨S2048, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S2048x2048, .f32⟩
  | .hbm, ⟨12, _⟩ => ⟨S16384x8, .f32⟩
  | .hbm, ⟨13, _⟩ => ⟨S8x2048x8, .f32⟩
  | .hbm, ⟨14, _⟩ => ⟨S8x8x2048, .f32⟩
  | .hbm, ⟨15, _⟩ => ⟨S8x2048x8, .f32⟩
  | .hbm, ⟨16, _⟩ => ⟨S16384x8, .f32⟩
  | .hbm, ⟨17, _⟩ => ⟨S_, .f32⟩
  | .hbm, ⟨18, _⟩ => ⟨S16384x8, .f32⟩
  | .hbm, ⟨19, _⟩ => ⟨S16384x8, .f32⟩
  | .hbm, ⟨20, _⟩ => ⟨S8x512, .bf16⟩
  | .hbm, ⟨21, _⟩ => ⟨S8x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .bf16⟩
  | .hbm, ⟨26, _⟩ => ⟨S8x512, .bf16⟩
  | .hbm, ⟨27, _⟩ => ⟨S8x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .bf16⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Proof.Online.lean ====
/-
  The softmax of a row taken block by block, over the extended reals: a running maximum, and a running sum that is
  rescaled whenever the maximum grows. The identity needs no finiteness: a score of `⊥` weighs nothing, and a row whose
  maximum is infinite has only weights of zero on both sides.
-/
module

public import Idealize.ShloMosaic.Lib.Pointwise

@[expose] public section

noncomputable section

namespace Cert.Online

open Idealize.ShloMosaic

/-- A multiplier that is neither negative nor `⊤` goes into a sum. -/
theorem mul_sum {ι : Type} (t : Finset ι) (f : ι → EReal) {c : EReal} (h0 : 0 ≤ c) (h1 : c ≠ ⊤) :
    c * ∑ i ∈ t, f i = ∑ i ∈ t, c * f i := by
  classical
  induction t using Finset.induction_on with
  | empty => simp
  | insert a u ha ih =>
    rw [Finset.sum_insert ha, Finset.sum_insert ha, EReal.left_distrib_of_nonneg_of_ne_top h0 h1, ih]

/-- The sum of reals, as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a u ha ih => rw [Finset.sum_insert ha, Finset.sum_insert ha, EReal.coe_add, ih]

/-- An exponential is not negative. -/
theorem exp2_nonneg (x : EReal) : 0 ≤ Ideal.exp2 x := by
  induction x with
  | bot => simp
  | top => simp
  | coe r => rw [Ideal.exp2_coe]; exact_mod_cast Real.rpow_nonneg (by norm_num) r

/-- A weight, the exponential of a score less a bound of the scores, is at most one. -/
theorem exp2_sub_le_one {s m : EReal} (h : s ≤ m) : Ideal.exp2 (s - m) ≤ 1 := by
  induction s with
  | bot => simp
  | top => rw [top_le_iff] at h; subst h; simp
  | coe s =>
    induction m with
    | bot => simp at h
    | top => simp
    | coe m =>
      rw [← EReal.coe_sub, Ideal.exp2_coe]
      have h' : s ≤ m := by exact_mod_cast h
      exact_mod_cast Real.rpow_le_one_of_one_le_of_nonpos (by norm_num) (by linarith)

theorem exp2_sub_ne_top {s m : EReal} (h : s ≤ m) : Ideal.exp2 (s - m) ≠ ⊤ := fun e => by
  have := exp2_sub_le_one h
  rw [e, top_le_iff] at this
  exact absurd this (by decide)

/-- Rescaling a weight from one maximum to a larger one. -/
theorem exp2_rescale {s m m' : EReal} (h : s ≤ m) (h' : m ≤ m') :
    Ideal.exp2 (m - m') * Ideal.exp2 (s - m) = Ideal.exp2 (s - m') := by
  induction s with
  | bot => simp
  | top =>
    rw [top_le_iff] at h; subst h
    rw [top_le_iff] at h'; subst h'
    simp
  | coe s =>
    induction m with
    | bot => simp at h
    | top => rw [top_le_iff] at h'; subst h'; simp
    | coe m =>
      induction m' with
      | bot => simp at h'
      | top => simp
      | coe m' =>
        rw [← EReal.coe_sub, ← EReal.coe_sub, ← EReal.coe_sub, Ideal.exp2_coe, Ideal.exp2_coe, Ideal.exp2_coe,
          ← EReal.coe_mul]
        congr 1
        show (2 : ℝ) ^ (m - m') * (2 : ℝ) ^ (s - m) = (2 : ℝ) ^ (s - m')
        rw [← Real.rpow_add (by norm_num)]
        congr 1; ring

/-- The largest of the first `n` scores (`⊥` of none). -/
def top (s : ℕ → EReal) (n : ℕ) : EReal := (Finset.range n).sup s

/-- The sum of the first `n` values, each weighed by the exponential of its score less the largest score. -/
def weighed (s v : ℕ → EReal) (n : ℕ) : EReal :=
  ∑ k ∈ Finset.range n, Ideal.exp2 (s k - top s n) * v k

theorem le_top (s : ℕ → EReal) {k n : ℕ} (h : k < n) : s k ≤ top s n :=
  Finset.le_sup (f := s) (Finset.mem_range.2 h)

theorem top_zero (s : ℕ → EReal) : top s 0 = ⊥ := by simp [top]
theorem weighed_zero (s v : ℕ → EReal) : weighed s v 0 = 0 := by simp [weighed]

/-- The maximum after one more block: the larger of the maximum so far and the block's. -/
theorem top_add (s : ℕ → EReal) (n b : ℕ) :
    top s (n + b) = max (top s n) (Finset.univ.fold max ⊥ fun i : Fin b => s (n + i.val)) := by
  have hf : (Finset.univ.fold max ⊥ fun i : Fin b => s (n + i.val)) = Finset.univ.sup fun i : Fin b => s (n + i.val) := rfl
  rw [hf]
  apply le_antisymm
  · refine Finset.sup_le fun k hk => ?_
    rw [Finset.mem_range] at hk
    by_cases h : k < n
    · exact le_max_of_le_left (le_top s h)
    · refine le_max_of_le_right ?_
      have := Finset.le_sup (f := fun i : Fin b => s (n + i.val)) (Finset.mem_univ ⟨k - n, by omega⟩)
      simpa [Nat.add_sub_cancel' (not_lt.1 h)] using this
  · refine max_le (Finset.sup_le fun k hk => le_top s (by rw [Finset.mem_range] at hk; omega)) ?_
    exact Finset.sup_le fun i _ => le_top s (by omega)

/-- The maximum of a row as a fold of its scores. -/
theorem fold_top (s : ℕ → EReal) (n : ℕ) : (Finset.univ.fold max ⊥ fun i : Fin n => s i.val) = top s n := by
  have h := top_add s 0 n
  rw [top_zero, max_eq_right bot_le] at h
  simpa using h.symm

/-- The sum after one more block: the sum so far, rescaled to the new maximum, plus the block's own. -/
theorem weighed_add (s v : ℕ → EReal) (n b : ℕ) :
    weighed s v (n + b) = Ideal.exp2 (top s n - top s (n + b)) * weighed s v n
      + ∑ i : Fin b, Ideal.exp2 (s (n + i.val) - top s (n + b)) * v (n + i.val) := by
  have hle : top s n ≤ top s (n + b) := by rw [top_add]; exact le_max_left _ _
  rw [weighed, weighed, Finset.sum_range_add, mul_sum _ _ (exp2_nonneg _) (exp2_sub_ne_top hle)]
  congr 1
  · refine Finset.sum_congr rfl fun k hk => ?_
    rw [← mul_assoc, exp2_rescale (le_top s (Finset.mem_range.1 hk)) hle]
  · rw [Finset.sum_range]

/-- Scores of `⊥` after the first `n` change neither the maximum nor the sum. -/
theorem top_of_bot (s : ℕ → EReal) {n N : ℕ} (h : n ≤ N) (hs : ∀ k, n ≤ k → k < N → s k = ⊥) : top s N = top s n := by
  apply le_antisymm
  · refine Finset.sup_le fun k hk => ?_
    rw [Finset.mem_range] at hk
    by_cases hkn : k < n
    · exact le_top s hkn
    · rw [hs k (by omega) hk]; exact bot_le
  · exact Finset.sup_le fun k hk => le_top s (by rw [Finset.mem_range] at hk; omega)

theorem weighed_of_bot (s v : ℕ → EReal) {n N : ℕ} (h : n ≤ N) (hs : ∀ k, n ≤ k → k < N → s k = ⊥) :
    weighed s v N = weighed s v n := by
  obtain ⟨d, rfl⟩ := Nat.exists_eq_add_of_le h
  rw [weighed, weighed, Finset.sum_range_add, top_of_bot s h hs]
  have h0 : ∑ x ∈ Finset.range d, Ideal.exp2 (s (n + x) - top s n) * v (n + x) = 0 :=
    Finset.sum_eq_zero fun x hx => by
      rw [Finset.mem_range] at hx
      rw [hs (n + x) (by omega) (by omega)]; simp
  rw [h0, add_zero]

/-- A quotient by a sum of weights is the sum of the quotients, if the largest score is finite: the weights sum to a
    positive real then, whose inverse goes into the sum. The values may be infinite. -/
theorem div_weighed (s v : ℕ → EReal) (n : ℕ) (hb : top s n ≠ ⊥) (ht : top s n ≠ ⊤) :
    Ideal.div (weighed s v n) (∑ k ∈ Finset.range n, Ideal.exp2 (s k - top s n))
      = ∑ k ∈ Finset.range n,
          Ideal.div (Ideal.exp2 (s k - top s n)) (∑ j ∈ Finset.range n, Ideal.exp2 (s j - top s n)) * v k := by
  obtain ⟨M, hM⟩ : ∃ M : ℝ, top s n = M := ⟨_, (EReal.coe_toReal ht hb).symm⟩
  -- every weight is a real
  have hw : ∀ k ∈ Finset.range n, Ideal.exp2 (s k - top s n) = ((Ideal.exp2 (s k - top s n)).toReal : EReal) :=
    fun k hk => (EReal.coe_toReal (exp2_sub_ne_top (le_top s (Finset.mem_range.1 hk)))
      (fun h => by have := exp2_nonneg (s k - top s n); rw [h] at this; exact absurd this (by simp))).symm
  -- some score is the largest, and its weight is one
  obtain ⟨k₀, hk₀, hk₀'⟩ : ∃ k₀ ∈ Finset.range n, top s n = s k₀ := by
    have hne : (Finset.range n).Nonempty := by
      rw [Finset.nonempty_iff_ne_empty]; rintro h; exact hb (by rw [top, h]; simp)
    exact Finset.exists_mem_eq_sup _ hne s
  have hone : Ideal.exp2 (s k₀ - top s n) = 1 := by
    rw [← hk₀', hM, ← EReal.coe_sub, sub_self, Ideal.exp2_coe]
    have : Real.rpow 2 0 = 1 := Real.rpow_zero 2
    rw [this]; rfl
  obtain ⟨D, hD, hpos⟩ : ∃ D : ℝ, ∑ j ∈ Finset.range n, Ideal.exp2 (s j - top s n) = D ∧ 0 < D := by
    refine ⟨∑ j ∈ Finset.range n, (Ideal.exp2 (s j - top s n)).toReal, ?_, ?_⟩
    · rw [Finset.sum_congr rfl hw, coe_sum]
    · refine Finset.sum_pos' (fun k _ => EReal.toReal_nonneg (exp2_nonneg _)) ⟨k₀, hk₀, ?_⟩
      rw [hone]; simp
  rw [hD, Ideal.div_coe hpos.ne', weighed, mul_comm, mul_sum]
  · refine Finset.sum_congr rfl fun k _ => ?_
    rw [Ideal.div_coe hpos.ne', ← mul_assoc, mul_comm ((1 / D : ℝ) : EReal)]
  · exact_mod_cast (by positivity : (0 : ℝ) ≤ 1 / D)
  · exact EReal.coe_ne_top _

/-- The attention of a query over its keys: the weighted sum of the values by the sum of the weights. -/
def attend (s v : ℕ → EReal) (n : ℕ) : EReal :=
  Ideal.div (weighed s v n) (weighed s (fun _ => 1) n)

/-- An element of a matrix, by its row and its column. -/
def at2 {a b : ℕ} (x : (⟨2, ![a, b]⟩ : Shape).Idx → EReal) (i j : ℕ) : EReal :=
  if h : i < a ∧ j < b then x (ix2 ⟨i, h.1⟩ ⟨j, h.2⟩) else 0

theorem at2_ix2 {a b : ℕ} (x : (⟨2, ![a, b]⟩ : Shape).Idx → EReal) (i : Fin a) (j : Fin b) :
    at2 x i.val j.val = x (ix2 i j) := by
  rw [at2, dif_pos ⟨i.isLt, j.isLt⟩]

/-- The first column of the head that column `n` lies in, and the first of the other head of its pair. -/
def headCol (n : ℕ) : ℕ := 64 * (n / 64)
def pairCol (n : ℕ) : ℕ := 128 * (n / 128) + (64 - 64 * (n / 64 % 2))

end Cert.Online
-- ==== Proof.FoxTile.lean ====
/-
  The attention kernel's block: sixteen running softmaxes (two pairs of heads, four tiles of 512 queries, two heads),
  each taken through the key blocks up to the tile's own. The value stored is read at an index: the quotient of two
  weighted sums over the keys.
-/
module

public import proofs.«01_k».proof.Proof.Gen.FoxIdeal.Frame
public import proofs.«01_k».proof.Proof.Online
public import Idealize.ShloMosaic.Lib.Pipeline.Value
public import Idealize.ShloMosaic.Lib.Pipeline.ValueKit

@[expose] public section

set_option maxRecDepth 16384

noncomputable section

namespace Cert.FoxIdeal.Tile

open Cert.FoxIdeal Cert.FoxIdeal.Gen Cert.Online Idealize.ShloMosaic Idealize.ShloMosaic.TcCoe Idealize.ShloMosaic.WordCmp

/-- A block of scores: 512 queries by 512 keys. -/
def score (q k : Vec Ideal S512x128 .bf16) : FVec Ideal S512x512 .f32 :=
  matmul (φ₁ := .bf16) (φ₂ := .bf16) dot_S512x128_S512x128_S512x512_1_1_0_0_n_n none q k (constant S512x512 .f32 0x00000000#32)

/-- The scores on the diagonal: a key later than the query is masked. -/
def causal (s : FVec Ideal S512x512 .f32) : FVec Ideal S512x512 .f32 :=
  select (k0_pay32) s (broadcast S512x512 (Named.named κ "mask" 0xF149F2CA#32))

/-- The running maximum after a block of scores. -/
def mStep (m : FVec Ideal S512x1 .f32) (s : FVec Ideal S512x512 .f32) : FVec Ideal S512x1 .f32 :=
  maximumf m (shapeCast S512x1 (multiReduction .maximumf [1] S512 s 0xFF800000#32 reduces_S512x512_S512 (.inl rfl) rfl)
    shapeCasts_S512_S512x1)

/-- The running sum after a block of scores and values. -/
def accStep (m : FVec Ideal S512x1 .f32) (acc : FVec Ideal S512x256 .f32) (s : FVec Ideal S512x512 .f32)
    (va : FVec Ideal S512x256 .bf16) : FVec Ideal S512x256 .f32 :=
  addf (mulf (broadcastTo S512x256 (exp2 (subf m (mStep m s))) broadcasts_S512x1_S512x256) acc)
    (matmul dot_S512x512_S512x256_S512x256_1_0_0_1_n_n none
      (truncf .bf16 (exp2 (subf s (broadcastTo S512x512 (mStep m s) broadcasts_S512x1_S512x512))) bitsLt_bf16_f32) va
      (constant S512x256 .f32 0x00000000#32))

/-- The running maximum after `n` blocks. -/
def runM (s : ℕ → FVec Ideal S512x512 .f32) : ℕ → FVec Ideal S512x1 .f32
  | 0 => k0_pay6
  | n + 1 => mStep (runM s n) (s n)

/-- The running sum after `n` blocks. -/
def runAcc (s : ℕ → FVec Ideal S512x512 .f32) (va : ℕ → FVec Ideal S512x256 .bf16) : ℕ → FVec Ideal S512x256 .f32
  | 0 => k0_pay7
  | n + 1 => accStep (runM s n) (runAcc s va n) (s n) (va n)

/-- Rows `512 j …` of the columns of pair `p`. -/
def rows (x : Vec Ideal S2048x256 .bf16) : ℕ → ℕ → Vec Ideal S512x128 .bf16
  | 0, 0 => View.ld x r0_0
  | 0, 1 => View.ld x r0_1
  | 0, 2 => View.ld x r0_2
  | 0, _ => View.ld x r0_3
  | _, 0 => View.ld x r0_4
  | _, 1 => View.ld x r0_5
  | _, 2 => View.ld x r0_6
  | _, _ => View.ld x r0_7

/-- The scores of tile `qi` against key block `j`, in the lanes a head of the pair reads. -/
def scores (q : Vec Ideal S512x128 .bf16) (k : ℕ → Vec Ideal S512x128 .bf16) (qi j : ℕ) : FVec Ideal S512x512 .f32 :=
  if j < qi then score q (k j) else causal (score q (k j))

/-- What is stored for tile `qi` of pair `p`. -/
def tile (x0 x1 x2 x3 x4 : Vec Ideal S2048x256 .bf16) (p qi : ℕ) : FVec Ideal S512x128 .bf16 :=
  k0_pay101 k0_pay2
    (runAcc (scores (k0_pay4 (rows x0 p qi) (rows x1 p qi)) (fun j => k0_pay4 (rows x2 p j) (rows x3 p j)) qi)
      (fun j => k0_pay28 k0_pay3 (rows x4 p j)) (qi + 1))
    (runAcc (scores (k0_pay5 (rows x0 p qi) (rows x1 p qi)) (fun j => k0_pay5 (rows x2 p j) (rows x3 p j)) qi)
      (fun j => k0_pay28 k0_pay3 (rows x4 p j)) (qi + 1))

set_option maxHeartbeats 2000000 in
/-- The kernel's block is the eight tiles. -/
theorem out_eq (x0 x1 x2 x3 x4 : Vec Ideal S2048x256 .bf16) :
    out0_5 x0 x1 x2 x3 x4 = View.canon [⟨r0_7, tile x0 x1 x2 x3 x4 1 3⟩, ⟨r0_6, tile x0 x1 x2 x3 x4 1 2⟩,
      ⟨r0_5, tile x0 x1 x2 x3 x4 1 1⟩, ⟨r0_4, tile x0 x1 x2 x3 x4 1 0⟩, ⟨r0_3, tile x0 x1 x2 x3 x4 0 3⟩,
      ⟨r0_2, tile x0 x1 x2 x3 x4 0 2⟩, ⟨r0_1, tile x0 x1 x2 x3 x4 0 1⟩, ⟨r0_0, tile x0 x1 x2 x3 x4 0 0⟩] := by
  unfold out0_5
  congr 1

/-! ## The steps at an index -/

theorem mask_val : Named.named (F := Ideal) (φ := .f32) κ "mask" 0xF149F2CA#32 = (⊥ : EReal) :=
  IdealRules.named_const.ideal_named_scalar _ _ _ _ rfl

theorem score_apply (q k : Vec Ideal S512x128 .bf16) (r c : Fin 512) :
    score q k (ix2 r c) = ∑ l : Fin 128, q (ix2 r l) * k (ix2 c l) := by
  pointwise [score]

theorem ninf_val : Ideal.ofBits .f32 0xFF800000#32 = ⊥ := by simp [Ideal.ofBits, Ideal.ieee]

/-- A select on a decided condition. -/
theorem select_dec {α : Type} (P : Prop) [Decidable P] (a b : α) :
    Scalar.select (BitVec.ofBool (decide P)) a b = if P then a else b := by
  by_cases h : P <;> simp [h, Scalar.select]

theorem causal_apply (s : FVec Ideal S512x512 .f32) (r c : Fin 512) :
    causal s (ix2 r c) = if c.val ≤ r.val then s (ix2 r c) else ⊥ := by
  pointwise [causal, k0_pay32]
  have h : IntOp.addi (BitVec.ofNat 32 r.val) 0#32 = BitVec.ofNat 32 r.val := by simp [IntOp.addi]
  rw [mask_val, h, cmpi_sge_ofNat (by omega) (by omega), select_dec]

theorem mStep_apply (m : FVec Ideal S512x1 .f32) (s : FVec Ideal S512x512 .f32) (r : Fin 512) :
    mStep m s (ix2 r 0) = max (m (ix2 r 0)) (Finset.univ.fold max ⊥ fun c : Fin 512 => s (ix2 r c)) := by
  pointwise [mStep]
  rw [ninf_val]

theorem accStep_apply (m : FVec Ideal S512x1 .f32) (acc : FVec Ideal S512x256 .f32) (s : FVec Ideal S512x512 .f32)
    (va : FVec Ideal S512x256 .bf16) (r : Fin 512) (d : Fin 256) :
    accStep m acc s va (ix2 r d) = Ideal.exp2 (m (ix2 r 0) - mStep m s (ix2 r 0)) * acc (ix2 r d)
      + ∑ c : Fin 512, Ideal.exp2 (s (ix2 r c) - mStep m s (ix2 r 0)) * va (ix2 c d) := by
  pointwise [accStep]
  rfl

theorem rows_apply (x : Vec Ideal S2048x256 .bf16) (p j : ℕ) (hp : p < 2) (hj : j < 4) (i : Fin 512) (l : Fin 128) :
    rows x p j (ix2 i l) = x (ix2 ⟨512 * j + i.val, by omega⟩ ⟨128 * p + l.val, by omega⟩) := by
  interval_cases p <;> interval_cases j <;> pointwise [rows]

theorem first_apply (x y : Vec Ideal S512x128 .bf16) (i : Fin 512) (l : Fin 128) :
    k0_pay4 x y (ix2 i l) = if l.val < 64 then x (ix2 i l) else y (ix2 i l) := by
  pointwise [k0_pay4, k0_pay2]
  rw [show (64#32) = BitVec.ofNat 32 64 from rfl, cmpi_slt_ofNat (by omega) (by omega), select_dec]

theorem second_apply (x y : Vec Ideal S512x128 .bf16) (i : Fin 512) (l : Fin 128) :
    k0_pay5 x y (ix2 i l) = if l.val < 64 then y (ix2 i l) else x (ix2 i l) := by
  pointwise [k0_pay5, k0_pay2]
  rw [show (64#32) = BitVec.ofNat 32 64 from rfl, cmpi_slt_ofNat (by omega) (by omega), select_dec]

theorem values_apply (x : Vec Ideal S512x128 .bf16) (i : Fin 512) (d : Fin 256) :
    k0_pay28 (F := Ideal) k0_pay3 x (ix2 i d) = if h : d.val < 128 then x (ix2 i ⟨d.val, h⟩) else if d.val = 128 then 1 else 0 := by
  pointwise [k0_pay28, k0_pay3]
  by_cases h : d.val < 128
  · simp [h]
  · rw [dif_neg h, dif_neg h, show (0#32) = BitVec.ofNat 32 0 from rfl, cmpi_eq_ofNat (by omega) (by omega), select_dec]
    congr 1
    exact propext (by omega)

theorem fin_apply (a b : FVec Ideal S512x256 .f32) (i : Fin 512) (l : Fin 128) :
    k0_pay101 k0_pay2 a b (ix2 i l) = if l.val < 64 then Ideal.div (a (ix2 i ⟨l.val, by omega⟩)) (a (ix2 i ⟨128, by omega⟩))
      else Ideal.div (b (ix2 i ⟨l.val, by omega⟩)) (b (ix2 i ⟨128, by omega⟩)) := by
  pointwise [k0_pay101, k0_pay2]
  rw [show (64#32) = BitVec.ofNat 32 64 from rfl, cmpi_slt_ofNat (by omega) (by omega), select_dec]

/-! ## The running softmax at an index -/

theorem runM_apply (s : ℕ → FVec Ideal S512x512 .f32) (f : ℕ → EReal) (r : Fin 512) (n : ℕ)
    (hs : ∀ j < n, ∀ c : Fin 512, s j (ix2 r c) = f (512 * j + c.val)) :
    runM s n (ix2 r 0) = Online.top f (512 * n) := by
  induction n with
  | zero => rw [Nat.mul_zero, Online.top_zero]; pointwise [runM, k0_pay6]; exact mask_val
  | succ n ih =>
    rw [runM, mStep_apply, ih fun j hj => hs j (by omega), Nat.mul_succ, Online.top_add]
    congr 2
    funext c
    exact hs n (by omega) c

theorem runAcc_apply (s : ℕ → FVec Ideal S512x512 .f32) (va : ℕ → FVec Ideal S512x256 .bf16) (f v : ℕ → EReal)
    (r : Fin 512) (d : Fin 256) (n : ℕ)
    (hs : ∀ j < n, ∀ c : Fin 512, s j (ix2 r c) = f (512 * j + c.val))
    (hv : ∀ j < n, ∀ c : Fin 512, va j (ix2 c d) = v (512 * j + c.val)) :
    runAcc s va n (ix2 r d) = Online.weighed f v (512 * n) := by
  induction n with
  | zero => rw [Nat.mul_zero, Online.weighed_zero]; pointwise [runAcc, k0_pay7]
  | succ n ih =>
    have hm := runM_apply s f r (n + 1) hs
    rw [runM] at hm
    rw [runAcc, accStep_apply, hm, runM_apply s f r n fun j hj => hs j (by omega),
      ih (fun j hj => hs j (by omega)) (fun j hj => hv j (by omega)), Nat.mul_succ, Online.weighed_add]
    congr 1
    refine Finset.sum_congr rfl fun c _ => ?_
    rw [hs n (by omega) c, hv n (by omega) c]

/-! ## A tile at an index -/

/-- The logit of query `t` and key `k`: the product over the head's columns from `c` plus the one over the feature
    columns from `f`; a later key's is `⊥`. -/
def logit (x0 x1 x2 x3 : Vec Ideal S2048x256 .bf16) (c f t k : ℕ) : EReal :=
  if k ≤ t then (∑ d : Fin 64, at2 x0 t (c + d.val) * at2 x2 k (c + d.val))
    + ∑ d : Fin 64, at2 x1 t (f + d.val) * at2 x3 k (f + d.val) else ⊥

theorem scores_apply (q : Vec Ideal S512x128 .bf16) (k : ℕ → Vec Ideal S512x128 .bf16) (qi j : ℕ) (hj : j ≤ qi)
    (r c : Fin 512) :
    scores q k qi j (ix2 r c)
      = if 512 * j + c.val ≤ 512 * qi + r.val then ∑ l : Fin 128, q (ix2 r l) * k j (ix2 c l) else ⊥ := by
  rw [scores]
  by_cases h : j < qi
  · rw [if_pos h, if_pos (by omega), score_apply]
  · have : j = qi := by omega
    subst this
    rw [if_neg h, causal_apply, score_apply]
    congr 1
    exact propext (by omega)

theorem rows_at (x : Vec Ideal S2048x256 .bf16) (p j : ℕ) (hp : p < 2) (hj : j < 4) (i : Fin 512) (l : Fin 128) :
    rows x p j (ix2 i l) = at2 x (512 * j + i.val) (128 * p + l.val) := by
  rw [rows_apply x p j hp hj, at2, dif_pos ⟨by omega, by omega⟩]

theorem scores_first (x0 x1 x2 x3 : Vec Ideal S2048x256 .bf16) (p qi j : ℕ) (hp : p < 2) (hq : qi < 4) (hj : j ≤ qi)
    (r c : Fin 512) :
    scores (k0_pay4 (rows x0 p qi) (rows x1 p qi)) (fun j => k0_pay4 (rows x2 p j) (rows x3 p j)) qi j (ix2 r c)
      = logit x0 x1 x2 x3 (128 * p) (128 * p + 64) (512 * qi + r.val) (512 * j + c.val) := by
  rw [scores_apply _ _ _ _ hj, logit, Fin.sum_univ_two_halves 64 64 rfl]
  congr 2 <;> refine Finset.sum_congr rfl fun d _ => ?_
  · rw [first_apply, first_apply, if_pos (by exact d.isLt), if_pos (by exact d.isLt), rows_at _ _ _ hp hq, rows_at _ _ _ hp (by omega)]
  · rw [first_apply, first_apply, if_neg (by simp), if_neg (by simp), rows_at _ _ _ hp hq, rows_at _ _ _ hp (by omega)]
    simp only [Nat.add_assoc]

theorem scores_second (x0 x1 x2 x3 : Vec Ideal S2048x256 .bf16) (p qi j : ℕ) (hp : p < 2) (hq : qi < 4) (hj : j ≤ qi)
    (r c : Fin 512) :
    scores (k0_pay5 (rows x0 p qi) (rows x1 p qi)) (fun j => k0_pay5 (rows x2 p j) (rows x3 p j)) qi j (ix2 r c)
      = logit x0 x1 x2 x3 (128 * p + 64) (128 * p) (512 * qi + r.val) (512 * j + c.val) := by
  rw [scores_apply _ _ _ _ hj, logit]
  refine if_congr Iff.rfl ?_ rfl
  rw [Fin.sum_univ_two_halves 64 64 rfl]
  refine (add_comm _ _).trans ?_
  congr 1 <;> refine Finset.sum_congr rfl fun d _ => ?_
  · rw [second_apply, second_apply, if_neg (by simp), if_neg (by simp), rows_at _ _ _ hp hq, rows_at _ _ _ hp (by omega)]
    simp only [Nat.add_assoc]
  · rw [second_apply, second_apply, if_pos (by exact d.isLt), if_pos (by exact d.isLt), rows_at _ _ _ hp hq, rows_at _ _ _ hp (by omega)]

theorem values_at (x4 : Vec Ideal S2048x256 .bf16) (p j : ℕ) (hp : p < 2) (hj : j < 4) (c : Fin 512) (l : Fin 128) :
    k0_pay28 (F := Ideal) k0_pay3 (rows x4 p j) (ix2 c ⟨l.val, by omega⟩) = at2 x4 (512 * j + c.val) (128 * p + l.val) := by
  rw [values_apply, dif_pos (by exact l.isLt), rows_at _ _ _ hp hj]

theorem ones_at (x4 : Vec Ideal S2048x256 .bf16) (p j : ℕ) (c : Fin 512) :
    k0_pay28 (F := Ideal) k0_pay3 (rows x4 p j) (ix2 c ⟨128, by omega⟩) = 1 := by
  rw [values_apply, dif_neg (by decide), if_pos rfl]

/-- The attention block, whole. -/
def blockOut (x0 x1 x2 x3 x4 : Vec Ideal S2048x256 .bf16) (t n : ℕ) : EReal :=
  attend (logit x0 x1 x2 x3 (headCol n) (pairCol n) t) (fun k => at2 x4 k n) 2048

theorem attend_stop (x0 x1 x2 x3 : Vec Ideal S2048x256 .bf16) (c f t n : ℕ) (v : ℕ → EReal) (h : t < n) (hn : n ≤ 2048) :
    attend (logit x0 x1 x2 x3 c f t) v n = attend (logit x0 x1 x2 x3 c f t) v 2048 := by
  have hb : ∀ k, n ≤ k → k < 2048 → logit x0 x1 x2 x3 c f t k = ⊥ := fun k hk _ => if_neg (by omega)
  rw [attend, attend, Online.weighed_of_bot _ _ hn hb, Online.weighed_of_bot _ _ hn hb]

theorem tile_apply (x0 x1 x2 x3 x4 : Vec Ideal S2048x256 .bf16) (p qi : ℕ) (hp : p < 2) (hq : qi < 4)
    (r : Fin 512) (l : Fin 128) :
    tile x0 x1 x2 x3 x4 p qi (ix2 r l) = blockOut x0 x1 x2 x3 x4 (512 * qi + r.val) (128 * p + l.val) := by
  rw [tile, fin_apply, blockOut]
  by_cases h : l.val < 64
  · rw [if_pos h, show headCol (128 * p + l.val) = 128 * p by unfold headCol; omega,
      show pairCol (128 * p + l.val) = 128 * p + 64 by unfold pairCol; omega,
      ← attend_stop _ _ _ _ _ _ _ (512 * (qi + 1)) _ (by omega) (by omega), attend,
      runAcc_apply _ _ _ (fun k => at2 x4 k (128 * p + l.val)) r ⟨l.val, by omega⟩ (qi + 1) (fun j hj c => scores_first x0 x1 x2 x3 p qi j hp hq (by omega) r c)
        (fun j hj c => values_at x4 p j hp (by omega) c l),
      runAcc_apply _ _ _ (fun _ => 1) r ⟨128, by omega⟩ (qi + 1)
        (fun j hj c => scores_first x0 x1 x2 x3 p qi j hp hq (by omega) r c) (fun j hj c => ones_at x4 p j c)]
  · rw [if_neg h, show headCol (128 * p + l.val) = 128 * p + 64 by unfold headCol; omega,
      show pairCol (128 * p + l.val) = 128 * p by unfold pairCol; omega,
      ← attend_stop _ _ _ _ _ _ _ (512 * (qi + 1)) _ (by omega) (by omega), attend,
      runAcc_apply _ _ _ (fun k => at2 x4 k (128 * p + l.val)) r ⟨l.val, by omega⟩ (qi + 1) (fun j hj c => scores_second x0 x1 x2 x3 p qi j hp hq (by omega) r c)
        (fun j hj c => values_at x4 p j hp (by omega) c l),
      runAcc_apply _ _ _ (fun _ => 1) r ⟨128, by omega⟩ (qi + 1)
        (fun j hj c => scores_second x0 x1 x2 x3 p qi j hp hq (by omega) r c) (fun j hj c => ones_at x4 p j c)]

theorem piece (x0 x1 x2 x3 x4 : Vec Ideal S2048x256 .bf16) (p qi : ℕ) (hp : p < 2) (hq : qi < 4) (x : S512x128.Idx)
    (i : S2048x256.Idx) (h0 : (i 0).val = 512 * qi + (x 0).val) (h1 : (i 1).val = 128 * p + (x 1).val) :
    tile x0 x1 x2 x3 x4 p qi x = blockOut x0 x1 x2 x3 x4 (i 0).val (i 1).val := by
  rw [h0, h1, eq_ix2 x]
  exact tile_apply x0 x1 x2 x3 x4 p qi hp hq (x 0) (x 1)

/-- The block the kernel stores, at an index. -/
theorem out_apply (x0 x1 x2 x3 x4 : Vec Ideal S2048x256 .bf16) (i : S2048x256.Idx) :
    out0_5 x0 x1 x2 x3 x4 i = blockOut x0 x1 x2 x3 x4 (i 0).val (i 1).val := by
  rw [out_eq]
  refine View.canon_apply_of_pieces (Val := Elt Ideal) (S := S2048x256) (e := .bf16)
    (fun i => blockOut x0 x1 x2 x3 x4 (i 0).val (i 1).val) _ ?_ i (cover0_5 _ _ _ _ _ _ _ _ i)
  simp only [List.forall_mem_cons, List.not_mem_nil, false_implies, implies_true, and_true]
  refine ⟨?_, ?_, ?_, ?_, ?_, ?_, ?_, ?_⟩ <;> intro x
  · exact piece x0 x1 x2 x3 x4 1 3 (by omega) (by omega) x _ (by simp) (by simp)
  · exact piece x0 x1 x2 x3 x4 1 2 (by omega) (by omega) x _ (by simp) (by simp)
  · exact piece x0 x1 x2 x3 x4 1 1 (by omega) (by omega) x _ (by simp) (by simp)
  · exact piece x0 x1 x2 x3 x4 1 0 (by omega) (by omega) x _ (by simp) (by simp)
  · exact piece x0 x1 x2 x3 x4 0 3 (by omega) (by omega) x _ (by simp) (by simp)
  · exact piece x0 x1 x2 x3 x4 0 2 (by omega) (by omega) x _ (by simp) (by simp)
  · exact piece x0 x1 x2 x3 x4 0 1 (by omega) (by omega) x _ (by simp) (by simp)
  · exact piece x0 x1 x2 x3 x4 0 0 (by omega) (by omega) x _ (by simp) (by simp)

end Cert.FoxIdeal.Tile
-- ==== Proof.FoxKernel.lean ====
/-
  The attention kernel's result array as one function of its argument arrays: each of the sixteen grid points writes
  the attention of one batch element and four heads.
-/
module

public import proofs.«01_k».proof.Proof.Gen.FoxIdeal.Value
public import proofs.«01_k».proof.Proof.FoxTile

@[expose] public section

set_option maxRecDepth 16384

noncomputable section

namespace Cert.FoxIdeal.Kernel

open Cert.FoxIdeal Cert.FoxIdeal.Gen Cert.FoxIdeal.Tile Cert.Online Idealize.ShloMosaic Idealize.ShloMosaic.TcCoe
  Idealize.SL.Sem
open Idealize.ShloMosaic.Pipeline (Dat)

/-- The logits of row `R` and the head of column `C`, over the keys of its batch element. -/
def rowLogit (A0 : S16384x1536.Idx → EReal) (A1 A2 : S16384x512.Idx → EReal) (R C k : ℕ) : EReal :=
  if k ≤ R % 2048 then
    (∑ d : Fin 64, at2 A0 R (headCol C + d.val) * at2 A0 (2048 * (R / 2048) + k) (512 + headCol C + d.val))
      + ∑ d : Fin 64, at2 A1 R (pairCol C + d.val) * at2 A2 (2048 * (R / 2048) + k) (pairCol C + d.val)
  else ⊥

/-- The attention, row by row and column by column. -/
def spec (A0 : S16384x1536.Idx → EReal) (A1 A2 : S16384x512.Idx → EReal) (R C : ℕ) : EReal :=
  attend (rowLogit A0 A1 A2 R C) (fun k => at2 A0 (2048 * (R / 2048) + k) (1024 + C)) 2048

variable (m : (ℓ : Loc nD τ sig) → Buf (Elt Ideal) ℓ)

/-- The arguments as matrices. -/
abbrev arr0 (c : Dev nD) : S16384x1536.Idx → EReal := m ((c : Thread nD τ).loc main_arg0)
abbrev arr1 (c : Dev nD) : S16384x512.Idx → EReal := m ((c : Thread nD τ).loc main_arg1)
abbrev arr2 (c : Dev nD) : S16384x512.Idx → EReal := m ((c : Thread nD τ).loc main_arg2)

theorem index_facts : ∀ t : Fin grid0.N,
    (win0_0.index t 0 = t.val / 2 ∧ win0_0.index t 1 = t.val % 2) ∧ (win0_1.index t 0 = t.val / 2 ∧ win0_1.index t 1 = t.val % 2)
    ∧ (win0_2.index t 0 = t.val / 2 ∧ win0_2.index t 1 = 2 + t.val % 2) ∧ (win0_3.index t 0 = t.val / 2 ∧ win0_3.index t 1 = t.val % 2)
    ∧ (win0_4.index t 0 = t.val / 2 ∧ win0_4.index t 1 = 4 + t.val % 2)
    ∧ (win0_5.index t 0 = t.val / 2 ∧ win0_5.index t 1 = t.val % 2) := by decide +kernel

theorem lt16 (t : Fin cfg0.N) : t.val < 16 := lt_of_lt_of_eq t.isLt N_0

theorem blk0 (c : Dev nD) (t : Fin cfg0.N) (i j : ℕ) (hi : i < 2048) (hj : j < 256) :
    at2 (a := 2048) (b := 256) (iblk m c 0 t) i j = at2 (arr0 m c) (2048 * (t.val / 2) + i) (256 * (t.val % 2) + j) := by
  have ht := lt16 t
  have hx := (index_facts t).1
  rw [at2, dif_pos ⟨hi, hj⟩, at2, dif_pos ⟨by omega, by omega⟩]
  refine congrArg (arr0 m c) (funext fun a => Fin.ext ?_)
  match a with
  | ⟨0, _⟩ => show win0_0.index t 0 * 2048 + 1 * i = _; rw [hx.1]; show _ = 2048 * (t.val / 2) + i; omega
  | ⟨1, _⟩ => show win0_0.index t 1 * 256 + 1 * j = _; rw [hx.2]; show _ = 256 * (t.val % 2) + j; omega

theorem blk1 (c : Dev nD) (t : Fin cfg0.N) (i j : ℕ) (hi : i < 2048) (hj : j < 256) :
    at2 (a := 2048) (b := 256) (iblk m c 1 t) i j = at2 (arr1 m c) (2048 * (t.val / 2) + i) (256 * (t.val % 2) + j) := by
  have ht := lt16 t
  have hx := (index_facts t).2.1
  rw [at2, dif_pos ⟨hi, hj⟩, at2, dif_pos ⟨by omega, by omega⟩]
  refine congrArg (arr1 m c) (funext fun a => Fin.ext ?_)
  match a with
  | ⟨0, _⟩ => show win0_1.index t 0 * 2048 + 1 * i = _; rw [hx.1]; show _ = 2048 * (t.val / 2) + i; omega
  | ⟨1, _⟩ => show win0_1.index t 1 * 256 + 1 * j = _; rw [hx.2]; show _ = 256 * (t.val % 2) + j; omega

theorem blk2 (c : Dev nD) (t : Fin cfg0.N) (i j : ℕ) (hi : i < 2048) (hj : j < 256) :
    at2 (a := 2048) (b := 256) (iblk m c 2 t) i j = at2 (arr0 m c) (2048 * (t.val / 2) + i) (512 + 256 * (t.val % 2) + j) := by
  have ht := lt16 t
  have hx := (index_facts t).2.2.1
  rw [at2, dif_pos ⟨hi, hj⟩, at2, dif_pos ⟨by omega, by omega⟩]
  refine congrArg (arr0 m c) (funext fun a => Fin.ext ?_)
  match a with
  | ⟨0, _⟩ => show win0_2.index t 0 * 2048 + 1 * i = _; rw [hx.1]; show _ = 2048 * (t.val / 2) + i; omega
  | ⟨1, _⟩ => show win0_2.index t 1 * 256 + 1 * j = _; rw [hx.2]; show _ = 512 + 256 * (t.val % 2) + j; omega

theorem blk3 (c : Dev nD) (t : Fin cfg0.N) (i j : ℕ) (hi : i < 2048) (hj : j < 256) :
    at2 (a := 2048) (b := 256) (iblk m c 3 t) i j = at2 (arr2 m c) (2048 * (t.val / 2) + i) (256 * (t.val % 2) + j) := by
  have ht := lt16 t
  have hx := (index_facts t).2.2.2.1
  rw [at2, dif_pos ⟨hi, hj⟩, at2, dif_pos ⟨by omega, by omega⟩]
  refine congrArg (arr2 m c) (funext fun a => Fin.ext ?_)
  match a with
  | ⟨0, _⟩ => show win0_3.index t 0 * 2048 + 1 * i = _; rw [hx.1]; show _ = 2048 * (t.val / 2) + i; omega
  | ⟨1, _⟩ => show win0_3.index t 1 * 256 + 1 * j = _; rw [hx.2]; show _ = 256 * (t.val % 2) + j; omega

theorem blk4 (c : Dev nD) (t : Fin cfg0.N) (i j : ℕ) (hi : i < 2048) (hj : j < 256) :
    at2 (a := 2048) (b := 256) (iblk m c 4 t) i j = at2 (arr0 m c) (2048 * (t.val / 2) + i) (1024 + 256 * (t.val % 2) + j) := by
  have ht := lt16 t
  have hx := (index_facts t).2.2.2.2.1
  rw [at2, dif_pos ⟨hi, hj⟩, at2, dif_pos ⟨by omega, by omega⟩]
  refine congrArg (arr0 m c) (funext fun a => Fin.ext ?_)
  match a with
  | ⟨0, _⟩ => show win0_4.index t 0 * 2048 + 1 * i = _; rw [hx.1]; show _ = 2048 * (t.val / 2) + i; omega
  | ⟨1, _⟩ => show win0_4.index t 1 * 256 + 1 * j = _; rw [hx.2]; show _ = 1024 + 256 * (t.val % 2) + j; omega

/-- Two attentions agree when their logits and their values do. -/
theorem attend_congr {s s' v v' : ℕ → EReal} {n : ℕ} (hs : ∀ k < n, s k = s' k) (hv : ∀ k < n, v k = v' k) :
    attend s v n = attend s' v' n := by
  have ht : top s n = top s' n := Finset.sup_congr rfl fun k hk => hs k (Finset.mem_range.1 hk)
  unfold attend weighed
  rw [ht]
  congr 1 <;> refine Finset.sum_congr rfl fun k hk => ?_
  · rw [hs k (Finset.mem_range.1 hk), hv k (Finset.mem_range.1 hk)]
  · rw [hs k (Finset.mem_range.1 hk)]

/-- A grid point's block is the attention at the block's place. -/
theorem block_spec (c : Dev nD) (t : Fin cfg0.N) (i j : ℕ) (hi : i < 2048) (hj : j < 256) :
    blockOut (iblk m c 0 t) (iblk m c 1 t) (iblk m c 2 t) (iblk m c 3 t) (iblk m c 4 t) i j
      = spec (arr0 m c) (arr1 m c) (arr2 m c) (2048 * (t.val / 2) + i) (256 * (t.val % 2) + j) := by
  have ht := lt16 t
  have hR : (2048 * (t.val / 2) + i) / 2048 = t.val / 2 := by omega
  have hR' : (2048 * (t.val / 2) + i) % 2048 = i := by omega
  have hh : headCol (256 * (t.val % 2) + j) = 256 * (t.val % 2) + headCol j := by unfold headCol; omega
  have hp : pairCol (256 * (t.val % 2) + j) = 256 * (t.val % 2) + pairCol j := by unfold pairCol; omega
  have hh' : headCol j + 64 ≤ 256 := by unfold headCol; omega
  have hp' : pairCol j + 64 ≤ 256 := by unfold pairCol; omega
  rw [blockOut, spec]
  refine attend_congr (fun k hk => ?_) fun k hk => ?_
  · rw [logit, rowLogit, hR, hR', hh, hp]
    refine if_congr Iff.rfl ?_ rfl
    congr 1 <;> refine Finset.sum_congr rfl fun d _ => ?_
    · rw [blk0 m c t i _ hi (by omega), blk2 m c t k _ hk (by omega)]
      simp only [Nat.add_assoc]
    · rw [blk1 m c t i _ hi (by omega), blk3 m c t k _ hk (by omega)]
      simp only [Nat.add_assoc]
  · rw [blk4 m c t k _ hk hj, hR]
    simp only [Nat.add_assoc]

/-- The result array. -/
def result (c : Dev nD) : Buf (Elt Ideal) ((c : Thread nD τ).loc main_v0) :=
  fun i : S16384x512.Idx => spec (arr0 m c) (arr1 m c) (arr2 m c) (i 0).val (i 1).val

theorem flushed_eq (c : Dev nD) (t : Fin cfg0.N) (hf : (cfg0.win 5).flush t = true) :
    (dats m 0 c).flushed 5 t = ((cfg0.win 5).blk t).view.read (Elt Ideal) (result m c) := by
  rw [Value.flushed5]
  have hx := (index_facts t).2.2.2.2.2
  funext x
  show out0_5 (iblk m c 0 t) (iblk m c 1 t) (iblk m c 2 t) (iblk m c 3 t) (iblk m c 4 t) x = _
  rw [out_apply]
  refine (block_spec m c t (x 0).val (x 1).val (x 0).isLt (x 1).isLt).trans ?_
  show _ = spec _ _ _ (win0_5.index t 0 * 2048 + 1 * (x 0).val) (win0_5.index t 1 * 256 + 1 * (x 1).val)
  rw [hx.1, hx.2]
  congr 1 <;> omega

theorem mem_blk (t : Fin cfg0.N) (i : S16384x512.Idx) :
    i ∈ ((cfg0.win 5).blk t).view.set ↔ (i 0).val / 2048 = t.val / 2 ∧ (i 1).val / 256 = t.val % 2 := by
  have hx := (index_facts t).2.2.2.2.2
  show i ∈ ((View.whole main_v0).slice (win0_5.rect t)).set ↔ _
  rw [View.set_slice_whole, Rect.mem_set_unit]
  constructor
  · intro h
    have h0 := h 0
    have h1 := h 1
    have h0' : win0_5.index t 0 * 2048 ≤ (i 0).val ∧ (i 0).val < win0_5.index t 0 * 2048 + 2048 := h0
    have h1' : win0_5.index t 1 * 256 ≤ (i 1).val ∧ (i 1).val < win0_5.index t 1 * 256 + 256 := h1
    rw [hx.1] at h0'; rw [hx.2] at h1'
    omega
  · intro h a
    match a with
    | ⟨0, _⟩ => show win0_5.index t 0 * 2048 ≤ (i 0).val ∧ (i 0).val < win0_5.index t 0 * 2048 + 2048; rw [hx.1]; omega
    | ⟨1, _⟩ => show win0_5.index t 1 * 256 ≤ (i 1).val ∧ (i 1).val < win0_5.index t 1 * 256 + 256; rw [hx.2]; omega

theorem final (c : Dev nD) : (dats m 0 c).arrAt 5 cfg0.N = result m c :=
  (dats m 0 c).arrAt_eq_of_cover 5 (result m c) (flushed_eq m c) fun i => by
    have h0 : (i 0).val < 16384 := (i 0).isLt
    have h1 : (i 1).val < 512 := (i 1).isLt
    refine ⟨⟨2 * ((i 0).val / 2048) + (i 1).val / 256, by rw [show cfg0.N = 16 from N_0]; omega⟩, flush0_5 _, ?_⟩
    rw [mem_blk]
    constructor <;> dsimp only <;> omega

/-- The kernel's run: the result is the attention, the arguments are as they were. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.FoxIdeal.Kernel
-- ==== Proof.FoxReference.lean ====
/-
  The attention's reference at an index: the softmax of the logits of a row, applied to the values.
-/
module

public import proofs.«01_k».proof.Proof.Gen.FoxRefIdeal.Read
public import proofs.«01_k».proof.Pre_finite_scores
public import proofs.«01_k».proof.Proof.FoxKernel
public import Idealize.ShloMosaic.Lib.Pointwise

@[expose] public section

set_option maxRecDepth 16384

noncomputable section

namespace Cert.FoxRefIdeal.Soft

open Cert.FoxRefIdeal Cert.FoxRefIdeal.Gen Cert.FoxRefIdeal.Read Cert.Online Cert.FoxIdeal.Kernel
  Idealize.ShloMosaic Idealize.ShloMosaic.TcCoe Idealize.ShloMosaic.WordCmp

variable (x0 : S16384x1536.Idx → EReal) (x1 x2 : S16384x512.Idx → EReal)

/-- The row-major place of an index of [8, 2048, 8, 64], taken apart. -/
theorem parts {b t h d : ℕ} (hb : b < 8) (ht : t < 2048) (hh : h < 8) (hd : d < 64) :
    (((b * 2048 + t) * 8 + h) * 64 + d) / 1048576 = b ∧ (((b * 2048 + t) * 8 + h) * 64 + d) / 512 % 2048 = t
    ∧ (((b * 2048 + t) * 8 + h) * 64 + d) / 64 % 8 = h ∧ (((b * 2048 + t) * 8 + h) * 64 + d) % 64 = d
    ∧ (((b * 2048 + t) * 8 + h) * 64 + d) / 128 % 4 = h / 2 ∧ (((b * 2048 + t) * 8 + h) * 64 + d) / 64 % 2 = h % 2 := by
  omega

/-- The queries. -/
theorem query_at (i : S8x2048x8x64.Idx) :
    val_main_v3 (F := Ideal) x0 i = at2 x0 (2048 * (i 0).val + (i 1).val) (64 * (i 2).val + (i 3).val) := by
  have h0 : (i 0).val < 8 := (i 0).isLt
  have h1 : (i 1).val < 2048 := (i 1).isLt
  have h2 : (i 2).val < 8 := (i 2).isLt
  have h3 : (i 3).val < 64 := (i 3).isLt
  obtain ⟨p0, p1, p2, p3, -, -⟩ := parts h0 h1 h2 h3
  rw [val_main_v3_apply, val_main_v2_apply, val_main_v1_apply, val_main_v0_apply, at2, dif_pos ⟨by omega, by omega⟩]
  refine congrArg x0 (funext fun a => Fin.ext ?_)
  match a with
  | ⟨0, _⟩ => dsimp only; rw [p0, p1, p2, p3]; show _ = 2048 * (i 0).val + (i 1).val; omega
  | ⟨1, _⟩ => dsimp only; rw [p0, p1, p2, p3]; show _ = 64 * (i 2).val + (i 3).val; omega

/-- The keys. -/
theorem key_at (i : S8x2048x8x64.Idx) :
    val_main_v5 (F := Ideal) x0 i = at2 x0 (2048 * (i 0).val + (i 1).val) (512 + 64 * (i 2).val + (i 3).val) := by
  have h0 : (i 0).val < 8 := (i 0).isLt
  have h1 : (i 1).val < 2048 := (i 1).isLt
  have h2 : (i 2).val < 8 := (i 2).isLt
  have h3 : (i 3).val < 64 := (i 3).isLt
  obtain ⟨p0, p1, p2, p3, -, -⟩ := parts h0 h1 h2 h3
  rw [val_main_v5_apply, val_main_v4_apply, val_main_v1_apply, val_main_v0_apply, at2, dif_pos ⟨by omega, by omega⟩]
  refine congrArg x0 (funext fun a => Fin.ext ?_)
  match a with
  | ⟨0, _⟩ => dsimp only; rw [p0, p1, p2, p3]; show _ = 2048 * (i 0).val + (i 1).val; omega
  | ⟨1, _⟩ => dsimp only; rw [p0, p1, p2, p3]; show _ = 512 + 64 * (i 2).val + (i 3).val; omega

/-- The values. -/
theorem value_at (i : S8x2048x8x64.Idx) :
    val_main_v7 (F := Ideal) x0 i = at2 x0 (2048 * (i 0).val + (i 1).val) (1024 + (64 * (i 2).val + (i 3).val)) := by
  have h0 : (i 0).val < 8 := (i 0).isLt
  have h1 : (i 1).val < 2048 := (i 1).isLt
  have h2 : (i 2).val < 8 := (i 2).isLt
  have h3 : (i 3).val < 64 := (i 3).isLt
  obtain ⟨p0, p1, p2, p3, -, -⟩ := parts h0 h1 h2 h3
  rw [val_main_v7_apply, val_main_v6_apply, val_main_v1_apply, val_main_v0_apply, at2, dif_pos ⟨by omega, by omega⟩]
  refine congrArg x0 (funext fun a => Fin.ext ?_)
  match a with
  | ⟨0, _⟩ => dsimp only; rw [p0, p1, p2, p3]; show _ = 2048 * (i 0).val + (i 1).val; omega
  | ⟨1, _⟩ => dsimp only; rw [p0, p1, p2, p3]; show _ = 1024 + (64 * (i 2).val + (i 3).val); omega

/-- The features of a query, those of the other head of its pair. -/
theorem feature_q (i : S8x2048x8x64.Idx) :
    val_main_v11 (F := Ideal) x1 i
      = at2 x1 (2048 * (i 0).val + (i 1).val) (pairCol (64 * (i 2).val) + (i 3).val) := by
  have h0 : (i 0).val < 8 := (i 0).isLt
  have h1 : (i 1).val < 2048 := (i 1).isLt
  have h2 : (i 2).val < 8 := (i 2).isLt
  have h3 : (i 3).val < 64 := (i 3).isLt
  obtain ⟨p0, p1, -, p3, p4, p5⟩ := parts h0 h1 h2 h3
  have hp : pairCol (64 * (i 2).val) + 64 ≤ 512 := by unfold pairCol; omega
  rw [val_main_v11_apply, val_main_v10, Host.reverse_apply, val_main_v9_apply, val_main_v8_apply, at2,
    dif_pos ⟨by omega, by omega⟩]
  refine congrArg x1 (funext fun a => Fin.ext ?_)
  match a with
  | ⟨0, _⟩ =>
    show ((((_ / 1048576 * 2048 + _ / 512 % 2048) * 4 + _ / 128 % 4) * 2 + (2 - (_ / 64 % 2 + 1))) * 64 + _ % 64) / 512 = _
    rw [p0, p1, p3, p4, p5]; show _ = 2048 * (i 0).val + (i 1).val; omega
  | ⟨1, _⟩ =>
    show ((((_ / 1048576 * 2048 + _ / 512 % 2048) * 4 + _ / 128 % 4) * 2 + (2 - (_ / 64 % 2 + 1))) * 64 + _ % 64) % 512 = _
    rw [p0, p1, p3, p4, p5]; show _ = pairCol (64 * (i 2).val) + (i 3).val; unfold pairCol; omega

/-- The features of a key. -/
theorem feature_k (i : S8x2048x8x64.Idx) :
    val_main_v15 (F := Ideal) x2 i
      = at2 x2 (2048 * (i 0).val + (i 1).val) (pairCol (64 * (i 2).val) + (i 3).val) :=
  feature_q x2 i

/-- The logits. -/
theorem logit_at (i : S8x8x2048x2048.Idx) (d : ℕ) (hd : d < 64) :
    val_main_v26 (F := Ideal) x0 x1 x2 i
      = rowLogit x0 x1 x2 (2048 * (i 0).val + (i 2).val) (64 * (i 1).val + d) (i 3).val := by
  have h0 : (i 0).val < 8 := (i 0).isLt
  have h1 : (i 1).val < 8 := (i 1).isLt
  have h2 : (i 2).val < 2048 := (i 2).isLt
  have h3 : (i 3).val < 2048 := (i 3).isLt
  have hR : (2048 * (i 0).val + (i 2).val) / 2048 = (i 0).val := by omega
  have hR' : (2048 * (i 0).val + (i 2).val) % 2048 = (i 2).val := by omega
  have hC : headCol (64 * (i 1).val + d) = 64 * (i 1).val := by unfold headCol; omega
  have hP : pairCol (64 * (i 1).val + d) = pairCol (64 * (i 1).val) := by unfold pairCol; omega
  rw [val_main_v26_apply, val_main_call0_v1_apply, val_main_v25_apply, val_main_v23_apply, val_main_v24_apply,
    val_main_v20_apply, val_main_v22_apply, val_main_v19_apply, val_main_v21_apply, val_main_v18_apply,
    val_main_v16_apply, val_main_v17_apply, rowLogit, hR, hR', hC, hP]
  dsimp only
  rw [cmpi_sge_ofNat (by omega) (by omega), FoxIdeal.Tile.select_dec]
  refine if_congr Iff.rfl ?_ ?_
  · refine congrArg₂ (· + ·) (Finset.sum_congr rfl fun k _ => ?_) (Finset.sum_congr rfl fun k _ => ?_)
    · rw [query_at, key_at]
    · rw [feature_q, feature_k]
  · rw [val_main_call0_v2_apply]
    exact FoxIdeal.Tile.ninf_val

/-- The largest logit of a row. -/
theorem max_at (i : S8x8x2048.Idx) (d : ℕ) (hd : d < 64) :
    val_main_v27 (F := Ideal) x0 x1 x2 i
      = top (rowLogit x0 x1 x2 (2048 * (i 0).val + (i 2).val) (64 * (i 1).val + d)) 2048 := by
  have hl := logit_at x0 x1 x2
  unfold val_main_v27 val_main_cst_0
  generalize val_main_v26 (F := Ideal) x0 x1 x2 = y at hl ⊢
  rw [← fold_top]
  pointwise
  refine (congrArg (fun b => Finset.univ.fold max b _) FoxIdeal.Tile.ninf_val).trans ?_
  refine Finset.fold_congr fun k _ => ?_
  exact hl _ d hd

/-- The power of two, as an exponential. -/
theorem two_pow (x : EReal) : FloatOps.hostPowf (F := Ideal) (φ := .f32) (Ideal.ofBits .f32 0x40000000#32) x = Ideal.exp2 x := by
  have h2 : Ideal.ofBits .f32 0x40000000#32 = ((2 : ℝ) : EReal) := by
    simp [Ideal.ofBits, Ideal.ieee]
    rw [← EReal.coe_mul]
    norm_num
  rw [h2]
  show Ideal.pow ((2 : ℝ) : EReal) x = Ideal.exp2 x
  induction x with
  | bot => rw [Ideal.pow_coe_bot, if_neg (by norm_num), if_pos (by norm_num)]; rfl
  | top => rw [Ideal.pow_coe_top, if_neg (by norm_num), if_pos (by norm_num)]; rfl
  | coe r => rfl

/-- A weight. -/
theorem weight_at (i : S8x8x2048x2048.Idx) (d : ℕ) (hd : d < 64) :
    val_main_v32 (F := Ideal) x0 x1 x2 i
      = Ideal.exp2 (rowLogit x0 x1 x2 (2048 * (i 0).val + (i 2).val) (64 * (i 1).val + d) (i 3).val
          - top (rowLogit x0 x1 x2 (2048 * (i 0).val + (i 2).val) (64 * (i 1).val + d)) 2048) := by
  rw [val_main_v32_apply, val_main_v31_apply, val_main_cst_1_apply]
  refine (two_pow _).trans (congrArg Ideal.exp2 ?_)
  rw [val_main_v30_apply, logit_at x0 x1 x2 i d hd, val_main_v29_apply, val_main_v28_apply, max_at x0 x1 x2 _ d hd]
  rfl

/-- The sum of a row's weights. -/
theorem total_at (i : S8x8x2048.Idx) (d : ℕ) (hd : d < 64) :
    val_main_v33 (F := Ideal) x0 x1 x2 i
      = ∑ k ∈ Finset.range 2048, Ideal.exp2 (rowLogit x0 x1 x2 (2048 * (i 0).val + (i 2).val) (64 * (i 1).val + d) k
          - top (rowLogit x0 x1 x2 (2048 * (i 0).val + (i 2).val) (64 * (i 1).val + d)) 2048) := by
  rw [val_main_v33_apply, val_main_cst_2_apply, Finset.sum_range]
  refine (congrArg (· + _) (show FloatOps.ofBits (F := Ideal) .f32 0x00000000#32 = (0 : EReal) from ?_)).trans ?_
  · exact Ideal.ofBits_zero_f32
  rw [zero_add]
  exact Finset.sum_congr rfl fun k _ => weight_at x0 x1 x2 _ d hd

/-- The reference's attention: every weight by the sum of its row's, then the values. -/
def softmax (A0 : S16384x1536.Idx → EReal) (A1 A2 : S16384x512.Idx → EReal) (R C : ℕ) : EReal :=
  ∑ k ∈ Finset.range 2048,
    Ideal.div (Ideal.exp2 (rowLogit A0 A1 A2 R C k - top (rowLogit A0 A1 A2 R C) 2048))
      (∑ j ∈ Finset.range 2048, Ideal.exp2 (rowLogit A0 A1 A2 R C j - top (rowLogit A0 A1 A2 R C) 2048))
      * at2 A0 (2048 * (R / 2048) + k) (1024 + C)

theorem ref_at (i : S16384x512.Idx) :
    val_main_v40 (F := Ideal) x0 x1 x2 i = softmax x0 x1 x2 (i 0).val (i 1).val := by
  have h0 : (i 0).val < 16384 := (i 0).isLt
  have h1 : (i 1).val < 512 := (i 1).isLt
  have q0 : ((i 0).val * 512 + (i 1).val) / 1048576 = (i 0).val / 2048 := by omega
  have q1 : ((i 0).val * 512 + (i 1).val) / 512 % 2048 = (i 0).val % 2048 := by omega
  have q2 : ((i 0).val * 512 + (i 1).val) / 64 % 8 = (i 1).val / 64 := by omega
  have q3 : ((i 0).val * 512 + (i 1).val) % 64 = (i 1).val % 64 := by omega
  have r0 : 2048 * ((i 0).val / 2048) + (i 0).val % 2048 = (i 0).val := by omega
  have r1 : 64 * ((i 1).val / 64) + (i 1).val % 64 = (i 1).val := by omega
  have hd : (i 1).val % 64 < 64 := by omega
  rw [val_main_v40_apply, val_main_v39_apply, val_main_v38_apply, val_main_v37_apply, softmax, Finset.sum_range]
  refine Finset.sum_congr rfl fun k _ => ?_
  rw [val_main_v36_apply, weight_at x0 x1 x2 _ _ hd, val_main_v35_apply, val_main_v34_apply,
    total_at x0 x1 x2 _ _ hd, value_at]
  dsimp only
  rw [q0, q1, q2, q3, r0, r1, mul_comm]
  rfl

/-- A real number among the extended ones. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩

theorem IsReal.at2 {a b : ℕ} {x : (⟨2, ![a, b]⟩ : Shape).Idx → EReal} (i j : ℕ)
    (h : ∀ (hi : i < a) (hj : j < b), IsReal (x (ix2 ⟨i, hi⟩ ⟨j, hj⟩))) : IsReal (at2 x i j) := by
  unfold Online.at2
  split
  · exact h _ _
  · exact ⟨0, rfl⟩

/-- What the precondition says of an element: it is a real number. -/
theorem isReal_of_lt {x : EReal} (h : max x (-x) < ⊤) : IsReal x := by
  induction x with
  | bot => simp at h
  | top => simp at h
  | coe r => exact ⟨r, rfl⟩

/-- The queries, the keys and the features are real numbers. -/
structure Finite : Prop where
  qk : ∀ (R : Fin 16384) (C : ℕ) (h : C < 1536), C < 1024 → IsReal (x0 (ix2 R ⟨C, h⟩))
  fq : ∀ i, IsReal (x1 i)
  fk : ∀ i, IsReal (x2 i)

/-- With them real, the kernel's attention and the reference's are one. -/
theorem soft_eq (h : Finite x0 x1 x2) (R C : ℕ) (hR : R < 16384) (hC : C < 512) :
    softmax x0 x1 x2 R C = spec x0 x1 x2 R C := by
  have hh : headCol C + 64 ≤ 512 := by unfold headCol; omega
  have hreal : ∀ k, k ≤ R % 2048 → IsReal (rowLogit x0 x1 x2 R C k) := fun k hk => by
    rw [rowLogit, if_pos hk]
    refine IsReal.add (IsReal.sum fun d => IsReal.mul ?_ ?_) (IsReal.sum fun d => IsReal.mul ?_ ?_)
    · exact IsReal.at2 _ _ fun hi hj => h.qk _ _ _ (by omega)
    · exact IsReal.at2 _ _ fun hi hj => h.qk _ _ _ (by omega)
    · exact IsReal.at2 _ _ fun hi hj => h.fq _
    · exact IsReal.at2 _ _ fun hi hj => h.fk _
  have hb : top (rowLogit x0 x1 x2 R C) 2048 ≠ ⊥ := fun e => by
    have hle := le_top (rowLogit x0 x1 x2 R C) (show 0 < 2048 by omega)
    obtain ⟨r, hr⟩ := hreal 0 (Nat.zero_le _)
    rw [e, hr, le_bot_iff] at hle
    exact EReal.coe_ne_bot r hle
  have ht : top (rowLogit x0 x1 x2 R C) 2048 ≠ ⊤ := by
    refine ne_of_lt ((Finset.sup_lt_iff bot_lt_top).2 fun k _ => ?_)
    by_cases hk : k ≤ R % 2048
    · obtain ⟨r, hr⟩ := hreal k hk
      rw [hr]; exact EReal.coe_lt_top r
    · rw [rowLogit, if_neg hk]; exact bot_lt_top
  rw [softmax, spec, attend]
  refine (div_weighed _ (fun k => at2 x0 (2048 * (R / 2048) + k) (1024 + C)) 2048 hb ht).symm.trans (congrArg _ ?_)
  exact Finset.sum_congr rfl fun k _ => (mul_one _).symm

/-- The side conditions of the precondition's operations. -/
theorem pre_facts : Cert.Pre_finite_scores.Facts where
  slices_S16384x1536_S16384x512_0_0 := by decide
  bcast_S_S16384x512 := by decide
  slices_S16384x1536_S16384x512_0_512 := by decide

theorem and_ofBool (a b : Bool) : IntOp.andi (BitVec.ofBool a) (BitVec.ofBool b) = BitVec.ofBool (a && b) := by
  cases a <;> cases b <;> rfl

theorem of_ofBool {a : Bool} (h : BitVec.ofBool a = 1#1) : a = true := by
  cases a
  · exact absurd h (by decide)
  · rfl

/-- The precondition, read element by element. -/
theorem finite_of_pre [Cert.Pre_finite_scores.Facts] (h : Cert.Pre_finite_scores.fn (F := Ideal) x0 x1 x2 = fun _ => 1#1) :
    Finite x0 x1 x2 := by
  have hinf : Ideal.ofBits .bf16 0x7F80#16 = ⊤ := by
    simp [Ideal.ofBits, Ideal.ieee]
  have key : ∀ (R : Fin 16384) (C : Fin 512), (IsReal (x0 (ix2 R ⟨C.val, by omega⟩)) ∧ IsReal (x0 (ix2 R ⟨512 + C.val, by omega⟩)))
      ∧ IsReal (x1 (ix2 R C)) ∧ IsReal (x2 (ix2 R C)) := fun R C => by
    have hi := congrFun h (ix2 R C)
    pointwise [Cert.Pre_finite_scores.fn] at hi
    rw [hinf, and_ofBool, and_ofBool, and_ofBool] at hi
    have hb := of_ofBool hi
    simp only [Bool.and_eq_true, decide_eq_true_eq] at hb
    exact ⟨⟨isReal_of_lt hb.1.1.1, isReal_of_lt hb.1.1.2⟩, isReal_of_lt hb.1.2, isReal_of_lt hb.2⟩
  refine ⟨fun R C hC hlt => ?_, fun i => ?_, fun i => ?_⟩
  · by_cases hc : C < 512
    · exact (key R ⟨C, hc⟩).1.1
    · have := (key R ⟨C - 512, by omega⟩).1.2
      simpa [Nat.add_sub_cancel' (not_lt.1 hc)] using this
  · rw [eq_ix2 i]; exact (key (i 0) (i 1)).2.1
  · rw [eq_ix2 i]; exact (key (i 0) (i 1)).2.2

end Cert.FoxRefIdeal.Soft
-- ==== Proof.FoxClaims.lean ====
/-
  The claims about the attention.
-/
module

public import proofs.«01_k».proof.Defs
public import proofs.«01_k».proof.Proof.Gen.Fox.Frame
public import proofs.«01_k».proof.Proof.Gen.FoxRefIdeal.Run
public import proofs.«01_k».proof.Proof.FoxReference
public import Idealize.ShloMosaic.Lib.Quiescent

@[expose] public section

set_option maxRecDepth 16384

noncomputable section

namespace Cert.Proof.FoxClaims

open Idealize.ShloMosaic Idealize.ShloMosaic.TcCoe Idealize.SL.Sem

instance hFox : Cert.Fox.Facts := Cert.Fox.Gen.facts
instance hFoxIdeal : Cert.FoxIdeal.Facts := Cert.FoxIdeal.Gen.facts
instance hFoxRefIdeal : Cert.FoxRefIdeal.Facts := Cert.FoxRefIdeal.Gen.facts
instance hPre : Cert.Pre_finite_scores.Facts := Cert.FoxRefIdeal.Soft.pre_facts

theorem frame_p : Cert.quiescent_Fox := fun m ρ _ => Cert.Fox.Gen.frame m ρ

theorem frame_pi : Cert.quiescent_FoxIdeal := fun m ρ _ => Cert.FoxIdeal.Gen.frame m ρ

theorem frame_pi_pre : Cert.quiescent_FoxIdeal_pre_finite_scores := fun m ρ _ => Cert.FoxIdeal.Gen.frame m ρ

theorem frame_ri : Cert.quiescent_FoxRefIdeal := fun m ρ _ =>
  (θ_run Cert.FoxRefIdeal.defs _ _).mono (fun r h => ⟨fun c => (h c).2, sem_eq_zero_of_no_sems rfl r.2⟩)
    (Cert.FoxRefIdeal.Value.run (F := Ideal) m ρ)

theorem frame_ri_pre : Cert.quiescent_FoxRefIdeal_pre_finite_scores := fun m ρ _ => frame_ri m ρ trivial

theorem preserves : Cert.preserves_Fox_FoxIdeal :=
  IdealRules.named_const.statement Cert.FoxIdeal.κ "mask" .f32 0xF149F2CA#32 ⊥ rfl

/-- The kernel's result and the reference's are one array. -/
theorem algebraic : Cert.algebraic_FoxIdeal_FoxRefIdeal_pre_finite_scores := fun m ρ m' ρ' hpre hag =>
  ⟨fun c => Cert.FoxIdeal.Kernel.result m c, Cert.FoxIdeal.Kernel.run m ρ,
    (θ_run Cert.FoxRefIdeal.defs _ _).mono
      (fun _ h c => ⟨(h c).1.trans (by
        have hfin := Cert.FoxRefIdeal.Soft.finite_of_pre _ _ _ (hpre c)
        rw [Cert.FoxRefIdeal.Read.val_main_v40_eq, (hag c).1, (hag c).2.1, (hag c).2.2]
        funext i
        exact (Cert.FoxRefIdeal.Soft.ref_at _ _ _ i).trans
          (Cert.FoxRefIdeal.Soft.soft_eq _ _ _ hfin _ _ (i 0).isLt (i 1).isLt)), (h c).2⟩)
      (Cert.FoxRefIdeal.Value.run (F := Ideal) m' ρ')⟩

end Cert.Proof.FoxClaims

end
-- ==== Proof.Layer.lean ====
/-
  The row functions the calls of the layer share, over the extended reals.
-/
module

public import Idealize.ShloMosaic.Lib.Pointwise
public import Idealize.ShloMosaic.Lib.Pipeline.Value
public import Idealize.ShloMosaic.Lib.Pipeline.ValueKit

@[expose] public section

noncomputable section

namespace Cert.Layer

open Idealize.ShloMosaic

/-- The reciprocal root of a row's mean square, the number of its elements and the offset given. -/
def scale {n : ℕ} (len eps : EReal) (x : Fin n → EReal) : EReal :=
  Ideal.rsqrt (Ideal.div (∑ d, x d * x d) len + eps)

/-- A row normalised by its root mean square, with a gain. -/
def rms {n : ℕ} (len eps : EReal) (x g : Fin n → EReal) (k : Fin n) : EReal := x k * scale len eps x * g k

/-- The words of 1024 and of the offset 1e-6. -/
def len1024 : EReal := Ideal.ofBits .f32 0x44800000#32
def eps6 : EReal := Ideal.ofBits .f32 0x358637BD#32

theorem hz : (![0, 0] : Fin 2 → Nat) = fun _ => 0 := funext fun a => by fin_cases a <;> rfl

/-- A box of a matrix at an index, and a load from it. -/
theorem emb_at {n0 n1 p q : ℕ} (a b : ℕ) (inb : ∀ i, ![a, b] i + ![p, q] i ≤ (⟨2, ![n0, n1]⟩ : Shape).size i) (r : Fin p) (c : Fin q) :
    (Rect.unit (s := ⟨2, ![n0, n1]⟩) ![a, b] ![p, q] inb).emb (ix2 r c)
      = ix2 ⟨a + r.val, lt_of_lt_of_le (Nat.add_lt_add_left r.isLt a) (inb 0)⟩
          ⟨b + c.val, lt_of_lt_of_le (Nat.add_lt_add_left c.isLt b) (inb 1)⟩ := by
  funext i
  refine Fin.ext ?_
  match i with
  | ⟨0, _⟩ => show a + 1 * r.val = a + r.val; omega
  | ⟨1, _⟩ => show b + 1 * c.val = b + c.val; omega

theorem emb0_at {n0 n1 p q : ℕ} (b : ℕ) (inb : ∀ i, ![0, b] i + ![p, q] i ≤ (⟨2, ![n0, n1]⟩ : Shape).size i) (r : Fin p) (c : Fin q) :
    (Rect.unit (s := ⟨2, ![n0, n1]⟩) ![0, b] ![p, q] inb).emb (ix2 r c)
      = ix2 ⟨r.val, lt_of_lt_of_le r.isLt (le_trans (Nat.le_add_left p 0) (inb 0))⟩
          ⟨b + c.val, lt_of_lt_of_le (Nat.add_lt_add_left c.isLt b) (inb 1)⟩ := by
  rw [emb_at]
  simp only [zero_add]
  rfl

theorem ld_at {e : EltTy} {n0 n1 p q : ℕ} (x : Vec Ideal ⟨2, ![n0, n1]⟩ e) (a b : ℕ)
    (inb : ∀ i, ![a, b] i + ![p, q] i ≤ (⟨2, ![n0, n1]⟩ : Shape).size i) (r : Fin p) (c : Fin q) :
    View.ld (Val := Elt Ideal) x (Rect.unit (s := ⟨2, ![n0, n1]⟩) ![a, b] ![p, q] inb) (ix2 r c)
      = x (ix2 ⟨a + r.val, lt_of_lt_of_le (Nat.add_lt_add_left r.isLt a) (inb 0)⟩
          ⟨b + c.val, lt_of_lt_of_le (Nat.add_lt_add_left c.isLt b) (inb 1)⟩) :=
  congrArg x (emb_at a b inb r c)

end Cert.Layer
-- ==== Proof.FfnKernel.lean ====
/-
  The feed-forward kernel's result array as one function of its argument arrays. Each of the sixteen grid points takes
  1024 rows; the activations are written to a scratch array in eleven tiles of 256 columns and multiplied by the second
  weight from there.
-/
module

public import proofs.«01_k».proof.Proof.Gen.FfnIdeal.Value
public import proofs.«01_k».proof.Proof.Layer

@[expose] public section

set_option maxRecDepth 16384

noncomputable section

namespace Cert.FfnIdeal.Kernel

open Cert.FfnIdeal Cert.FfnIdeal.Gen Cert.Layer Idealize.ShloMosaic Idealize.ShloMosaic.TcCoe Idealize.SL.Sem
open Idealize.ShloMosaic.Pipeline (Dat)

/-- A column of the first product of a row. -/
def gate (h g : Fin 1024 → EReal) (w : S1024x5632.Idx → EReal) (j : Fin 5632) : EReal :=
  ∑ k, rms len1024 eps6 h g k * w (ix2 k j)

/-- An activation of a row. -/
def act (h g : Fin 1024 → EReal) (w : S1024x5632.Idx → EReal) (j : Fin 2816) : EReal :=
  gate h g w ⟨j.val, by omega⟩ * Ideal.logistic (gate h g w ⟨j.val, by omega⟩) * gate h g w ⟨2816 + j.val, by omega⟩

/-- The feed-forward block on a row, its residual included. -/
def spec (h g : Fin 1024 → EReal) (w : S1024x5632.Idx → EReal) (d : S2816x1024.Idx → EReal) (c : Fin 1024) : EReal :=
  h c + ∑ j, act h g w j * d (ix2 j c)

/-! ## The block -/

theorem norm_apply (x0 : Vec Ideal S1024x1024 .f32) (x1 : Vec Ideal S1x1024 .f32) (r k : Fin 1024) :
    k0_pay3 x0 x1 (ix2 r k) = rms len1024 eps6 (fun k => x0 (ix2 r k)) (fun k => x1 (ix2 0 k)) k := by
  pointwise [k0_pay3]
  rfl

/-- A tile of the activations. -/
def chunk {F : FTy → Type} [FloatOps F] (n : FVec F S1024x1024 .bf16) (a b : Vec F S1024x256 .bf16) : FVec F S1024x256 .bf16 :=
  k0_pay8 n a b

theorem chunk_apply (n : FVec Ideal S1024x1024 .bf16) (a b : Vec Ideal S1024x256 .bf16) (r : Fin 1024) (c : Fin 256) :
    chunk n a b (ix2 r c) = (∑ k : Fin 1024, n (ix2 r k) * a (ix2 k c)) * Ideal.logistic (∑ k : Fin 1024, n (ix2 r k) * a (ix2 k c))
      * ∑ k : Fin 1024, n (ix2 r k) * b (ix2 k c) := by
  pointwise [chunk, k0_pay8]

/-- The scratch array of the activations. -/
def acts (x0 : Vec Ideal S1024x1024 .f32) (x1 : Vec Ideal S1x1024 .f32) (x2 : Vec Ideal S1024x5632 .bf16) :
    S1024x2816.Idx → EReal :=
  fun i => act (fun k => x0 (ix2 (i 0) k)) (fun k => x1 (ix2 0 k)) x2 (i 1)

/-- The tile at column `o` is that part of the activations. -/
theorem chunk_at (x0 : Vec Ideal S1024x1024 .f32) (x1 : Vec Ideal S1x1024 .f32) (x2 : Vec Ideal S1024x5632 .bf16) (o o' : ℕ)
    (ho : o + 256 ≤ 2816) (ho' : o' = 2816 + o) (i1 : ∀ a, ![0, o] a + ![1024, 256] a ≤ S1024x5632.size a)
    (i2 : ∀ a, ![0, o'] a + ![1024, 256] a ≤ S1024x5632.size a) (i3 : ∀ a, ![0, o] a + ![1024, 256] a ≤ S1024x2816.size a)
    (x : S1024x256.Idx) :
    chunk (k0_pay3 x0 x1) (View.ld x2 (Rect.unit (s := S1024x5632) ![0, o] ![1024, 256] i1))
        (View.ld x2 (Rect.unit (s := S1024x5632) ![0, o'] ![1024, 256] i2)) x
      = acts x0 x1 x2 ((Rect.unit (s := S1024x2816) ![0, o] ![1024, 256] i3).emb x) := by
  subst ho'
  obtain ⟨r, c, rfl⟩ : ∃ r c, x = ix2 r c := ⟨x 0, x 1, eq_ix2 x⟩
  have hr : (Rect.unit (s := S1024x2816) ![0, o] ![1024, 256] i3).emb (ix2 r c) = ix2 r ⟨o + c.val, by omega⟩ := by
    funext a
    refine Fin.ext ?_
    match a with
    | ⟨0, _⟩ => show 0 + 1 * r.val = r.val; omega
    | ⟨1, _⟩ => show o + 1 * c.val = o + c.val; omega
  have hl : ∀ (q : ℕ) (hq : q + 256 ≤ 5632) (iq : ∀ a, ![0, q] a + ![1024, 256] a ≤ S1024x5632.size a) (k : Fin 1024),
      View.ld x2 (Rect.unit (s := S1024x5632) ![0, q] ![1024, 256] iq) (ix2 k c) = x2 (ix2 k ⟨q + c.val, by omega⟩) := by
    intro q hq iq k
    refine congrArg x2 (funext fun a => Fin.ext ?_)
    match a with
    | ⟨0, _⟩ => show 0 + 1 * k.val = k.val; omega
    | ⟨1, _⟩ => show q + 1 * c.val = q + c.val; omega
  rw [hr, chunk_apply]
  simp only [norm_apply, hl o (by omega), hl (2816 + o) (by omega)]
  show _ = act _ _ _ _
  unfold act gate
  simp only [Nat.add_assoc]
  rfl

/-- What the kernel stores in a grid point, at an index. -/
theorem out_A (c : Dev nD) (i : grid0.Coords) (a1 : Memref sig .tc .vmem S1024x1024 .f32) (h1 : a1.IsWhole)
    (a2 : Memref sig .tc .vmem S1x1024 .f32) (h2 : a2.IsWhole) (a3 : Memref sig .tc .vmem S1024x5632 .bf16) (h3 : a3.IsWhole)
    (a4 : Memref sig .tc .vmem S2816x1024 .bf16) (h4 : a4.IsWhole) (a5 : Memref sig .tc .vmem S1024x1024 .f32) (h5 : a5.IsWhole)
    (a6 : Memref sig .tc .vmem S1024x2816 .bf16) (h6 : a6.IsWhole) (x0 : Vec Ideal S1024x1024 .f32) (x1 : Vec Ideal S1x1024 .f32)
    (x2 : Vec Ideal S1024x5632 .bf16) (x3 : Vec Ideal S2816x1024 .bf16) :
    out0_A_4 c i a1 h1 a2 h2 a3 h3 a4 h4 a5 h5 a6 h6 x0 x1 x2 x3 = k0_pay2 x0 (acts x0 x1 x2) x3 := by
  unfold out0_A_4
  rw [View.read_writes_eq_canon _ _ _ (cover0_A_4 c i a1 h1 a2 h2 a3 h3 a4 h4 a5 h5 a6 h6 x0 x1 x2 x3)]
  unfold kernelRun0_A
  dsimp only
  sl_unfold_words
  rw [View.canon_unit_zero (S := S1024x1024) hz]
  simp only [View.readAt_eq_ld, h1.read_unread, h2.read_unread, h4.read_unread, View.ld_unit_zero (S := S1024x1024) hz,
    View.ld_unit_zero (S := S1x1024) hz, View.ld_unit_zero (S := S2816x1024) hz, h3.read_unread]
  refine congrArg (fun A => k0_pay2 x0 A x3) ?_
  rw [View.readCov_eq_canon']
  funext y
  rw [show (Rect.unit (s := S1024x2816) ![0, 0] ![1024, 2816] inb_S1024x2816_S1024x2816_0_0).toLoadRect.idx y = y from
    funext fun a => Fin.ext (by
      match a with
      | ⟨0, _⟩ => show 0 + 1 * (y 0).val = (y 0).val; omega
      | ⟨1, _⟩ => show 0 + 1 * (y 1).val = (y 1).val; omega)]
  refine View.canon_apply_of_pieces (Val := Elt Ideal) (S := S1024x2816) (e := .bf16) (acts x0 x1 x2) _ ?_ y
    (View.cover_of_tiledL (s := S1024x2816) _ S1024x256.size (by sl_kernel_rfl) y)
  simp only [List.forall_mem_cons, List.not_mem_nil, false_implies, implies_true, and_true]
  refine ⟨?_, ?_, ?_, ?_, ?_, ?_, ?_, ?_, ?_, ?_, ?_⟩ <;> intro x <;> exact chunk_at x0 x1 x2 _ _ (by omega) (by omega) _ _ _ x

theorem out_apply (x0 : Vec Ideal S1024x1024 .f32) (x1 : Vec Ideal S1x1024 .f32) (x2 : Vec Ideal S1024x5632 .bf16)
    (x3 : Vec Ideal S2816x1024 .bf16) (r k : Fin 1024) :
    k0_pay2 x0 (acts x0 x1 x2) x3 (ix2 r k) = spec (fun k => x0 (ix2 r k)) (fun k => x1 (ix2 0 k)) x2 x3 k := by
  pointwise [k0_pay2]
  rfl

/-! ## The array -/

variable (m : (ℓ : Loc nD τ sig) → Buf (Elt Ideal) ℓ)

abbrev arr0 (c : Dev nD) : S16384x1024.Idx → EReal := m ((c : Thread nD τ).loc main_arg0)
abbrev arr1 (c : Dev nD) : S1x1024.Idx → EReal := m ((c : Thread nD τ).loc main_arg1)
abbrev arr2 (c : Dev nD) : S1024x5632.Idx → EReal := m ((c : Thread nD τ).loc main_arg2)
abbrev arr3 (c : Dev nD) : S2816x1024.Idx → EReal := m ((c : Thread nD τ).loc main_arg3)

theorem index_facts : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) := by decide +kernel

theorem lt16 (t : Fin cfg0.N) : t.val < 16 := lt_of_lt_of_eq t.isLt N_0

theorem blk0 (c : Dev nD) (t : Fin cfg0.N) (i j : Fin 1024) :
    (iblk m c 0 t : S1024x1024.Idx → EReal) (ix2 i j)
      = arr0 m c (ix2 ⟨1024 * t.val + i.val, by have := lt16 t; omega⟩ j) := by
  have hx := (index_facts t).1
  refine congrArg (arr0 m c) (funext fun a => Fin.ext ?_)
  match a with
  | ⟨0, _⟩ => show win0_0.index t 0 * 1024 + 1 * i.val = _; rw [hx.1]; show _ = 1024 * t.val + i.val; omega
  | ⟨1, _⟩ => show win0_0.index t 1 * 1024 + 1 * j.val = _; rw [hx.2]; show _ = j.val; omega

theorem blk1 (c : Dev nD) (t : Fin cfg0.N) : (iblk m c 1 t : S1x1024.Idx → EReal) = arr1 m c := by
  have hx := (index_facts t).2.1
  funext x
  refine congrArg (arr1 m c) (funext fun a => Fin.ext ?_)
  match a with
  | ⟨0, _⟩ => show win0_1.index t 0 * 1 + 1 * (x 0).val = (x 0).val; rw [hx.1]; omega
  | ⟨1, _⟩ => show win0_1.index t 1 * 1024 + 1 * (x 1).val = (x 1).val; rw [hx.2]; omega

theorem blk2 (c : Dev nD) (t : Fin cfg0.N) : (iblk m c 2 t : S1024x5632.Idx → EReal) = arr2 m c := by
  have hx := (index_facts t).2.2.1
  funext x
  refine congrArg (arr2 m c) (funext fun a => Fin.ext ?_)
  match a with
  | ⟨0, _⟩ => show win0_2.index t 0 * 1024 + 1 * (x 0).val = (x 0).val; rw [hx.1]; omega
  | ⟨1, _⟩ => show win0_2.index t 1 * 5632 + 1 * (x 1).val = (x 1).val; rw [hx.2]; omega

theorem blk3 (c : Dev nD) (t : Fin cfg0.N) : (iblk m c 3 t : S2816x1024.Idx → EReal) = arr3 m c := by
  have hx := (index_facts t).2.2.2.1
  funext x
  refine congrArg (arr3 m c) (funext fun a => Fin.ext ?_)
  match a with
  | ⟨0, _⟩ => show win0_3.index t 0 * 2816 + 1 * (x 0).val = (x 0).val; rw [hx.1]; omega
  | ⟨1, _⟩ => show win0_3.index t 1 * 1024 + 1 * (x 1).val = (x 1).val; rw [hx.2]; omega

/-- The result array. -/
def result (c : Dev nD) : S16384x1024.Idx → EReal :=
  fun i => spec (fun k => arr0 m c (ix2 (i 0) k)) (fun k => arr1 m c (ix2 0 k)) (arr2 m c) (arr3 m c) (i 1)

theorem flushed_eq (c : Dev nD) (t : Fin cfg0.N) (hf : (cfg0.win 4).flush t = true) :
    (dats m 0 c).flushed 4 t = ((cfg0.win 4).blk t).view.read (Elt Ideal) (result m c) := by
  rw [Value.flushed4_A, out_A]
  have hx := (index_facts t).2.2.2.2
  funext x
  obtain ⟨r, k, rfl⟩ : ∃ r k, x = ix2 (n0 := 1024) (n1 := 1024) r k := ⟨x 0, x 1, eq_ix2 x⟩
  show k0_pay2 (iblk m c 0 t) (acts (iblk m c 0 t) (iblk m c 1 t) (iblk m c 2 t)) (iblk m c 3 t) (ix2 r k) = _
  rw [out_apply, blk1, blk2, blk3]
  simp only [blk0]
  have e : ((cfg0.win 4).blk t).view.emb (ix2 r k) = ix2 (n0 := 16384) (n1 := 1024) ⟨1024 * t.val + r.val, by have := lt16 t; omega⟩ k := by
    funext a
    refine Fin.ext ?_
    match a with
    | ⟨0, _⟩ => show win0_4.index t 0 * 1024 + 1 * r.val = 1024 * t.val + r.val; rw [hx.1]; omega
    | ⟨1, _⟩ => show win0_4.index t 1 * 1024 + 1 * k.val = k.val; rw [hx.2]; omega
  show _ = result m c (((cfg0.win 4).blk t).view.emb (ix2 r k))
  rw [e]
  rfl

theorem mem_blk (t : Fin cfg0.N) (i : S16384x1024.Idx) :
    i ∈ ((cfg0.win 4).blk t).view.set ↔ (i 0).val / 1024 = t.val := by
  have hx := (index_facts t).2.2.2.2
  have hi : (i 1).val < 1024 := (i 1).isLt
  show i ∈ ((View.whole main_v0).slice (win0_4.rect t)).set ↔ _
  rw [View.set_slice_whole, Rect.mem_set_unit]
  constructor
  · intro h
    have h0 : win0_4.index t 0 * 1024 ≤ (i 0).val ∧ (i 0).val < win0_4.index t 0 * 1024 + 1024 := h 0
    rw [hx.1] at h0
    omega
  · intro h a
    match a with
    | ⟨0, _⟩ => show win0_4.index t 0 * 1024 ≤ (i 0).val ∧ (i 0).val < win0_4.index t 0 * 1024 + 1024; rw [hx.1]; omega
    | ⟨1, _⟩ => show win0_4.index t 1 * 1024 ≤ (i 1).val ∧ (i 1).val < win0_4.index t 1 * 1024 + 1024; rw [hx.2]; omega

theorem final (c : Dev nD) : (dats m 0 c).arrAt 4 cfg0.N = result m c :=
  (dats m 0 c).arrAt_eq_of_cover 4 (result m c) (flushed_eq m c) fun i => by
    have h0 : (i 0).val < 16384 := (i 0).isLt
    refine ⟨⟨(i 0).val / 1024, by rw [show cfg0.N = 16 from N_0]; omega⟩, flush0_4 _, ?_⟩
    rw [mem_blk]

/-- The kernel's run: the result is the feed-forward block, the arguments are as they were. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.FfnIdeal.Kernel
-- ==== Proof.FfnReference.lean ====
/-
  The feed-forward reference's result at an index.
-/
module

public import proofs.«01_k».proof.Proof.Gen.FfnRefIdeal.Read
public import proofs.«01_k».proof.Proof.FfnKernel

@[expose] public section

set_option maxRecDepth 16384

noncomputable section

namespace Cert.FfnRefIdeal.Rows

open Cert.FfnRefIdeal Cert.FfnRefIdeal.Gen Cert.FfnRefIdeal.Read Cert.Layer Idealize.ShloMosaic Idealize.ShloMosaic.TcCoe
open Cert.FfnIdeal.Kernel (gate act spec)

variable (x0 : S16384x1024.Idx → EReal) (x1 : S1x1024.Idx → EReal) (x2 : S1024x5632.Idx → EReal) (x3 : S2816x1024.Idx → EReal)

theorem norm_at (r : Fin 16384) (k : Fin 1024) :
    val_main_v11 (F := Ideal) x0 x1 (ix2 r k) = rms len1024 eps6 (fun k => x0 (ix2 r k)) (fun k => x1 (ix2 0 k)) k := by
  pointwise [val_main_v11, val_main_v10, val_main_v9, val_main_v8, val_main_v7, val_main_v6, val_main_v5, val_main_cst_1,
    val_main_v4, val_main_v3, val_main_cst_0, val_main_v2, val_main_v1, val_main_cst, val_main_v0]
  rfl

theorem gate_at (r : Fin 16384) (j : Fin 5632) :
    val_main_v13 (F := Ideal) x0 x1 x2 (ix2 r j) = gate (fun k => x0 (ix2 r k)) (fun k => x1 (ix2 0 k)) x2 j := by
  pointwise [val_main_v13, val_main_v12]
  simp only [norm_at]
  rfl

theorem act_at (r : Fin 16384) (j : Fin 2816) :
    val_main_v17 (F := Ideal) x0 x1 x2 (ix2 r j) = act (fun k => x0 (ix2 r k)) (fun k => x1 (ix2 0 k)) x2 j := by
  pointwise [val_main_v17, val_main_v16, val_main_v15, val_main_call0_v5, val_main_call0_v4, val_main_call0_cst_0,
    val_main_call0_v3, val_main_call0_v2, val_main_call0_cst, val_main_call0_v1, val_main_call0_v0, val_main_v14]
  simp only [gate_at, Ideal.ofBits_one_f32]
  unfold act Ideal.logistic
  simp only [Nat.add_comm]

theorem ref_at (r : Fin 16384) (c : Fin 1024) :
    val_main_v20 (F := Ideal) x0 x1 x2 x3 (ix2 r c) = spec (fun k => x0 (ix2 r k)) (fun k => x1 (ix2 0 k)) x2 x3 c := by
  pointwise [val_main_v20, val_main_v19, val_main_v18]
  simp only [act_at]
  rfl

end Cert.FfnRefIdeal.Rows
-- ==== Proof.FfnClaims.lean ====
/-
  The claims about the feed-forward block.
-/
module

public import proofs.«01_k».proof.Proof.Gen.FfnIdeal.Value
public import proofs.«01_k».proof.Proof.Gen.FfnRefIdeal.Read
public import proofs.«01_k».proof.Proof.FfnReference
public import proofs.«01_k».proof.Defs
public import proofs.«01_k».proof.Proof.Gen.Ffn.Frame
public import proofs.«01_k».proof.Proof.Gen.FfnIdeal.Frame
public import proofs.«01_k».proof.Proof.Gen.FfnRefIdeal.Run
public import Idealize.ShloMosaic.Lib.Quiescent

@[expose] public section

set_option maxRecDepth 16384

noncomputable section

namespace Cert.Proof.FfnClaims

open Idealize.ShloMosaic Idealize.ShloMosaic.TcCoe Idealize.SL.Sem

instance hFfn : Cert.Ffn.Facts := Cert.Ffn.Gen.facts
instance hFfnIdeal : Cert.FfnIdeal.Facts := Cert.FfnIdeal.Gen.facts
instance hFfnRefIdeal : Cert.FfnRefIdeal.Facts := Cert.FfnRefIdeal.Gen.facts

theorem frame_p : Cert.quiescent_Ffn := fun m ρ _ => Cert.Ffn.Gen.frame m ρ

theorem frame_pi : Cert.quiescent_FfnIdeal := fun m ρ _ => Cert.FfnIdeal.Gen.frame m ρ

theorem frame_ri : Cert.quiescent_FfnRefIdeal := fun m ρ _ =>
  (θ_run Cert.FfnRefIdeal.defs _ _).mono (fun r h => ⟨fun c => (h c).2, sem_eq_zero_of_no_sems rfl r.2⟩)
    (Cert.FfnRefIdeal.Value.run (F := Ideal) m ρ)

theorem preserves : Cert.preserves_Ffn_FfnIdeal := trivial

/-- The kernel's result and the reference's are one array. -/
theorem algebraic : Cert.algebraic_FfnIdeal_FfnRefIdeal := fun m ρ m' ρ' _ hag =>
  ⟨fun c => Cert.FfnIdeal.Kernel.result m c, Cert.FfnIdeal.Kernel.run m ρ,
    (θ_run Cert.FfnRefIdeal.defs _ _).mono
      (fun _ h c => ⟨(h c).1.trans (by
        rw [Cert.FfnRefIdeal.Read.val_main_v20_eq, (hag c).1, (hag c).2.1, (hag c).2.2.1, (hag c).2.2.2]
        funext i
        obtain ⟨r, k, rfl⟩ : ∃ r k, i = ix2 (n0 := 16384) (n1 := 1024) r k := ⟨i 0, i 1, eq_ix2 i⟩
        exact Cert.FfnRefIdeal.Rows.ref_at _ _ _ _ r k), (h c).2⟩)
      (Cert.FfnRefIdeal.Value.run (F := Ideal) m' ρ')⟩

end Cert.Proof.FfnClaims

end
-- ==== Proof.InpTile.lean ====
/-
  The input projections on a tile of rows: each value the kernel stores, at an index, as a product of the normalised row
  with a row of a weight, and what becomes of it.
-/
module

public import proofs.«01_k».proof.Proof.Gen.InpIdeal.Value
public import proofs.«01_k».proof.Proof.Layer

@[expose] public section

set_option maxRecDepth 16384

noncomputable section

namespace Cert.InpIdeal.Tile

open Cert.InpIdeal Cert.InpIdeal.Gen Cert.Layer Idealize.ShloMosaic Idealize.ShloMosaic.TcCoe Idealize.SL.Sem
open Idealize.ShloMosaic.WordCmp

/-- The product of a normalised row with a row of a weight. -/
def proj (h g w : Fin 1024 → EReal) : EReal := ∑ k, rms len1024 eps6 h g k * w k

theorem norm_apply (x0 : Vec Ideal S1024x1024 .f32) (x1 : Vec Ideal S1x1024 .f32) (r k : Fin 1024) :
    k0_pay4 x0 x1 (ix2 r k) = rms len1024 eps6 (fun k => x0 (ix2 r k)) (fun k => x1 (ix2 0 k)) k := by
  pointwise [k0_pay4]
  rfl

variable (n : FVec Ideal S1024x1024 .bf16)

theorem dot512_apply (w : Vec Ideal S512x1024 .bf16) (r : Fin 1024) (c : Fin 512) :
    k0_pay19 n w (ix2 r c) = ∑ k : Fin 1024, n (ix2 r k) * w (ix2 c k) := by
  pointwise [k0_pay19]

theorem v_apply (w : Vec Ideal S512x1024 .bf16) (r : Fin 1024) (c : Fin 512) :
    k0_pay35 n w (ix2 r c) = ∑ k : Fin 1024, n (ix2 r k) * w (ix2 c k) := by
  pointwise [k0_pay35]

theorem dot256_apply (w : Vec Ideal S256x1024 .bf16) (r : Fin 1024) (c : Fin 256) :
    k0_pay37 n w (ix2 r c) = ∑ k : Fin 1024, n (ix2 r k) * w (ix2 c k) := by
  pointwise [k0_pay37]

theorem gate_apply (w : Vec Ideal S512x1024 .bf16) (r : Fin 1024) (c : Fin 512) :
    k0_pay68 n w (ix2 r c) = Ideal.logistic (∑ k : Fin 1024, n (ix2 r k) * w (ix2 c k)) := by
  pointwise [k0_pay68]

theorem zc_apply (a b : Vec Ideal S128x1024 .bf16) (r : Fin 1024) (c : Fin 128) :
    k0_pay38 n a b (ix2 r c) = (∑ k : Fin 1024, n (ix2 r k) * a (ix2 c k)) * ∑ k : Fin 1024, n (ix2 r k) * b (ix2 c k) := by
  pointwise [k0_pay38]

/-- The logarithm of the sigmoid. -/
def logSigmoid (a : EReal) : EReal := min a 0 - Ideal.log1p (Ideal.exp (0 - FloatOps.absf (F := Ideal) (φ := .f32) a))

theorem logf_apply (w : Vec Ideal S128x1024 .bf16) (b : Vec Ideal S1x128 .f32) (r : Fin 1024) (c : Fin 128) :
    k0_pay3 n w b (ix2 r c) = logSigmoid (∑ k : Fin 1024, n (ix2 r k) * w (ix2 c k) + b (ix2 0 c)) := by
  pointwise [k0_pay3]
  rfl

theorem select_dec (P : Prop) [Decidable P] (a b : EReal) :
    Scalar.select (BitVec.ofBool (decide P)) a b = if P then a else b := by
  by_cases h : P <;> simp [h, Scalar.select]

theorem lane_apply (c : Fin 128) : k0_pay5 (ix2 0 c) = BitVec.ofBool (decide (c.val < 64)) := by
  pointwise [k0_pay5]
  exact cmpi_slt_ofNat (by omega) (by omega)

/-- The sum over the first and over the second half of the lanes. -/
theorem sum_first (f : Fin 128 → EReal) :
    (∑ x, if x.val < 64 then f x else 0) = ∑ d : Fin 64, f ⟨d.val, by omega⟩ := by
  rw [Fin.sum_univ_add (a := 64) (b := 64) (fun x : Fin 128 => if x.val < 64 then f x else 0)]
  have h : (∑ i : Fin 64, if (Fin.natAdd 64 i : Fin 128).val < 64 then f (Fin.natAdd 64 i) else 0) = 0 :=
    Finset.sum_eq_zero fun i _ => if_neg (by show ¬ 64 + i.val < 64; omega)
  rw [h, add_zero]
  exact Finset.sum_congr rfl fun i _ => if_pos (by show i.val < 64; omega)

theorem sum_second (f : Fin 128 → EReal) :
    (∑ x, if x.val < 64 then 0 else f x) = ∑ d : Fin 64, f ⟨64 + d.val, by omega⟩ := by
  rw [Fin.sum_univ_add (a := 64) (b := 64) (fun x : Fin 128 => if x.val < 64 then 0 else f x)]
  have h : (∑ i : Fin 64, if (Fin.castAdd 64 i : Fin 128).val < 64 then 0 else f (Fin.castAdd 64 i)) = 0 :=
    Finset.sum_eq_zero fun i _ => if_pos (by show i.val < 64; omega)
  rw [h, zero_add]
  exact Finset.sum_congr rfl fun i _ => if_neg (by show ¬ 64 + i.val < 64; omega)

/-- The number of elements of a head, and the division by it. -/
def len64 : EReal := Ideal.ofBits .f32 0x42800000#32

theorem div_len64 (x : EReal) : Ideal.div x len64 = x * Ideal.ofBits .f32 0x3C800000#32 := by
  have h : len64 = ((64 : ℝ) : EReal) := by simp [len64, Ideal.ofBits, Ideal.ieee]; rw [← EReal.coe_mul]; norm_num
  have h' : Ideal.ofBits .f32 0x3C800000#32 = ((1 / 64 : ℝ) : EReal) := by simp [Ideal.ofBits, Ideal.ieee]; rw [← EReal.coe_mul]; norm_num
  rw [h, h', Ideal.div_coe (by norm_num)]

/-- The scale of the head of column `c`. -/
def headScale (m : ℕ) (p : Fin m → EReal) (c : ℕ) (hc : c / 64 * 64 + 64 ≤ m) : EReal :=
  scale len64 eps6 fun d : Fin 64 => p ⟨c / 64 * 64 + d.val, by omega⟩

theorem head_apply (a : FVec Ideal S1024x128 .f32) (g : Vec Ideal S1x128 .f32) (r : Fin 1024) (c : Fin 128) :
    k0_pay13 k0_pay5 a g (ix2 r c)
      = a (ix2 r c) * headScale 128 (fun d => a (ix2 r d)) c.val (by omega) * g (ix2 0 c) := by
  pointwise [k0_pay13]
  simp only [lane_apply, select_dec]
  rw [sum_first fun x => a (ix2 r x) * a (ix2 r x), sum_second fun x => a (ix2 r x) * a (ix2 r x), ← div_len64]
  unfold headScale scale
  by_cases h : c.val < 64
  · have h0 : c.val / 64 * 64 = 0 := by omega
    rw [if_pos h]
    simp only [h0, zero_add]
    rfl
  · have h0 : c.val / 64 * 64 = 64 := by omega
    rw [if_neg h]
    simp only [h0]
    rfl

/-- The three taps of the convolution, gated. -/
def conv (gb w2 w1 w0 z0 z1 z2 : EReal) : EReal := gb * (w2 * z0 + w1 * z1 + w0 * z2)

/-- The element `d` rows before row `r` of a tile, the rows before the tile taken from the last rows of the previous one. -/
def back (z : Fin 1024 → EReal) (p : Fin 16 → EReal) (d : ℕ) (hd : d ≤ 16) (r : Fin 1024) : EReal :=
  if h : r.val < d then p ⟨16 + r.val - d, by omega⟩ else z ⟨r.val - d, by omega⟩

/-- The first 16 rows of a tile of the convolution, the gate's tile and the last rows of the previous tile given. -/
def convHead {F : FTy → Type} [FloatOps F] (gs z : FVec F S1024x128 .f32) (w2 w1 w0 : Vec F S1x128 .f32) (p : Vec F S16x128 .f32) :
    FVec F S16x128 .bf16 :=
  have sub : IVec S16x128 32 := iota Kind.tc S16x128 32 [0] iota_S16x128_d0_w32
  have h : FVec F S16x128 .f32 := extractStridedSlice S16x128 ![0, 0] z slices_S1024x128_o0_0_S16x128
  have tap (d : BitVec 32) (w : Vec F S1x128 .f32) : FVec F S16x128 .f32 :=
    mulf (broadcastTo S16x128 w broadcasts_S1x128_S16x128)
      (select (cmpi .slt sub (broadcast S16x128 d)) (dynamicRotate 0 d none p rotates_S16x128_d0) (dynamicRotate 0 d none h rotates_S16x128_d0))
  truncf .bf16 (mulf (extractStridedSlice S16x128 ![0, 0] gs slices_S1024x128_o0_0_S16x128)
    (addf (addf (mulf (broadcastTo S16x128 w2 broadcasts_S1x128_S16x128) h) (tap 1#32 w1)) (tap 2#32 w0))) bitsLt_bf16_f32

/-- The other rows. -/
def convBody {F : FTy → Type} [FloatOps F] (gs z : FVec F S1024x128 .f32) (w2 w1 w0 : Vec F S1x128 .f32) : FVec F S1008x128 .bf16 :=
  have tap (d : BitVec 32) (w : Vec F S1x128 .f32) : FVec F S1024x128 .f32 :=
    mulf (broadcastTo S1024x128 w broadcasts_S1x128_S1024x128) (dynamicRotate 0 d none z rotates_S1024x128_d0)
  truncf .bf16 (mulf (extractStridedSlice S1008x128 ![16, 0] gs slices_S1024x128_o16_0_S1008x128)
    (extractStridedSlice S1008x128 ![16, 0]
      (addf (addf (mulf (broadcastTo S1024x128 w2 broadcasts_S1x128_S1024x128) z) (tap 1#32 w1)) (tap 2#32 w0))
      slices_S1024x128_o16_0_S1008x128)) bitsLt_bf16_f32

theorem convHead_apply (gs z : FVec Ideal S1024x128 .f32) (w2 w1 w0 : Vec Ideal S1x128 .f32)
    (p : Vec Ideal S16x128 .f32) (r : Fin 16) (c : Fin 128) :
    convHead gs z w2 w1 w0 p (ix2 r c)
      = conv (gs (ix2 ⟨r.val, by omega⟩ c)) (w2 (ix2 0 c)) (w1 (ix2 0 c)) (w0 (ix2 0 c)) (z (ix2 ⟨r.val, by omega⟩ c))
          (back (fun r => z (ix2 r c)) (fun r => p (ix2 r c)) 1 (by omega) ⟨r.val, by omega⟩)
          (back (fun r => z (ix2 r c)) (fun r => p (ix2 r c)) 2 (by omega) ⟨r.val, by omega⟩) := by
  pointwise [convHead]
  rw [cmpi_slt_ofNat (by omega) (by omega), cmpi_slt_ofNat (by omega) (by omega), select_dec, select_dec]
  unfold conv back
  by_cases h1 : r.val < 1
  · have h2 : r.val < 2 := by omega
    have e1 : (r.val + 16 - 1) % 16 = 16 + r.val - 1 := by omega
    have e2 : (r.val + 16 - 2) % 16 = 16 + r.val - 2 := by omega
    simp only [h1, h2, if_true, dif_pos, e1, e2]
  · by_cases h2 : r.val < 2
    · have e1 : (r.val + 16 - 1) % 16 = r.val - 1 := by omega
      have e2 : (r.val + 16 - 2) % 16 = 16 + r.val - 2 := by omega
      simp only [h1, h2, if_true, dif_pos, if_false, dif_neg, not_false_iff, e1, e2]
    · have e1 : (r.val + 16 - 1) % 16 = r.val - 1 := by omega
      have e2 : (r.val + 16 - 2) % 16 = r.val - 2 := by omega
      simp only [h1, h2, if_false, dif_neg, not_false_iff, e1, e2]

theorem convBody_apply (gs z : FVec Ideal S1024x128 .f32) (w2 w1 w0 : Vec Ideal S1x128 .f32)
    (p : Fin 16 → EReal) (r : Fin 1008) (c : Fin 128) :
    convBody gs z w2 w1 w0 (ix2 r c)
      = conv (gs (ix2 ⟨16 + r.val, by omega⟩ c)) (w2 (ix2 0 c)) (w1 (ix2 0 c)) (w0 (ix2 0 c)) (z (ix2 ⟨16 + r.val, by omega⟩ c))
          (back (fun r => z (ix2 r c)) p 1 (by omega) ⟨16 + r.val, by omega⟩)
          (back (fun r => z (ix2 r c)) p 2 (by omega) ⟨16 + r.val, by omega⟩) := by
  pointwise [convBody]
  unfold conv back
  have e1 : (16 + r.val + 1024 - 1) % 1024 = 16 + r.val - 1 := by omega
  have e2 : (16 + r.val + 1024 - 2) % 1024 = 16 + r.val - 2 := by omega
  rw [dif_neg (by show ¬ 16 + r.val < 1; omega), dif_neg (by show ¬ 16 + r.val < 2; omega)]
  simp only [e1, e2]

theorem tail_apply (z : FVec Ideal S1024x128 .f32) (r : Fin 16) (c : Fin 128) :
    k0_pay43 z (ix2 r c) = z (ix2 ⟨1008 + r.val, by omega⟩ c) := by
  pointwise [k0_pay43]

/-! ## The tiles as parts of the results -/

theorem slice_apply (a : FVec Ideal S1024x512 .f32) (o : ℕ) (hs : Shape.Slices S1024x512 ![0, o] S1024x128)
    (r : Fin 1024) (c : Fin 128) : extractStridedSlice S1024x128 ![0, o] a hs (ix2 r c) = a (ix2 r ⟨o + c.val, by have := hs.2 1; simp at this; omega⟩) := by
  pointwise []

theorem slice256_apply (a : FVec Ideal S1024x256 .f32) (o : ℕ) (hs : Shape.Slices S1024x256 ![0, o] S1024x128)
    (r : Fin 1024) (c : Fin 128) : extractStridedSlice S1024x128 ![0, o] a hs (ix2 r c) = a (ix2 r ⟨o + c.val, by have := hs.2 1; simp at this; omega⟩) := by
  pointwise []

/-- The queries, keys and values of a row. -/
def qkv (h g : Fin 1024 → EReal) (w : S1536x1024.Idx → EReal) (qg kg : S1x512.Idx → EReal) (c : Fin 1536) : EReal :=
  if hq : c.val < 512 then
    proj h g (fun k => w (ix2 c k)) * headScale 1536 (fun j => proj h g fun k => w (ix2 j k)) c.val (by omega) * qg (ix2 0 ⟨c.val, hq⟩)
  else if hk : c.val < 1024 then
    proj h g (fun k => w (ix2 c k)) * headScale 1536 (fun j => proj h g fun k => w (ix2 j k)) c.val (by omega)
      * kg (ix2 0 ⟨c.val - 512, by omega⟩)
  else proj h g fun k => w (ix2 c k)

/-- The log of the forget gates of a row. -/
def logF (h g : Fin 1024 → EReal) (w : S128x1024.Idx → EReal) (b : S1x128.Idx → EReal) (c : Fin 128) : EReal :=
  logSigmoid (proj h g (fun k => w (ix2 c k)) + b (ix2 0 c))

/-- The merge gates of a row. -/
def gates (h g : Fin 1024 → EReal) (w : S3584x1024.Idx → EReal) (c : Fin 2048) : EReal :=
  Ideal.logistic (proj h g fun k => w (ix2 ⟨1536 + c.val, by omega⟩ k))

/-- What the convolution runs over, and its gate. -/
def zc (h g : Fin 1024 → EReal) (w : S3584x1024.Idx → EReal) (c : Fin 512) : EReal :=
  proj h g (fun k => w (ix2 ⟨c.val, by omega⟩ k)) * proj h g fun k => w (ix2 ⟨1024 + c.val, by omega⟩ k)

def gateB (h g : Fin 1024 → EReal) (w : S3584x1024.Idx → EReal) (c : Fin 512) : EReal :=
  proj h g fun k => w (ix2 ⟨512 + c.val, by omega⟩ k)

/-! ## The tiles as parts of the results -/

section
variable (x0 : Vec Ideal S1024x1024 .f32) (x1 : Vec Ideal S1x1024 .f32)

abbrev rowOf (r : Fin 1024) : Fin 1024 → EReal := fun k => x0 (ix2 r k)
abbrev gainOf : Fin 1024 → EReal := fun k => x1 (ix2 0 k)

def qkvOf (x2 : Vec Ideal S1536x1024 .bf16) (x6 x7 : Vec Ideal S1x512 .f32) : S1024x1536.Idx → EReal :=
  fun i => qkv (rowOf x0 (i 0)) (gainOf x1) x2 x6 x7 (i 1)

def logFOf (x4 : Vec Ideal S128x1024 .bf16) (x5 : Vec Ideal S1x128 .f32) : S1024x128.Idx → EReal :=
  fun i => logF (rowOf x0 (i 0)) (gainOf x1) x4 x5 (i 1)

def gatesOf (x3 : Vec Ideal S3584x1024 .bf16) : S1024x2048.Idx → EReal :=
  fun i => gates (rowOf x0 (i 0)) (gainOf x1) x3 (i 1)

def convOf (x3 : Vec Ideal S3584x1024 .bf16) (x8 : Vec Ideal S3x512 .f32) (tl : S16x512.Idx → EReal) : S1024x512.Idx → EReal :=
  fun i => conv (gateB (rowOf x0 (i 0)) (gainOf x1) x3 (i 1)) (x8 (ix2 2 (i 1))) (x8 (ix2 1 (i 1))) (x8 (ix2 0 (i 1)))
    (zc (rowOf x0 (i 0)) (gainOf x1) x3 (i 1))
    (back (fun r => zc (rowOf x0 r) (gainOf x1) x3 (i 1)) (fun r => tl (ix2 r (i 1))) 1 (by omega) (i 0))
    (back (fun r => zc (rowOf x0 r) (gainOf x1) x3 (i 1)) (fun r => tl (ix2 r (i 1))) 2 (by omega) (i 0))

def tailOf (x3 : Vec Ideal S3584x1024 .bf16) : S16x512.Idx → EReal :=
  fun i => zc (rowOf x0 ⟨1008 + (i 0).val, by have : (i 0).val < 16 := (i 0).isLt; omega⟩) (gainOf x1) x3 (i 1)

/-- A tile of the queries or keys: columns `o` onwards of the product with the rows `b` onwards of the weight. -/
theorem head_at (x2 : Vec Ideal S1536x1024 .bf16) (x6 x7 xg : Vec Ideal S1x512 .f32) (b o q o' : ℕ) (hq : o = 128 * q) (ho : o + 128 ≤ 512)
    (ho' : o' = b + o) (hg : b = 0 ∧ xg = x6 ∨ b = 512 ∧ xg = x7) (i1 : ∀ a, ![b, 0] a + ![512, 1024] a ≤ S1536x1024.size a)
    (hs : Shape.Slices S1024x512 ![0, o] S1024x128) (i2 : ∀ a, ![0, o] a + ![1, 128] a ≤ S1x512.size a)
    (i3 : ∀ a, ![0, o'] a + ![1024, 128] a ≤ S1024x1536.size a) (x : S1024x128.Idx) :
    k0_pay13 k0_pay5 (extractStridedSlice S1024x128 ![0, o] (k0_pay19 (k0_pay4 x0 x1)
        (View.ld x2 (Rect.unit (s := S1536x1024) ![b, 0] ![512, 1024] i1))) hs) (View.ld xg (Rect.unit (s := S1x512) ![0, o] ![1, 128] i2)) x
      = qkvOf x0 x1 x2 x6 x7 ((Rect.unit (s := S1024x1536) ![0, o'] ![1024, 128] i3).emb x) := by
  subst ho'
  obtain ⟨r, c, rfl⟩ : ∃ r c, x = ix2 r c := ⟨x 0, x 1, eq_ix2 x⟩
  have e : ∀ d : Fin 128, extractStridedSlice S1024x128 ![0, o] (k0_pay19 (k0_pay4 x0 x1)
        (View.ld x2 (Rect.unit (s := S1536x1024) ![b, 0] ![512, 1024] i1))) hs (ix2 r d)
      = proj (rowOf x0 r) (gainOf x1) fun k => x2 (ix2 ⟨b + o + d.val, by omega⟩ k) := by
    intro d
    rw [slice_apply, dot512_apply]
    simp only [ld_at x2, norm_apply, zero_add, Nat.add_assoc]
    rfl
  rw [head_apply, emb_at]
  simp only [e, ld_at xg]
  have hh : ∀ h1 h2, headScale 128 (fun d : Fin 128 => proj (rowOf x0 r) (gainOf x1) fun k => x2 (ix2 ⟨b + o + d.val, by omega⟩ k)) c.val h1
      = headScale 1536 (fun j => proj (rowOf x0 r) (gainOf x1) fun k => x2 (ix2 j k)) (b + o + c.val) h2 := by
    intro h1 h2
    have he : ∀ d, (b + o + c.val) / 64 * 64 + d = b + o + (c.val / 64 * 64 + d) := by omega
    unfold headScale
    simp only [he]
  have hr : (⟨0 + r.val, by omega⟩ : Fin 1024) = r := Fin.ext (by show 0 + r.val = r.val; omega)
  show _ = qkv (rowOf x0 ⟨0 + r.val, _⟩) (gainOf x1) x2 x6 x7 ⟨b + o + c.val, _⟩
  rw [hr, hh _ (by omega)]
  unfold qkv
  rcases hg with ⟨rfl, rfl⟩ | ⟨rfl, rfl⟩
  · rw [dif_pos (by show 0 + o + c.val < 512; omega)]
    simp only [zero_add]
  · rw [dif_neg (by show ¬ 512 + o + c.val < 512; omega), dif_pos (by show 512 + o + c.val < 1024; omega)]
    have hc : 512 + o + c.val - 512 = o + c.val := by omega
    simp only [hc]
    rfl

/-- The tile of the values. -/
theorem v_at (x2 : Vec Ideal S1536x1024 .bf16) (x6 x7 : Vec Ideal S1x512 .f32) (i1 : ∀ a, ![1024, 0] a + ![512, 1024] a ≤ S1536x1024.size a)
    (i3 : ∀ a, ![0, 1024] a + ![1024, 512] a ≤ S1024x1536.size a) (x : S1024x512.Idx) :
    k0_pay35 (k0_pay4 x0 x1) (View.ld x2 (Rect.unit (s := S1536x1024) ![1024, 0] ![512, 1024] i1)) x
      = qkvOf x0 x1 x2 x6 x7 ((Rect.unit (s := S1024x1536) ![0, 1024] ![1024, 512] i3).emb x) := by
  obtain ⟨r, c, rfl⟩ : ∃ r c, x = ix2 r c := ⟨x 0, x 1, eq_ix2 x⟩
  have hr : (⟨0 + r.val, by omega⟩ : Fin 1024) = r := Fin.ext (by show 0 + r.val = r.val; omega)
  rw [v_apply, emb_at]
  show _ = qkv (rowOf x0 ⟨0 + r.val, _⟩) (gainOf x1) x2 x6 x7 ⟨1024 + c.val, _⟩
  rw [hr]
  unfold qkv
  rw [dif_neg (by show ¬ 1024 + c.val < 512; omega), dif_neg (by show ¬ 1024 + c.val < 1024; omega)]
  simp only [ld_at x2, norm_apply, zero_add]
  rfl

/-- A tile of the merge gates. -/
theorem gates_at (x3 : Vec Ideal S3584x1024 .bf16) (o o' : ℕ) (ho' : o' = 1536 + o) (ho : o + 512 ≤ 2048)
    (i1 : ∀ a, ![o', 0] a + ![512, 1024] a ≤ S3584x1024.size a)
    (i3 : ∀ a, ![0, o] a + ![1024, 512] a ≤ S1024x2048.size a) (x : S1024x512.Idx) :
    k0_pay68 (k0_pay4 x0 x1) (View.ld x3 (Rect.unit (s := S3584x1024) ![o', 0] ![512, 1024] i1)) x
      = gatesOf x0 x1 x3 ((Rect.unit (s := S1024x2048) ![0, o] ![1024, 512] i3).emb x) := by
  subst ho'
  obtain ⟨r, c, rfl⟩ : ∃ r c, x = ix2 r c := ⟨x 0, x 1, eq_ix2 x⟩
  have hr : (⟨0 + r.val, by omega⟩ : Fin 1024) = r := Fin.ext (by show 0 + r.val = r.val; omega)
  rw [gate_apply, emb_at]
  show _ = gates (rowOf x0 ⟨0 + r.val, _⟩) (gainOf x1) x3 ⟨o + c.val, _⟩
  rw [hr]
  unfold gates
  simp only [ld_at x3, norm_apply, zero_add, Nat.add_assoc]
  rfl

/-- The logs of the forget gates. -/
theorem logf_at (x4 : Vec Ideal S128x1024 .bf16) (x5 : Vec Ideal S1x128 .f32) : k0_pay3 (k0_pay4 x0 x1) x4 x5 = logFOf x0 x1 x4 x5 := by
  funext x
  obtain ⟨r, c, rfl⟩ : ∃ r c, x = ix2 r c := ⟨x 0, x 1, eq_ix2 x⟩
  rw [logf_apply]
  simp only [norm_apply]
  rfl

theorem zc_at (x3 : Vec Ideal S3584x1024 .bf16) (o o1 : ℕ) (h1 : o1 = 1024 + o) (ho : o + 128 ≤ 512)
    (i1 : ∀ a, ![o, 0] a + ![128, 1024] a ≤ S3584x1024.size a) (i2 : ∀ a, ![o1, 0] a + ![128, 1024] a ≤ S3584x1024.size a)
    (r : Fin 1024) (c : Fin 128) :
    k0_pay38 (k0_pay4 x0 x1) (View.ld x3 (Rect.unit (s := S3584x1024) ![o, 0] ![128, 1024] i1))
        (View.ld x3 (Rect.unit (s := S3584x1024) ![o1, 0] ![128, 1024] i2)) (ix2 r c)
      = zc (rowOf x0 r) (gainOf x1) x3 ⟨o + c.val, by omega⟩ := by
  subst h1
  rw [zc_apply]
  simp only [ld_at x3, norm_apply, zero_add, Nat.add_assoc]
  rfl

theorem gateB_at (x3 : Vec Ideal S3584x1024 .bf16) (o b o' q : ℕ) (hb : b = 512 + o') (hq : o = o' + q) (ho : o + 128 ≤ 512) (hq' : q + 128 ≤ 256)
    (i1 : ∀ a, ![b, 0] a + ![256, 1024] a ≤ S3584x1024.size a) (hs : Shape.Slices S1024x256 ![0, q] S1024x128) (r : Fin 1024) (c : Fin 128) :
    extractStridedSlice S1024x128 ![0, q] (k0_pay37 (k0_pay4 x0 x1) (View.ld x3 (Rect.unit (s := S3584x1024) ![b, 0] ![256, 1024] i1))) hs (ix2 r c)
      = gateB (rowOf x0 r) (gainOf x1) x3 ⟨o + c.val, by omega⟩ := by
  subst hb hq
  rw [slice256_apply, dot256_apply]
  unfold gateB
  simp only [ld_at x3, norm_apply, zero_add, Nat.add_assoc]
  rfl

/-- The first rows of a tile of the convolution, and the others. -/
theorem convHead_at (x3 : Vec Ideal S3584x1024 .bf16) (x8 : Vec Ideal S3x512 .f32) (tl : S16x512.Idx → EReal) (p : Vec Ideal S16x128 .f32)
    (o b o' q o1 : ℕ) (hb : b = 512 + o') (hq : o = o' + q) (ho : o + 128 ≤ 512) (hq' : q + 128 ≤ 256) (h1 : o1 = 1024 + o)
    (hp : ∀ (r : Fin 16) (c : Fin 128), p (ix2 r c) = tl (ix2 r ⟨o + c.val, by omega⟩))
    (j1 : ∀ a, ![b, 0] a + ![256, 1024] a ≤ S3584x1024.size a) (hs : Shape.Slices S1024x256 ![0, q] S1024x128)
    (j2 : ∀ a, ![o, 0] a + ![128, 1024] a ≤ S3584x1024.size a) (j3 : ∀ a, ![o1, 0] a + ![128, 1024] a ≤ S3584x1024.size a)
    (k2 : ∀ a, ![2, o] a + ![1, 128] a ≤ S3x512.size a) (k1 : ∀ a, ![1, o] a + ![1, 128] a ≤ S3x512.size a)
    (k0 : ∀ a, ![0, o] a + ![1, 128] a ≤ S3x512.size a) (i3 : ∀ a, ![0, o] a + ![16, 128] a ≤ S1024x512.size a) (x : S16x128.Idx) :
    convHead
        (extractStridedSlice S1024x128 ![0, q] (k0_pay37 (k0_pay4 x0 x1) (View.ld x3 (Rect.unit (s := S3584x1024) ![b, 0] ![256, 1024] j1))) hs)
        (k0_pay38 (k0_pay4 x0 x1) (View.ld x3 (Rect.unit (s := S3584x1024) ![o, 0] ![128, 1024] j2))
          (View.ld x3 (Rect.unit (s := S3584x1024) ![o1, 0] ![128, 1024] j3)))
        (View.ld x8 (Rect.unit (s := S3x512) ![2, o] ![1, 128] k2)) (View.ld x8 (Rect.unit (s := S3x512) ![1, o] ![1, 128] k1))
        (View.ld x8 (Rect.unit (s := S3x512) ![0, o] ![1, 128] k0)) p x
      = convOf x0 x1 x3 x8 tl ((Rect.unit (s := S1024x512) ![0, o] ![16, 128] i3).emb x) := by
  obtain ⟨r, c, rfl⟩ : ∃ r c, x = ix2 r c := ⟨x 0, x 1, eq_ix2 x⟩
  rw [convHead_apply, emb0_at, gateB_at x0 x1 x3 o b o' q hb hq ho hq' j1 hs]
  simp only [zc_at x0 x1 x3 o o1 h1 ho j2 j3, ld_at x8, hp]
  rfl

theorem convBody_at (x3 : Vec Ideal S3584x1024 .bf16) (x8 : Vec Ideal S3x512 .f32) (tl : S16x512.Idx → EReal)
    (o b o' q o1 : ℕ) (hb : b = 512 + o') (hq : o = o' + q) (ho : o + 128 ≤ 512) (hq' : q + 128 ≤ 256) (h1 : o1 = 1024 + o)
    (j1 : ∀ a, ![b, 0] a + ![256, 1024] a ≤ S3584x1024.size a) (hs : Shape.Slices S1024x256 ![0, q] S1024x128)
    (j2 : ∀ a, ![o, 0] a + ![128, 1024] a ≤ S3584x1024.size a) (j3 : ∀ a, ![o1, 0] a + ![128, 1024] a ≤ S3584x1024.size a)
    (k2 : ∀ a, ![2, o] a + ![1, 128] a ≤ S3x512.size a) (k1 : ∀ a, ![1, o] a + ![1, 128] a ≤ S3x512.size a)
    (k0 : ∀ a, ![0, o] a + ![1, 128] a ≤ S3x512.size a) (i3 : ∀ a, ![16, o] a + ![1008, 128] a ≤ S1024x512.size a) (x : S1008x128.Idx) :
    convBody
        (extractStridedSlice S1024x128 ![0, q] (k0_pay37 (k0_pay4 x0 x1) (View.ld x3 (Rect.unit (s := S3584x1024) ![b, 0] ![256, 1024] j1))) hs)
        (k0_pay38 (k0_pay4 x0 x1) (View.ld x3 (Rect.unit (s := S3584x1024) ![o, 0] ![128, 1024] j2))
          (View.ld x3 (Rect.unit (s := S3584x1024) ![o1, 0] ![128, 1024] j3)))
        (View.ld x8 (Rect.unit (s := S3x512) ![2, o] ![1, 128] k2)) (View.ld x8 (Rect.unit (s := S3x512) ![1, o] ![1, 128] k1))
        (View.ld x8 (Rect.unit (s := S3x512) ![0, o] ![1, 128] k0)) x
      = convOf x0 x1 x3 x8 tl ((Rect.unit (s := S1024x512) ![16, o] ![1008, 128] i3).emb x) := by
  obtain ⟨r, c, rfl⟩ : ∃ r c, x = ix2 r c := ⟨x 0, x 1, eq_ix2 x⟩
  rw [convBody_apply _ _ _ _ _ (fun r => tl (ix2 r ⟨o + c.val, by omega⟩)), emb_at, gateB_at x0 x1 x3 o b o' q hb hq ho hq' j1 hs]
  simp only [zc_at x0 x1 x3 o o1 h1 ho j2 j3, ld_at x8]
  rfl

/-- The last rows of a tile of what the convolution runs over. -/
theorem tail_at (x3 : Vec Ideal S3584x1024 .bf16) (o o1 : ℕ) (ho : o + 128 ≤ 512) (h1 : o1 = 1024 + o)
    (j2 : ∀ a, ![o, 0] a + ![128, 1024] a ≤ S3584x1024.size a) (j3 : ∀ a, ![o1, 0] a + ![128, 1024] a ≤ S3584x1024.size a)
    (i3 : ∀ a, ![0, o] a + ![16, 128] a ≤ S16x512.size a) (x : S16x128.Idx) :
    k0_pay43 (k0_pay38 (k0_pay4 x0 x1) (View.ld x3 (Rect.unit (s := S3584x1024) ![o, 0] ![128, 1024] j2))
          (View.ld x3 (Rect.unit (s := S3584x1024) ![o1, 0] ![128, 1024] j3))) x
      = tailOf x0 x1 x3 ((Rect.unit (s := S16x512) ![0, o] ![16, 128] i3).emb x) := by
  obtain ⟨r, c, rfl⟩ : ∃ r c, x = ix2 r c := ⟨x 0, x 1, eq_ix2 x⟩
  rw [tail_apply, emb0_at, zc_at x0 x1 x3 o o1 h1 ho j2 j3]
  rfl

end

end Cert.InpIdeal.Tile
-- ==== Proof.InpKernel.lean ====
module

public import proofs.«01_k».proof.Proof.InpTile
public import Idealize.ShloMosaic.Lib.Pipeline.ReadBack

@[expose] public section

set_option maxRecDepth 16384

noncomputable section

namespace Cert.InpIdeal.Kernel

open Cert.InpIdeal Cert.InpIdeal.Gen Cert.Layer Idealize.ShloMosaic Idealize.ShloMosaic.TcCoe Idealize.SL.Sem
open Cert.InpIdeal.Tile
open Idealize.ShloMosaic.Pipeline (Dat)

variable (c : Dev nD) (i : grid0.Coords) (a2 : Memref sig .tc .vmem S1024x1024 .f32) (h2 : a2.IsWhole)
  (a3 : Memref sig .tc .vmem S1x1024 .f32) (h3 : a3.IsWhole) (a4 : Memref sig .tc .vmem S1536x1024 .bf16) (h4 : a4.IsWhole)
  (a5 : Memref sig .tc .vmem S3584x1024 .bf16) (h5 : a5.IsWhole) (a6 : Memref sig .tc .vmem S128x1024 .bf16) (h6 : a6.IsWhole)
  (a7 : Memref sig .tc .vmem S1x128 .f32) (h7 : a7.IsWhole) (a8 : Memref sig .tc .vmem S1x512 .f32) (h8 : a8.IsWhole)
  (a9 : Memref sig .tc .vmem S1x512 .f32) (h9 : a9.IsWhole) (a10 : Memref sig .tc .vmem S3x512 .f32) (h10 : a10.IsWhole)
  (a11 : Memref sig .tc .vmem S1024x1536 .bf16) (h11 : a11.IsWhole) (a12 : Memref sig .tc .vmem S1024x128 .f32) (h12 : a12.IsWhole)
  (a13 : Memref sig .tc .vmem S1024x512 .bf16) (h13 : a13.IsWhole) (a14 : Memref sig .tc .vmem S1024x2048 .bf16) (h14 : a14.IsWhole)
  (a15 : Memref sig .tc .vmem S16x512 .f32) (h15 : a15.IsWhole) (hc0 : cond0_0 i) (hc1 : ¬cond0_0 i)
  (x0 : Vec Ideal S1024x1024 .f32) (x1 : Vec Ideal S1x1024 .f32) (x2 : Vec Ideal S1536x1024 .bf16) (x3 : Vec Ideal S3584x1024 .bf16)
  (x4 : Vec Ideal S128x1024 .bf16) (x5 : Vec Ideal S1x128 .f32) (x6 x7 : Vec Ideal S1x512 .f32) (x8 : Vec Ideal S3x512 .f32)
  (tl : Vec Ideal S16x512 .f32)

/-- The carried rows start at zero. -/
theorem zero_at (o : ℕ) (i0 : ∀ a, ![0, 0] a + ![16, 512] a ≤ S16x512.size a) (io : ∀ a, ![0, o] a + ![16, 128] a ≤ S16x512.size a)
    (x : S16x128.Idx) :
    a15.view.readCov (Val := Elt Ideal) [⟨Rect.unit (s := S16x512) ![0, 0] ![16, 512] i0, k0_pay36 (F := Ideal)⟩]
      (Rect.unit (s := S16x512) ![0, o] ![16, 128] io).toLoadRect x = 0 := by
  rw [View.readCov_eq_canon']
  show View.canon (Val := Elt Ideal) (e := .f32) [⟨Rect.unit (s := S16x512) ![0, 0] ![16, 512] i0, k0_pay36 (F := Ideal)⟩]
    ((Rect.unit (s := S16x512) ![0, o] ![16, 128] io).emb x) = 0
  rw [View.canon_unit_zero (S := S16x512) hz]
  generalize (Rect.unit (s := S16x512) ![0, o] ![16, 128] io).emb x = y
  obtain ⟨r, c, rfl⟩ : ∃ r c, y = ix2 r c := ⟨y 0, y 1, eq_ix2 y⟩
  pointwise [k0_pay36]

theorem out_A_9 : out0_A_9 c i a2 h2 a3 h3 a4 h4 a5 h5 a6 h6 a7 h7 a8 h8 a9 h9 a10 h10 a11 h11 a12 h12 a13 h13 a14 h14 a15 h15 hc0 x0 x1 x2 x3 x4 x5 x6 x7 x8
    = qkvOf x0 x1 x2 x6 x7 := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 a15 h15 hc0 x0 x1 x2 x3 x4 x5 x6 x7 x8)]
  unfold kernelRun0_A
  dsimp only
  sl_unfold_words
  simp only [View.readAt_eq_ld, h2.read_unread, h3.read_unread, h4.read_unread,
    h5.read_unread, h6.read_unread, h7.read_unread, h8.read_unread, h9.read_unread, h10.read_unread, h15.read_unread,
    View.ld_unit_zero (S := S1024x1024) hz, View.ld_unit_zero (S := S1x1024) hz, View.ld_unit_zero (S := S128x1024) hz,
    View.ld_unit_zero (S := S1x128) hz]
  funext y
  refine View.canon_apply_of_pieces (Val := Elt Ideal) (S := S1024x1536) (e := .bf16) (qkvOf x0 x1 x2 x6 x7) _ ?_ y
    (View.cover_of_tiledBy _ ![1024, 128] (by sl_kernel_rfl) y)
  simp only [List.forall_mem_cons, List.not_mem_nil, false_implies, implies_true, and_true]
  refine ⟨?_, ?_, ?_, ?_, ?_, ?_, ?_, ?_, ?_⟩ <;> intro x
  · exact v_at x0 x1 x2 x6 x7 _ _ x
  · exact head_at x0 x1 x2 x6 x7 x7 512 384 3 896 (by omega) (by omega) (by omega) (Or.inr ⟨rfl, rfl⟩) _ slices_S1024x512_o0_384_S1024x128 _ _ x
  · exact head_at x0 x1 x2 x6 x7 x7 512 256 2 768 (by omega) (by omega) (by omega) (Or.inr ⟨rfl, rfl⟩) _ slices_S1024x512_o0_256_S1024x128 _ _ x
  · exact head_at x0 x1 x2 x6 x7 x7 512 128 1 640 (by omega) (by omega) (by omega) (Or.inr ⟨rfl, rfl⟩) _ slices_S1024x512_o0_128_S1024x128 _ _ x
  · exact head_at x0 x1 x2 x6 x7 x7 512 0 0 512 (by omega) (by omega) (by omega) (Or.inr ⟨rfl, rfl⟩) _ slices_S1024x512_o0_0_S1024x128 _ _ x
  · exact head_at x0 x1 x2 x6 x7 x6 0 384 3 384 (by omega) (by omega) (by omega) (Or.inl ⟨rfl, rfl⟩) _ slices_S1024x512_o0_384_S1024x128 _ _ x
  · exact head_at x0 x1 x2 x6 x7 x6 0 256 2 256 (by omega) (by omega) (by omega) (Or.inl ⟨rfl, rfl⟩) _ slices_S1024x512_o0_256_S1024x128 _ _ x
  · exact head_at x0 x1 x2 x6 x7 x6 0 128 1 128 (by omega) (by omega) (by omega) (Or.inl ⟨rfl, rfl⟩) _ slices_S1024x512_o0_128_S1024x128 _ _ x
  · exact head_at x0 x1 x2 x6 x7 x6 0 0 0 0 (by omega) (by omega) (by omega) (Or.inl ⟨rfl, rfl⟩) _ slices_S1024x512_o0_0_S1024x128 _ _ x

theorem out_A_10 : out0_A_10 c i a2 h2 a3 h3 a4 h4 a5 h5 a6 h6 a7 h7 a8 h8 a9 h9 a10 h10 a11 h11 a12 h12 a13 h13 a14 h14 a15 h15 hc0 x0 x1 x2 x3 x4 x5 x6 x7 x8
    = logFOf x0 x1 x4 x5 := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 hc0 x0 x1 x2 x3 x4 x5 x6 x7 x8)]
  unfold kernelRun0_A
  dsimp only
  sl_unfold_words
  simp only [View.readAt_eq_ld, h2.read_unread, h3.read_unread, h4.read_unread,
    h5.read_unread, h6.read_unread, h7.read_unread, h8.read_unread, h9.read_unread, h10.read_unread, h15.read_unread,
    View.ld_unit_zero (S := S1024x1024) hz, View.ld_unit_zero (S := S1x1024) hz, View.ld_unit_zero (S := S128x1024) hz,
    View.ld_unit_zero (S := S1x128) hz]
  rw [View.canon_unit_zero (S := S1024x128) hz]
  exact logf_at x0 x1 x4 x5

theorem out_A_11 : out0_A_11 c i a2 h2 a3 h3 a4 h4 a5 h5 a6 h6 a7 h7 a8 h8 a9 h9 a10 h10 a11 h11 a12 h12 a13 h13 a14 h14 a15 h15 hc0 x0 x1 x2 x3 x4 x5 x6 x7 x8
    = convOf x0 x1 x3 x8 (fun _ => 0) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 hc0 x0 x1 x2 x3 x4 x5 x6 x7 x8)]
  unfold kernelRun0_A
  dsimp only
  sl_unfold_words
  simp only [View.readAt_eq_ld, h2.read_unread, h3.read_unread, h4.read_unread,
    h5.read_unread, h6.read_unread, h7.read_unread, h8.read_unread, h9.read_unread, h10.read_unread, h15.read_unread,
    View.ld_unit_zero (S := S1024x1024) hz, View.ld_unit_zero (S := S1x1024) hz, View.ld_unit_zero (S := S128x1024) hz,
    View.ld_unit_zero (S := S1x128) hz]
  funext y
  refine View.canon_apply_of_pieces (Val := Elt Ideal) (S := S1024x512) (e := .bf16) (convOf x0 x1 x3 x8 (fun _ => 0)) _ ?_ y
    (View.cover_of_tiledBy _ ![16, 128] (by sl_kernel_rfl) y)
  simp only [List.forall_mem_cons, List.not_mem_nil, false_implies, implies_true, and_true]
  refine ⟨?_, ?_, ?_, ?_, ?_, ?_, ?_, ?_⟩ <;> intro x
  · exact convBody_at x0 x1 x3 x8 (fun _ => 0) 384 768 256 128 1408 (by omega) (by omega) (by omega) (by omega) (by omega) _ slices_S1024x256_o0_128_S1024x128 _ _ _ _ _ _ x
  · refine convHead_at x0 x1 x3 x8 (fun _ => 0) _ 384 768 256 128 1408 (by omega) (by omega) (by omega) (by omega) (by omega) ?_ _ slices_S1024x256_o0_128_S1024x128 _ _ _ _ _ _ x
    intro r c; rw [View.readCov_skip, View.readCov_skip, View.readCov_skip] <;> first | exact zero_at a15 _ _ _ (ix2 r c) | sl_kernel_rfl
  · exact convBody_at x0 x1 x3 x8 (fun _ => 0) 256 768 256 0 1280 (by omega) (by omega) (by omega) (by omega) (by omega) _ slices_S1024x256_o0_0_S1024x128 _ _ _ _ _ _ x
  · refine convHead_at x0 x1 x3 x8 (fun _ => 0) _ 256 768 256 0 1280 (by omega) (by omega) (by omega) (by omega) (by omega) ?_ _ slices_S1024x256_o0_0_S1024x128 _ _ _ _ _ _ x
    intro r c; rw [View.readCov_skip, View.readCov_skip] <;> first | exact zero_at a15 _ _ _ (ix2 r c) | sl_kernel_rfl
  · exact convBody_at x0 x1 x3 x8 (fun _ => 0) 128 512 0 128 1152 (by omega) (by omega) (by omega) (by omega) (by omega) _ slices_S1024x256_o0_128_S1024x128 _ _ _ _ _ _ x
  · refine convHead_at x0 x1 x3 x8 (fun _ => 0) _ 128 512 0 128 1152 (by omega) (by omega) (by omega) (by omega) (by omega) ?_ _ slices_S1024x256_o0_128_S1024x128 _ _ _ _ _ _ x
    intro r c; rw [View.readCov_skip] <;> first | exact zero_at a15 _ _ _ (ix2 r c) | sl_kernel_rfl
  · exact convBody_at x0 x1 x3 x8 (fun _ => 0) 0 512 0 0 1024 (by omega) (by omega) (by omega) (by omega) (by omega) _ slices_S1024x256_o0_0_S1024x128 _ _ _ _ _ _ x
  · refine convHead_at x0 x1 x3 x8 (fun _ => 0) _ 0 512 0 0 1024 (by omega) (by omega) (by omega) (by omega) (by omega) ?_ _ slices_S1024x256_o0_0_S1024x128 _ _ _ _ _ _ x
    exact fun r c => zero_at a15 _ _ _ (ix2 r c)

theorem out_A_12 : out0_A_12 c i a2 h2 a3 h3 a4 h4 a5 h5 a6 h6 a7 h7 a8 h8 a9 h9 a10 h10 a11 h11 a12 h12 a13 h13 a14 h14 a15 h15 hc0 x0 x1 x2 x3 x4 x5 x6 x7 x8
    = gatesOf x0 x1 x3 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 hc0 x0 x1 x2 x3 x4 x5 x6 x7 x8)]
  unfold kernelRun0_A
  dsimp only
  sl_unfold_words
  simp only [View.readAt_eq_ld, h2.read_unread, h3.read_unread, h4.read_unread,
    h5.read_unread, h6.read_unread, h7.read_unread, h8.read_unread, h9.read_unread, h10.read_unread, h15.read_unread,
    View.ld_unit_zero (S := S1024x1024) hz, View.ld_unit_zero (S := S1x1024) hz, View.ld_unit_zero (S := S128x1024) hz,
    View.ld_unit_zero (S := S1x128) hz]
  funext y
  refine View.canon_apply_of_pieces (Val := Elt Ideal) (S := S1024x2048) (e := .bf16) (gatesOf x0 x1 x3) _ ?_ y
    (View.cover_of_tiledBy _ ![1024, 512] (by sl_kernel_rfl) y)
  simp only [List.forall_mem_cons, List.not_mem_nil, false_implies, implies_true, and_true]
  refine ⟨?_, ?_, ?_, ?_⟩ <;> intro x
  · exact gates_at x0 x1 x3 1536 3072 (by omega) (by omega) _ _ x
  · exact gates_at x0 x1 x3 1024 2560 (by omega) (by omega) _ _ x
  · exact gates_at x0 x1 x3 512 2048 (by omega) (by omega) _ _ x
  · exact gates_at x0 x1 x3 0 1536 (by omega) (by omega) _ _ x

theorem sout_A_0 : sout0_A_0 c i a2 h2 a3 h3 a4 h4 a5 h5 a6 h6 a7 h7 a8 h8 a9 h9 a10 h10 a11 h11 a12 h12 a13 h13 a14 h14 a15 h15 hc0 x0 x1 x2 x3 x4 x5 x6 x7 x8
    = tailOf x0 x1 x3 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc0 x0 x1 x2 x3 x4 x5 x6 x7 x8)]
  unfold kernelRun0_A
  dsimp only
  sl_unfold_words
  simp only [View.readAt_eq_ld, h2.read_unread, h3.read_unread, h4.read_unread,
    h5.read_unread, h6.read_unread, h7.read_unread, h8.read_unread, h9.read_unread, h10.read_unread, h15.read_unread,
    View.ld_unit_zero (S := S1024x1024) hz, View.ld_unit_zero (S := S1x1024) hz, View.ld_unit_zero (S := S128x1024) hz,
    View.ld_unit_zero (S := S1x128) hz]
  funext y
  refine View.canon_append_of_pieces (Val := Elt Ideal) (S := S16x512) (e := .f32) (tailOf x0 x1 x3) [_] [_, _, _, _] ?_ y
    (View.cover_of_tiledBy _ ![16, 128] (by sl_kernel_rfl) y)
  simp only [List.forall_mem_cons, List.not_mem_nil, false_implies, implies_true, and_true]
  refine ⟨?_, ?_, ?_, ?_⟩ <;> intro x
  · exact tail_at x0 x1 x3 384 1408 (by omega) (by omega) _ _ _ x
  · exact tail_at x0 x1 x3 256 1280 (by omega) (by omega) _ _ _ x
  · exact tail_at x0 x1 x3 128 1152 (by omega) (by omega) _ _ _ x
  · exact tail_at x0 x1 x3 0 1024 (by omega) (by omega) _ _ _ x

theorem out_B_9 : out0_B_9 c i a2 h2 a3 h3 a4 h4 a5 h5 a6 h6 a7 h7 a8 h8 a9 h9 a10 h10 a11 h11 a12 h12 a13 h13 a14 h14 a15 h15 hc1 x0 x1 x2 x3 x4 x5 x6 x7 x8 tl
    = qkvOf x0 x1 x2 x6 x7 := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 a15 h15 hc1 x0 x1 x2 x3 x4 x5 x6 x7 x8 tl)]
  unfold kernelRun0_B
  dsimp only
  sl_unfold_words
  simp only [View.readAt_eq_ld, h2.read_unread, h3.read_unread, h4.read_unread,
    h5.read_unread, h6.read_unread, h7.read_unread, h8.read_unread, h9.read_unread, h10.read_unread, h15.read_unread,
    View.ld_unit_zero (S := S1024x1024) hz, View.ld_unit_zero (S := S1x1024) hz, View.ld_unit_zero (S := S128x1024) hz,
    View.ld_unit_zero (S := S1x128) hz]
  funext y
  refine View.canon_apply_of_pieces (Val := Elt Ideal) (S := S1024x1536) (e := .bf16) (qkvOf x0 x1 x2 x6 x7) _ ?_ y
    (View.cover_of_tiledBy _ ![1024, 128] (by sl_kernel_rfl) y)
  simp only [List.forall_mem_cons, List.not_mem_nil, false_implies, implies_true, and_true]
  refine ⟨?_, ?_, ?_, ?_, ?_, ?_, ?_, ?_, ?_⟩ <;> intro x
  · exact v_at x0 x1 x2 x6 x7 _ _ x
  · exact head_at x0 x1 x2 x6 x7 x7 512 384 3 896 (by omega) (by omega) (by omega) (Or.inr ⟨rfl, rfl⟩) _ slices_S1024x512_o0_384_S1024x128 _ _ x
  · exact head_at x0 x1 x2 x6 x7 x7 512 256 2 768 (by omega) (by omega) (by omega) (Or.inr ⟨rfl, rfl⟩) _ slices_S1024x512_o0_256_S1024x128 _ _ x
  · exact head_at x0 x1 x2 x6 x7 x7 512 128 1 640 (by omega) (by omega) (by omega) (Or.inr ⟨rfl, rfl⟩) _ slices_S1024x512_o0_128_S1024x128 _ _ x
  · exact head_at x0 x1 x2 x6 x7 x7 512 0 0 512 (by omega) (by omega) (by omega) (Or.inr ⟨rfl, rfl⟩) _ slices_S1024x512_o0_0_S1024x128 _ _ x
  · exact head_at x0 x1 x2 x6 x7 x6 0 384 3 384 (by omega) (by omega) (by omega) (Or.inl ⟨rfl, rfl⟩) _ slices_S1024x512_o0_384_S1024x128 _ _ x
  · exact head_at x0 x1 x2 x6 x7 x6 0 256 2 256 (by omega) (by omega) (by omega) (Or.inl ⟨rfl, rfl⟩) _ slices_S1024x512_o0_256_S1024x128 _ _ x
  · exact head_at x0 x1 x2 x6 x7 x6 0 128 1 128 (by omega) (by omega) (by omega) (Or.inl ⟨rfl, rfl⟩) _ slices_S1024x512_o0_128_S1024x128 _ _ x
  · exact head_at x0 x1 x2 x6 x7 x6 0 0 0 0 (by omega) (by omega) (by omega) (Or.inl ⟨rfl, rfl⟩) _ slices_S1024x512_o0_0_S1024x128 _ _ x

theorem out_B_10 : out0_B_10 c i a2 h2 a3 h3 a4 h4 a5 h5 a6 h6 a7 h7 a8 h8 a9 h9 a10 h10 a11 h11 a12 h12 a13 h13 a14 h14 a15 h15 hc1 x0 x1 x2 x3 x4 x5 x6 x7 x8 tl
    = logFOf x0 x1 x4 x5 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 a15 h15 hc1 x0 x1 x2 x3 x4 x5 x6 x7 x8 tl)]
  unfold kernelRun0_B
  dsimp only
  sl_unfold_words
  simp only [View.readAt_eq_ld, h2.read_unread, h3.read_unread, h4.read_unread,
    h5.read_unread, h6.read_unread, h7.read_unread, h8.read_unread, h9.read_unread, h10.read_unread, h15.read_unread,
    View.ld_unit_zero (S := S1024x1024) hz, View.ld_unit_zero (S := S1x1024) hz, View.ld_unit_zero (S := S128x1024) hz,
    View.ld_unit_zero (S := S1x128) hz]
  rw [View.canon_unit_zero (S := S1024x128) hz]
  exact logf_at x0 x1 x4 x5

theorem out_B_11 : out0_B_11 c i a2 h2 a3 h3 a4 h4 a5 h5 a6 h6 a7 h7 a8 h8 a9 h9 a10 h10 a11 h11 a12 h12 a13 h13 a14 h14 a15 h15 hc1 x0 x1 x2 x3 x4 x5 x6 x7 x8 tl
    = convOf x0 x1 x3 x8 tl := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 hc1 x0 x1 x2 x3 x4 x5 x6 x7 x8 tl)]
  unfold kernelRun0_B
  dsimp only
  sl_unfold_words
  simp only [View.readAt_eq_ld, h2.read_unread, h3.read_unread, h4.read_unread,
    h5.read_unread, h6.read_unread, h7.read_unread, h8.read_unread, h9.read_unread, h10.read_unread, h15.read_unread,
    View.ld_unit_zero (S := S1024x1024) hz, View.ld_unit_zero (S := S1x1024) hz, View.ld_unit_zero (S := S128x1024) hz,
    View.ld_unit_zero (S := S1x128) hz]
  funext y
  refine View.canon_apply_of_pieces (Val := Elt Ideal) (S := S1024x512) (e := .bf16) (convOf x0 x1 x3 x8 (tl)) _ ?_ y
    (View.cover_of_tiledBy _ ![16, 128] (by sl_kernel_rfl) y)
  simp only [List.forall_mem_cons, List.not_mem_nil, false_implies, implies_true, and_true]
  refine ⟨?_, ?_, ?_, ?_, ?_, ?_, ?_, ?_⟩ <;> intro x
  · exact convBody_at x0 x1 x3 x8 (tl) 384 768 256 128 1408 (by omega) (by omega) (by omega) (by omega) (by omega) _ slices_S1024x256_o0_128_S1024x128 _ _ _ _ _ _ x
  · refine convHead_at x0 x1 x3 x8 (tl) _ 384 768 256 128 1408 (by omega) (by omega) (by omega) (by omega) (by omega) ?_ _ slices_S1024x256_o0_128_S1024x128 _ _ _ _ _ _ x
    intro r c; refine (ld_at tl 0 _ _ r c).trans ?_; simp only [zero_add]
  · exact convBody_at x0 x1 x3 x8 (tl) 256 768 256 0 1280 (by omega) (by omega) (by omega) (by omega) (by omega) _ slices_S1024x256_o0_0_S1024x128 _ _ _ _ _ _ x
  · refine convHead_at x0 x1 x3 x8 (tl) _ 256 768 256 0 1280 (by omega) (by omega) (by omega) (by omega) (by omega) ?_ _ slices_S1024x256_o0_0_S1024x128 _ _ _ _ _ _ x
    intro r c; refine (ld_at tl 0 _ _ r c).trans ?_; simp only [zero_add]
  · exact convBody_at x0 x1 x3 x8 (tl) 128 512 0 128 1152 (by omega) (by omega) (by omega) (by omega) (by omega) _ slices_S1024x256_o0_128_S1024x128 _ _ _ _ _ _ x
  · refine convHead_at x0 x1 x3 x8 (tl) _ 128 512 0 128 1152 (by omega) (by omega) (by omega) (by omega) (by omega) ?_ _ slices_S1024x256_o0_128_S1024x128 _ _ _ _ _ _ x
    intro r c; refine (ld_at tl 0 _ _ r c).trans ?_; simp only [zero_add]
  · exact convBody_at x0 x1 x3 x8 (tl) 0 512 0 0 1024 (by omega) (by omega) (by omega) (by omega) (by omega) _ slices_S1024x256_o0_0_S1024x128 _ _ _ _ _ _ x
  · refine convHead_at x0 x1 x3 x8 (tl) _ 0 512 0 0 1024 (by omega) (by omega) (by omega) (by omega) (by omega) ?_ _ slices_S1024x256_o0_0_S1024x128 _ _ _ _ _ _ x
    intro r c; refine (ld_at tl 0 _ _ r c).trans ?_; simp only [zero_add]

theorem out_B_12 : out0_B_12 c i a2 h2 a3 h3 a4 h4 a5 h5 a6 h6 a7 h7 a8 h8 a9 h9 a10 h10 a11 h11 a12 h12 a13 h13 a14 h14 a15 h15 hc1 x0 x1 x2 x3 x4 x5 x6 x7 x8 tl
    = gatesOf x0 x1 x3 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 hc1 x0 x1 x2 x3 x4 x5 x6 x7 x8 tl)]
  unfold kernelRun0_B
  dsimp only
  sl_unfold_words
  simp only [View.readAt_eq_ld, h2.read_unread, h3.read_unread, h4.read_unread,
    h5.read_unread, h6.read_unread, h7.read_unread, h8.read_unread, h9.read_unread, h10.read_unread, h15.read_unread,
    View.ld_unit_zero (S := S1024x1024) hz, View.ld_unit_zero (S := S1x1024) hz, View.ld_unit_zero (S := S128x1024) hz,
    View.ld_unit_zero (S := S1x128) hz]
  funext y
  refine View.canon_apply_of_pieces (Val := Elt Ideal) (S := S1024x2048) (e := .bf16) (gatesOf x0 x1 x3) _ ?_ y
    (View.cover_of_tiledBy _ ![1024, 512] (by sl_kernel_rfl) y)
  simp only [List.forall_mem_cons, List.not_mem_nil, false_implies, implies_true, and_true]
  refine ⟨?_, ?_, ?_, ?_⟩ <;> intro x
  · exact gates_at x0 x1 x3 1536 3072 (by omega) (by omega) _ _ x
  · exact gates_at x0 x1 x3 1024 2560 (by omega) (by omega) _ _ x
  · exact gates_at x0 x1 x3 512 2048 (by omega) (by omega) _ _ x
  · exact gates_at x0 x1 x3 0 1536 (by omega) (by omega) _ _ x

end Cert.InpIdeal.Kernel
-- ==== Proof.InpArray.lean ====
/-
  The four result arrays of the input projections, each as one function of the argument arrays. Grid point `t` takes rows
  `1024 * t` onwards; two points make one sequence, and the second starts its convolution from the last rows of the first.
-/
module

public import proofs.«01_k».proof.Proof.InpKernel

@[expose] public section

set_option maxRecDepth 16384

noncomputable section

namespace Cert.InpIdeal.Array

open Cert.InpIdeal Cert.InpIdeal.Gen Cert.InpIdeal.Tile Cert.InpIdeal.Kernel Cert.Layer Idealize.ShloMosaic Idealize.ShloMosaic.TcCoe
open Idealize.SL.Sem
open Idealize.ShloMosaic.Pipeline (Dat)

variable (m : (ℓ : Loc nD τ sig) → Buf (Elt Ideal) ℓ)

abbrev arr0 (c : Dev nD) : S16384x1024.Idx → EReal := m ((c : Thread nD τ).loc main_arg0)
abbrev arr1 (c : Dev nD) : S1x1024.Idx → EReal := m ((c : Thread nD τ).loc main_arg1)
abbrev arr2 (c : Dev nD) : S1536x1024.Idx → EReal := m ((c : Thread nD τ).loc main_arg2)
abbrev arr3 (c : Dev nD) : S3584x1024.Idx → EReal := m ((c : Thread nD τ).loc main_arg3)
abbrev arr4 (c : Dev nD) : S128x1024.Idx → EReal := m ((c : Thread nD τ).loc main_arg4)
abbrev arr5 (c : Dev nD) : S1x128.Idx → EReal := m ((c : Thread nD τ).loc main_arg5)
abbrev arr6 (c : Dev nD) : S1x512.Idx → EReal := m ((c : Thread nD τ).loc main_arg6)
abbrev arr7 (c : Dev nD) : S1x512.Idx → EReal := m ((c : Thread nD τ).loc main_arg7)
abbrev arr8 (c : Dev nD) : S3x512.Idx → EReal := m ((c : Thread nD τ).loc main_arg8)

theorem index_facts : ∀ t : Fin grid0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0) := by decide +kernel

theorem lt16 (t : Fin cfg0.N) : t.val < 16 := lt_of_lt_of_eq t.isLt N_0

/-! ## The blocks of the arguments -/

theorem blk0 (c : Dev nD) (t : Fin cfg0.N) (i j : Fin 1024) :
    (iblk m c 0 t : S1024x1024.Idx → EReal) (ix2 i j)
      = arr0 m c (ix2 ⟨1024 * t.val + i.val, by have := lt16 t; omega⟩ j) := by
  have hx := (index_facts t).1
  refine congrArg (arr0 m c) (funext fun a => Fin.ext ?_)
  match a with
  | ⟨0, _⟩ => show win0_0.index t 0 * 1024 + 1 * i.val = _; rw [hx.1]; show _ = 1024 * t.val + i.val; omega
  | ⟨1, _⟩ => show win0_0.index t 1 * 1024 + 1 * j.val = _; rw [hx.2]; show _ = j.val; omega

theorem blk1 (c : Dev nD) (t : Fin cfg0.N) : (iblk m c 1 t : S1x1024.Idx → EReal) = arr1 m c := by
  have hx := (index_facts t).2.1
  funext x
  refine congrArg (arr1 m c) (funext fun a => Fin.ext ?_)
  match a with
  | ⟨0, _⟩ => show win0_1.index t 0 * 1 + 1 * (x 0).val = (x 0).val; rw [hx.1]; omega
  | ⟨1, _⟩ => show win0_1.index t 1 * 1024 + 1 * (x 1).val = (x 1).val; rw [hx.2]; omega

theorem blk2 (c : Dev nD) (t : Fin cfg0.N) : (iblk m c 2 t : S1536x1024.Idx → EReal) = arr2 m c := by
  have hx := (index_facts t).2.2.1
  funext x
  refine congrArg (arr2 m c) (funext fun a => Fin.ext ?_)
  match a with
  | ⟨0, _⟩ => show win0_2.index t 0 * 1536 + 1 * (x 0).val = (x 0).val; rw [hx.1]; omega
  | ⟨1, _⟩ => show win0_2.index t 1 * 1024 + 1 * (x 1).val = (x 1).val; rw [hx.2]; omega

theorem blk3 (c : Dev nD) (t : Fin cfg0.N) : (iblk m c 3 t : S3584x1024.Idx → EReal) = arr3 m c := by
  have hx := (index_facts t).2.2.2.1
  funext x
  refine congrArg (arr3 m c) (funext fun a => Fin.ext ?_)
  match a with
  | ⟨0, _⟩ => show win0_3.index t 0 * 3584 + 1 * (x 0).val = (x 0).val; rw [hx.1]; omega
  | ⟨1, _⟩ => show win0_3.index t 1 * 1024 + 1 * (x 1).val = (x 1).val; rw [hx.2]; omega

theorem blk4 (c : Dev nD) (t : Fin cfg0.N) : (iblk m c 4 t : S128x1024.Idx → EReal) = arr4 m c := by
  have hx := (index_facts t).2.2.2.2.1
  funext x
  refine congrArg (arr4 m c) (funext fun a => Fin.ext ?_)
  match a with
  | ⟨0, _⟩ => show win0_4.index t 0 * 128 + 1 * (x 0).val = (x 0).val; rw [hx.1]; omega
  | ⟨1, _⟩ => show win0_4.index t 1 * 1024 + 1 * (x 1).val = (x 1).val; rw [hx.2]; omega

theorem blk5 (c : Dev nD) (t : Fin cfg0.N) : (iblk m c 5 t : S1x128.Idx → EReal) = arr5 m c := by
  have hx := (index_facts t).2.2.2.2.2.1
  funext x
  refine congrArg (arr5 m c) (funext fun a => Fin.ext ?_)
  match a with
  | ⟨0, _⟩ => show win0_5.index t 0 * 1 + 1 * (x 0).val = (x 0).val; rw [hx.1]; omega
  | ⟨1, _⟩ => show win0_5.index t 1 * 128 + 1 * (x 1).val = (x 1).val; rw [hx.2]; omega

theorem blk6 (c : Dev nD) (t : Fin cfg0.N) : (iblk m c 6 t : S1x512.Idx → EReal) = arr6 m c := by
  have hx := (index_facts t).2.2.2.2.2.2.1
  funext x
  refine congrArg (arr6 m c) (funext fun a => Fin.ext ?_)
  match a with
  | ⟨0, _⟩ => show win0_6.index t 0 * 1 + 1 * (x 0).val = (x 0).val; rw [hx.1]; omega
  | ⟨1, _⟩ => show win0_6.index t 1 * 512 + 1 * (x 1).val = (x 1).val; rw [hx.2]; omega

theorem blk7 (c : Dev nD) (t : Fin cfg0.N) : (iblk m c 7 t : S1x512.Idx → EReal) = arr7 m c := by
  have hx := (index_facts t).2.2.2.2.2.2.2.1
  funext x
  refine congrArg (arr7 m c) (funext fun a => Fin.ext ?_)
  match a with
  | ⟨0, _⟩ => show win0_7.index t 0 * 1 + 1 * (x 0).val = (x 0).val; rw [hx.1]; omega
  | ⟨1, _⟩ => show win0_7.index t 1 * 512 + 1 * (x 1).val = (x 1).val; rw [hx.2]; omega

theorem blk8 (c : Dev nD) (t : Fin cfg0.N) : (iblk m c 8 t : S3x512.Idx → EReal) = arr8 m c := by
  have hx := (index_facts t).2.2.2.2.2.2.2.2.1
  funext x
  refine congrArg (arr8 m c) (funext fun a => Fin.ext ?_)
  match a with
  | ⟨0, _⟩ => show win0_8.index t 0 * 3 + 1 * (x 0).val = (x 0).val; rw [hx.1]; omega
  | ⟨1, _⟩ => show win0_8.index t 1 * 512 + 1 * (x 1).val = (x 1).val; rw [hx.2]; omega

/-! ## The results -/

abbrev row (c : Dev nD) (r : Fin 16384) : Fin 1024 → EReal := fun k => arr0 m c (ix2 r k)
abbrev gain (c : Dev nD) : Fin 1024 → EReal := fun k => arr1 m c (ix2 0 k)

theorem row_eq (c : Dev nD) (t : Fin cfg0.N) (r : Fin 1024) :
    rowOf (iblk m c 0 t) r = row m c ⟨1024 * t.val + r.val, by have := lt16 t; omega⟩ :=
  funext fun k => blk0 m c t r k

theorem gain_eq (c : Dev nD) (t : Fin cfg0.N) : gainOf (iblk m c 1 t) = gain m c :=
  funext fun k => congrFun (blk1 m c t) (ix2 0 k)

/-- The element `d` rows before row `r`, zero before the row's sequence begins. -/
def prev (z : Fin 16384 → EReal) (d : ℕ) (r : Fin 16384) : EReal :=
  if r.val % 2048 < d then 0 else z ⟨r.val - d, by omega⟩

def res9 (c : Dev nD) : S16384x1536.Idx → EReal :=
  fun i => qkv (row m c (i 0)) (gain m c) (arr2 m c) (arr6 m c) (arr7 m c) (i 1)

def res10 (c : Dev nD) : S16384x128.Idx → EReal :=
  fun i => logF (row m c (i 0)) (gain m c) (arr4 m c) (arr5 m c) (i 1)

def res11 (c : Dev nD) : S16384x512.Idx → EReal :=
  fun i => conv (gateB (row m c (i 0)) (gain m c) (arr3 m c) (i 1)) (arr8 m c (ix2 2 (i 1))) (arr8 m c (ix2 1 (i 1)))
    (arr8 m c (ix2 0 (i 1))) (zc (row m c (i 0)) (gain m c) (arr3 m c) (i 1))
    (prev (fun r => zc (row m c r) (gain m c) (arr3 m c) (i 1)) 1 (i 0))
    (prev (fun r => zc (row m c r) (gain m c) (arr3 m c) (i 1)) 2 (i 0))

def res12 (c : Dev nD) : S16384x2048.Idx → EReal :=
  fun i => gates (row m c (i 0)) (gain m c) (arr3 m c) (i 1)

/-- In a sequence's first tile the rows before the tile are zero, in its second they are the first tile's last. -/
theorem back_first (z : Fin 16384 → EReal) (t : ℕ) (ht : t < 16) (h : t % 2 = 0) (d : ℕ) (hd : d ≤ 16) (r : Fin 1024) :
    back (fun r => z ⟨1024 * t + r.val, by omega⟩) (fun _ => 0) d hd r = prev z d ⟨1024 * t + r.val, by omega⟩ := by
  unfold back prev
  have e : (1024 * t + r.val) % 2048 = r.val := by omega
  by_cases hr : r.val < d
  · rw [dif_pos hr, if_pos (by show (1024 * t + r.val) % 2048 < d; omega)]
  · rw [dif_neg hr, if_neg (by show ¬ (1024 * t + r.val) % 2048 < d; omega)]
    exact congrArg z (Fin.ext (by show 1024 * t + (r.val - d) = 1024 * t + r.val - d; omega))

theorem back_second (z : Fin 16384 → EReal) (t : ℕ) (ht : t < 16) (h : ¬ t % 2 = 0) (d : ℕ) (hd : d ≤ 16) (r : Fin 1024) :
    back (fun r => z ⟨1024 * t + r.val, by omega⟩) (fun r => z ⟨1024 * (t - 1) + (1008 + r.val), by omega⟩) d hd r
      = prev z d ⟨1024 * t + r.val, by omega⟩ := by
  unfold back prev
  rw [if_neg (by show ¬ (1024 * t + r.val) % 2048 < d; omega)]
  by_cases hr : r.val < d
  · rw [dif_pos hr]
    exact congrArg z (Fin.ext (by show 1024 * (t - 1) + (1008 + (16 + r.val - d)) = 1024 * t + r.val - d; omega))
  · rw [dif_neg hr]
    exact congrArg z (Fin.ext (by show 1024 * t + (r.val - d) = 1024 * t + r.val - d; omega))

/-- The rows a sequence's second tile finds. -/
theorem tail_eq (c : Dev nD) (t : ℕ) (ht : t < cfg0.N) (h : t % 2 = 0) :
    (outsAt0 m c t ht).2.2.2.2 = tailOf (iblk m c 0 ⟨t, ht⟩) (iblk m c 1 ⟨t, ht⟩) (iblk m c 3 ⟨t, ht⟩) := by
  have e : outsAt0 m c t ht = _ := outsAt0_A m c ⟨t, ht⟩ h
  rw [e]
  dsimp only
  rw [sout_A_0]

/-! ## What is written back -/

theorem emb9 (t : Fin cfg0.N) (r : Fin 1024) (k : Fin 1536) : ((cfg0.win 9).blk t).view.emb (ix2 r k)
    = ix2 (n0 := 16384) (n1 := 1536) ⟨1024 * t.val + r.val, by have := lt16 t; omega⟩ k := by
  have hx := (index_facts t).2.2.2.2.2.2.2.2.2.1
  funext a
  refine Fin.ext ?_
  match a with
  | ⟨0, _⟩ => show win0_9.index t 0 * 1024 + 1 * r.val = 1024 * t.val + r.val; rw [hx.1]; omega
  | ⟨1, _⟩ => show win0_9.index t 1 * 1536 + 1 * k.val = k.val; rw [hx.2]; omega

theorem mem_blk9 (t : Fin cfg0.N) (i : S16384x1536.Idx) :
    i ∈ ((cfg0.win 9).blk t).view.set ↔ (i 0).val / 1024 = t.val := by
  have hx := (index_facts t).2.2.2.2.2.2.2.2.2.1
  have hi : (i 1).val < 1536 := (i 1).isLt
  show i ∈ ((View.whole main_v0_0).slice (win0_9.rect t)).set ↔ _
  rw [View.set_slice_whole, Rect.mem_set_unit]
  constructor
  · intro h
    have h0 : win0_9.index t 0 * 1024 ≤ (i 0).val ∧ (i 0).val < win0_9.index t 0 * 1024 + 1024 := h 0
    rw [hx.1] at h0
    omega
  · intro h a
    match a with
    | ⟨0, _⟩ => show win0_9.index t 0 * 1024 ≤ (i 0).val ∧ (i 0).val < win0_9.index t 0 * 1024 + 1024; rw [hx.1]; omega
    | ⟨1, _⟩ => show win0_9.index t 1 * 1536 ≤ (i 1).val ∧ (i 1).val < win0_9.index t 1 * 1536 + 1536; rw [hx.2]; omega

theorem emb10 (t : Fin cfg0.N) (r : Fin 1024) (k : Fin 128) : ((cfg0.win 10).blk t).view.emb (ix2 r k)
    = ix2 (n0 := 16384) (n1 := 128) ⟨1024 * t.val + r.val, by have := lt16 t; omega⟩ k := by
  have hx := (index_facts t).2.2.2.2.2.2.2.2.2.2.1
  funext a
  refine Fin.ext ?_
  match a with
  | ⟨0, _⟩ => show win0_10.index t 0 * 1024 + 1 * r.val = 1024 * t.val + r.val; rw [hx.1]; omega
  | ⟨1, _⟩ => show win0_10.index t 1 * 128 + 1 * k.val = k.val; rw [hx.2]; omega

theorem mem_blk10 (t : Fin cfg0.N) (i : S16384x128.Idx) :
    i ∈ ((cfg0.win 10).blk t).view.set ↔ (i 0).val / 1024 = t.val := by
  have hx := (index_facts t).2.2.2.2.2.2.2.2.2.2.1
  have hi : (i 1).val < 128 := (i 1).isLt
  show i ∈ ((View.whole main_v0_1).slice (win0_10.rect t)).set ↔ _
  rw [View.set_slice_whole, Rect.mem_set_unit]
  constructor
  · intro h
    have h0 : win0_10.index t 0 * 1024 ≤ (i 0).val ∧ (i 0).val < win0_10.index t 0 * 1024 + 1024 := h 0
    rw [hx.1] at h0
    omega
  · intro h a
    match a with
    | ⟨0, _⟩ => show win0_10.index t 0 * 1024 ≤ (i 0).val ∧ (i 0).val < win0_10.index t 0 * 1024 + 1024; rw [hx.1]; omega
    | ⟨1, _⟩ => show win0_10.index t 1 * 128 ≤ (i 1).val ∧ (i 1).val < win0_10.index t 1 * 128 + 128; rw [hx.2]; omega

theorem emb11 (t : Fin cfg0.N) (r : Fin 1024) (k : Fin 512) : ((cfg0.win 11).blk t).view.emb (ix2 r k)
    = ix2 (n0 := 16384) (n1 := 512) ⟨1024 * t.val + r.val, by have := lt16 t; omega⟩ k := by
  have hx := (index_facts t).2.2.2.2.2.2.2.2.2.2.2.1
  funext a
  refine Fin.ext ?_
  match a with
  | ⟨0, _⟩ => show win0_11.index t 0 * 1024 + 1 * r.val = 1024 * t.val + r.val; rw [hx.1]; omega
  | ⟨1, _⟩ => show win0_11.index t 1 * 512 + 1 * k.val = k.val; rw [hx.2]; omega

theorem mem_blk11 (t : Fin cfg0.N) (i : S16384x512.Idx) :
    i ∈ ((cfg0.win 11).blk t).view.set ↔ (i 0).val / 1024 = t.val := by
  have hx := (index_facts t).2.2.2.2.2.2.2.2.2.2.2.1
  have hi : (i 1).val < 512 := (i 1).isLt
  show i ∈ ((View.whole main_v0_2).slice (win0_11.rect t)).set ↔ _
  rw [View.set_slice_whole, Rect.mem_set_unit]
  constructor
  · intro h
    have h0 : win0_11.index t 0 * 1024 ≤ (i 0).val ∧ (i 0).val < win0_11.index t 0 * 1024 + 1024 := h 0
    rw [hx.1] at h0
    omega
  · intro h a
    match a with
    | ⟨0, _⟩ => show win0_11.index t 0 * 1024 ≤ (i 0).val ∧ (i 0).val < win0_11.index t 0 * 1024 + 1024; rw [hx.1]; omega
    | ⟨1, _⟩ => show win0_11.index t 1 * 512 ≤ (i 1).val ∧ (i 1).val < win0_11.index t 1 * 512 + 512; rw [hx.2]; omega

theorem emb12 (t : Fin cfg0.N) (r : Fin 1024) (k : Fin 2048) : ((cfg0.win 12).blk t).view.emb (ix2 r k)
    = ix2 (n0 := 16384) (n1 := 2048) ⟨1024 * t.val + r.val, by have := lt16 t; omega⟩ k := by
  have hx := (index_facts t).2.2.2.2.2.2.2.2.2.2.2.2
  funext a
  refine Fin.ext ?_
  match a with
  | ⟨0, _⟩ => show win0_12.index t 0 * 1024 + 1 * r.val = 1024 * t.val + r.val; rw [hx.1]; omega
  | ⟨1, _⟩ => show win0_12.index t 1 * 2048 + 1 * k.val = k.val; rw [hx.2]; omega

theorem mem_blk12 (t : Fin cfg0.N) (i : S16384x2048.Idx) :
    i ∈ ((cfg0.win 12).blk t).view.set ↔ (i 0).val / 1024 = t.val := by
  have hx := (index_facts t).2.2.2.2.2.2.2.2.2.2.2.2
  have hi : (i 1).val < 2048 := (i 1).isLt
  show i ∈ ((View.whole main_v0_3).slice (win0_12.rect t)).set ↔ _
  rw [View.set_slice_whole, Rect.mem_set_unit]
  constructor
  · intro h
    have h0 : win0_12.index t 0 * 1024 ≤ (i 0).val ∧ (i 0).val < win0_12.index t 0 * 1024 + 1024 := h 0
    rw [hx.1] at h0
    omega
  · intro h a
    match a with
    | ⟨0, _⟩ => show win0_12.index t 0 * 1024 ≤ (i 0).val ∧ (i 0).val < win0_12.index t 0 * 1024 + 1024; rw [hx.1]; omega
    | ⟨1, _⟩ => show win0_12.index t 1 * 2048 ≤ (i 1).val ∧ (i 1).val < win0_12.index t 1 * 2048 + 2048; rw [hx.2]; omega

theorem flushed9 (c : Dev nD) (t : Fin cfg0.N) (hf : (cfg0.win 9).flush t = true) :
    (dats m 0 c).flushed 9 t = ((cfg0.win 9).blk t).view.read (Elt Ideal) (res9 m c) := by
  have h : (dats m 0 c).flushed 9 t = (cfg0.win 9).cut (grid0.coords t) (qkvOf (iblk m c 0 t) (iblk m c 1 t) (iblk m c 2 t) (iblk m c 6 t) (iblk m c 7 t)) := by
    by_cases h0 : t.val % 2 = 0
    · rw [Value.flushed9_A m c t h0, out_A_9]
    · rw [Value.flushed9_B m c t h0, out_B_9]
  rw [h]
  funext x
  obtain ⟨r, k, rfl⟩ : ∃ r k, x = ix2 (n0 := 1024) (n1 := 1536) r k := ⟨x 0, x 1, eq_ix2 x⟩
  show qkvOf (iblk m c 0 t) (iblk m c 1 t) (iblk m c 2 t) (iblk m c 6 t) (iblk m c 7 t) (ix2 r k) = res9 m c (((cfg0.win 9).blk t).view.emb (ix2 r k))
  rw [emb9, blk2, blk6, blk7]
  show qkv (rowOf (iblk m c 0 t) r) (gainOf (iblk m c 1 t)) (arr2 m c) (arr6 m c) (arr7 m c) k = _
  rw [row_eq, gain_eq]
  rfl

theorem flushed10 (c : Dev nD) (t : Fin cfg0.N) (hf : (cfg0.win 10).flush t = true) :
    (dats m 0 c).flushed 10 t = ((cfg0.win 10).blk t).view.read (Elt Ideal) (res10 m c) := by
  have h : (dats m 0 c).flushed 10 t = (cfg0.win 10).cut (grid0.coords t) (logFOf (iblk m c 0 t) (iblk m c 1 t) (iblk m c 4 t) (iblk m c 5 t)) := by
    by_cases h0 : t.val % 2 = 0
    · rw [Value.flushed10_A m c t h0, out_A_10]
    · rw [Value.flushed10_B m c t h0, out_B_10]
  rw [h]
  funext x
  obtain ⟨r, k, rfl⟩ : ∃ r k, x = ix2 (n0 := 1024) (n1 := 128) r k := ⟨x 0, x 1, eq_ix2 x⟩
  show logFOf (iblk m c 0 t) (iblk m c 1 t) (iblk m c 4 t) (iblk m c 5 t) (ix2 r k) = res10 m c (((cfg0.win 10).blk t).view.emb (ix2 r k))
  rw [emb10, blk4, blk5]
  show logF (rowOf (iblk m c 0 t) r) (gainOf (iblk m c 1 t)) (arr4 m c) (arr5 m c) k = _
  rw [row_eq, gain_eq]
  rfl

theorem flushed12 (c : Dev nD) (t : Fin cfg0.N) (hf : (cfg0.win 12).flush t = true) :
    (dats m 0 c).flushed 12 t = ((cfg0.win 12).blk t).view.read (Elt Ideal) (res12 m c) := by
  have h : (dats m 0 c).flushed 12 t = (cfg0.win 12).cut (grid0.coords t) (gatesOf (iblk m c 0 t) (iblk m c 1 t) (iblk m c 3 t)) := by
    by_cases h0 : t.val % 2 = 0
    · rw [Value.flushed12_A m c t h0, out_A_12]
    · rw [Value.flushed12_B m c t h0, out_B_12]
  rw [h]
  funext x
  obtain ⟨r, k, rfl⟩ : ∃ r k, x = ix2 (n0 := 1024) (n1 := 2048) r k := ⟨x 0, x 1, eq_ix2 x⟩
  show gatesOf (iblk m c 0 t) (iblk m c 1 t) (iblk m c 3 t) (ix2 r k) = res12 m c (((cfg0.win 12).blk t).view.emb (ix2 r k))
  rw [emb12, blk3]
  show gates (rowOf (iblk m c 0 t) r) (gainOf (iblk m c 1 t)) (arr3 m c) k = _
  rw [row_eq, gain_eq]
  rfl

theorem flushed11 (c : Dev nD) (t : Fin cfg0.N) (hf : (cfg0.win 11).flush t = true) :
    (dats m 0 c).flushed 11 t = ((cfg0.win 11).blk t).view.read (Elt Ideal) (res11 m c) := by
  have e (tl : S16x512.Idx → EReal) (r : Fin 1024) (k : Fin 512) :
      convOf (iblk m c 0 t) (iblk m c 1 t) (iblk m c 3 t) (iblk m c 8 t) tl (ix2 r k)
      = conv (gateB (row m c ⟨1024 * t.val + r.val, by have := lt16 t; omega⟩) (gain m c) (arr3 m c) k)
          (arr8 m c (ix2 2 k)) (arr8 m c (ix2 1 k)) (arr8 m c (ix2 0 k))
          (zc (row m c ⟨1024 * t.val + r.val, by have := lt16 t; omega⟩) (gain m c) (arr3 m c) k)
          (back (fun r => zc (row m c ⟨1024 * t.val + r.val, by have := lt16 t; omega⟩) (gain m c) (arr3 m c) k) (fun r => tl (ix2 r k)) 1 (by omega) r)
          (back (fun r => zc (row m c ⟨1024 * t.val + r.val, by have := lt16 t; omega⟩) (gain m c) (arr3 m c) k) (fun r => tl (ix2 r k)) 2 (by omega) r) := by
    rw [blk3, blk8]
    show conv (gateB (rowOf (iblk m c 0 t) r) (gainOf (iblk m c 1 t)) (arr3 m c) k) (arr8 m c (ix2 2 k)) (arr8 m c (ix2 1 k))
      (arr8 m c (ix2 0 k)) (zc (rowOf (iblk m c 0 t) r) (gainOf (iblk m c 1 t)) (arr3 m c) k)
      (back (fun r => zc (rowOf (iblk m c 0 t) r) (gainOf (iblk m c 1 t)) (arr3 m c) k) (fun r => tl (ix2 r k)) 1 (by omega) r)
      (back (fun r => zc (rowOf (iblk m c 0 t) r) (gainOf (iblk m c 1 t)) (arr3 m c) k) (fun r => tl (ix2 r k)) 2 (by omega) r) = _
    simp only [row_eq, gain_eq]
  by_cases h0 : t.val % 2 = 0
  · rw [Value.flushed11_A m c t h0, out_A_11]
    funext x
    obtain ⟨r, k, rfl⟩ : ∃ r k, x = ix2 (n0 := 1024) (n1 := 512) r k := ⟨x 0, x 1, eq_ix2 x⟩
    show convOf (iblk m c 0 t) (iblk m c 1 t) (iblk m c 3 t) (iblk m c 8 t) (fun _ => 0) (ix2 r k)
      = res11 m c (((cfg0.win 11).blk t).view.emb (ix2 r k))
    rw [emb11, e, back_first (fun r => zc (row m c r) (gain m c) (arr3 m c) k) t.val (lt16 t) h0,
      back_first (fun r => zc (row m c r) (gain m c) (arr3 m c) k) t.val (lt16 t) h0]
    rfl
  · rw [Value.flushed11_B m c t h0, out_B_11, tail_eq m c (t.val - 1) _ (by omega)]
    funext x
    obtain ⟨r, k, rfl⟩ : ∃ r k, x = ix2 (n0 := 1024) (n1 := 512) r k := ⟨x 0, x 1, eq_ix2 x⟩
    show convOf (iblk m c 0 t) (iblk m c 1 t) (iblk m c 3 t) (iblk m c 8 t) (tailOf _ _ _) (ix2 r k)
      = res11 m c (((cfg0.win 11).blk t).view.emb (ix2 r k))
    have hp : ∀ (t' : Fin cfg0.N) (ht : t'.val = t.val - 1) (r : Fin 16), tailOf (iblk m c 0 t') (iblk m c 1 t') (iblk m c 3 t') (ix2 r k)
        = zc (row m c ⟨1024 * (t.val - 1) + (1008 + r.val), by have := lt16 t; omega⟩) (gain m c) (arr3 m c) k := by
      intro t' ht r
      rw [blk3]
      show zc (rowOf (iblk m c 0 t') ⟨1008 + r.val, _⟩) (gainOf (iblk m c 1 t')) (arr3 m c) k = _
      rw [row_eq, gain_eq]
      simp only [ht]
    rw [emb11, e]
    simp only [hp ⟨t.val - 1, _⟩ rfl]
    rw [back_second (fun r => zc (row m c r) (gain m c) (arr3 m c) k) t.val (lt16 t) h0,
      back_second (fun r => zc (row m c r) (gain m c) (arr3 m c) k) t.val (lt16 t) h0]
    rfl

theorem final9 (c : Dev nD) : (dats m 0 c).arrAt 9 cfg0.N = res9 m c :=
  (dats m 0 c).arrAt_eq_of_cover 9 (res9 m c) (flushed9 m c) fun i => by
    have h0 : (i 0).val < 16384 := (i 0).isLt
    refine ⟨⟨(i 0).val / 1024, by rw [show cfg0.N = 16 from N_0]; omega⟩, flush0_9 _, ?_⟩
    rw [mem_blk9]

theorem final10 (c : Dev nD) : (dats m 0 c).arrAt 10 cfg0.N = res10 m c :=
  (dats m 0 c).arrAt_eq_of_cover 10 (res10 m c) (flushed10 m c) fun i => by
    have h0 : (i 0).val < 16384 := (i 0).isLt
    refine ⟨⟨(i 0).val / 1024, by rw [show cfg0.N = 16 from N_0]; omega⟩, flush0_10 _, ?_⟩
    rw [mem_blk10]

theorem final11 (c : Dev nD) : (dats m 0 c).arrAt 11 cfg0.N = res11 m c :=
  (dats m 0 c).arrAt_eq_of_cover 11 (res11 m c) (flushed11 m c) fun i => by
    have h0 : (i 0).val < 16384 := (i 0).isLt
    refine ⟨⟨(i 0).val / 1024, by rw [show cfg0.N = 16 from N_0]; omega⟩, flush0_11 _, ?_⟩
    rw [mem_blk11]

theorem final12 (c : Dev nD) : (dats m 0 c).arrAt 12 cfg0.N = res12 m c :=
  (dats m 0 c).arrAt_eq_of_cover 12 (res12 m c) (flushed12 m c) fun i => by
    have h0 : (i 0).val < 16384 := (i 0).isLt
    refine ⟨⟨(i 0).val / 1024, by rw [show cfg0.N = 16 from N_0]; omega⟩, flush0_12 _, ?_⟩
    rw [mem_blk12]

/-- The kernel's run: the four results, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = res9 m c
      ∧ r.2.mem ((c : Thread nD τ).loc main_v0_1) = res10 m c
      ∧ r.2.mem ((c : Thread nD τ).loc main_v0_2) = res11 m c
      ∧ r.2.mem ((c : Thread nD τ).loc main_v0_3) = res12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final9 m c), (h c).2.1.trans (final10 m c), (h c).2.2.1.trans (final11 m c),
    (h c).2.2.2.1.trans (final12 m c), (h c).2.2.2.2⟩) (Value.run_blocks m ρ)

end Cert.InpIdeal.Array
-- ==== Proof.InpReference.lean ====
/-
  The input projection reference's four results at an index.
-/
module

public import proofs.«01_k».proof.Proof.Gen.InpRefIdeal.Read
public import proofs.«01_k».proof.Proof.InpArray

@[expose] public section

set_option maxRecDepth 16384

noncomputable section

namespace Cert.InpRefIdeal.Rows

open Cert.InpRefIdeal Cert.InpRefIdeal.Gen Cert.InpRefIdeal.Read Cert.Layer Idealize.ShloMosaic Idealize.ShloMosaic.TcCoe
open Cert.InpIdeal.Tile (proj logSigmoid headScale len64 conv qkv logF gates zc gateB)
open Cert.InpIdeal.Array (prev)

variable (x0 : S16384x1024.Idx → EReal) (x1 : S1x1024.Idx → EReal) (x2 : S1536x1024.Idx → EReal) (x3 : S3584x1024.Idx → EReal)
  (x4 : S128x1024.Idx → EReal) (x5 : S1x128.Idx → EReal) (x6 x7 : S1x512.Idx → EReal) (x8 : S3x512.Idx → EReal)

theorem norm_at (r : Fin 16384) (k : Fin 1024) :
    val_main_v11 (F := Ideal) x0 x1 (ix2 r k) = rms len1024 eps6 (fun k => x0 (ix2 r k)) (fun k => x1 (ix2 0 k)) k := by
  pointwise [val_main_v11, val_main_v10, val_main_v9, val_main_v8, val_main_v7, val_main_v6, val_main_v5, val_main_cst_1,
    val_main_v4, val_main_v3, val_main_cst_0, val_main_v2, val_main_v1, val_main_cst, val_main_v0]
  rfl

theorem p_at (r : Fin 16384) (j : Fin 1536) :
    val_main_v14 (F := Ideal) x0 x1 x2 (ix2 r j)
      = proj (fun k => x0 (ix2 r k)) (fun k => x1 (ix2 0 k)) fun k => x2 (ix2 j k) := by
  pointwise [val_main_v14, val_main_v13, val_main_v12]
  simp only [norm_at]
  rfl

theorem r_at (r : Fin 16384) (j : Fin 3584) :
    val_main_v17 (F := Ideal) x0 x1 x3 (ix2 r j)
      = proj (fun k => x0 (ix2 r k)) (fun k => x1 (ix2 0 k)) fun k => x3 (ix2 j k) := by
  pointwise [val_main_v17, val_main_v16, val_main_v15]
  simp only [norm_at]
  rfl

theorem gates_at (r : Fin 16384) (c : Fin 2048) :
    val_main_v93 (F := Ideal) x0 x1 x3 (ix2 r c) = gates (fun k => x0 (ix2 r k)) (fun k => x1 (ix2 0 k)) x3 c := by
  pointwise [val_main_v93, val_main_v92, val_main_v91, val_main_cst_9, val_main_v90, val_main_v89, val_main_cst_8,
    val_main_v88, val_main_v87, val_main_v86]
  simp only [r_at, Ideal.ofBits_one_f32]
  unfold gates Ideal.logistic
  simp only [Nat.add_comm]

/-- A softplus is above minus infinity. -/
theorem log1p_exp_ne_bot (y : EReal) : Ideal.log1p (Ideal.exp y) ≠ ⊥ := by
  unfold Ideal.log1p
  induction y with
  | bot => rw [show Ideal.exp ⊥ = ((0 : ℝ) : EReal) from rfl, ← EReal.coe_one, ← EReal.coe_add]
           show (if (1 + 0 : ℝ) ≤ 0 then (⊥ : EReal) else _) ≠ ⊥
           rw [if_neg (by simp)]; exact EReal.coe_ne_bot _
  | top => rw [show Ideal.exp ⊤ = ⊤ from rfl, ← EReal.coe_one, EReal.add_top_of_ne_bot (EReal.coe_ne_bot 1)]; exact top_ne_bot
  | coe r => rw [show Ideal.exp (r : EReal) = ((Real.exp r : ℝ) : EReal) from rfl, ← EReal.coe_one, ← EReal.coe_add]
             show (if 1 + Real.exp r ≤ 0 then (⊥ : EReal) else _) ≠ ⊥
             rw [if_neg (by have := Real.exp_pos r; linarith)]; exact EReal.coe_ne_bot _

/-- The logarithm of the sigmoid, by the softplus of the negation. -/
theorem logSigmoid_eq (a : EReal) :
    -(if -a ≠ -a then -a else max (-a) 0 + Ideal.log1p (Ideal.exp (-FloatOps.absf (F := Ideal) (φ := .f32) (-a)))) = logSigmoid a := by
  rw [if_neg (fun h => h rfl)]
  have habs : FloatOps.absf (F := Ideal) (φ := .f32) (-a) = FloatOps.absf (F := Ideal) (φ := .f32) a := by
    show max (-a) (- -a) = max a (-a)
    rw [neg_neg, max_comm]
  have hm : -(max (-a) 0) = min a 0 := by
    rcases le_total a 0 with h | h
    · rw [max_eq_left (EReal.neg_nonneg.mpr h), min_eq_left h, neg_neg]
    · rw [max_eq_right (EReal.neg_le_neg_iff.mpr h |>.trans (le_of_eq neg_zero)), min_eq_right h, neg_zero]
  have hlog := log1p_exp_ne_bot (-FloatOps.absf (F := Ideal) (φ := .f32) a)
  have hbot : max (-a) 0 ≠ ⊥ := fun h => absurd (le_max_right (-a) 0) (by rw [h]; simp)
  rw [habs, EReal.neg_add (Or.inl hbot) (Or.inr hlog), hm, logSigmoid, zero_sub]

theorem logf_at (r : Fin 16384) (c : Fin 128) :
    val_main_v55 (F := Ideal) x0 x1 x4 x5 (ix2 r c) = logF (fun k => x0 (ix2 r k)) (fun k => x1 (ix2 0 k)) x4 x5 c := by
  pointwise [val_main_v55, val_main_call0_v1, val_main_call0_call0_v11, val_main_call0_call0_v10, val_main_call0_call0_v9,
    val_main_call0_call0_v8, val_main_call0_call0_v7, val_main_call0_call0_v6, val_main_call0_call0_v5,
    val_main_call0_call0_v4, val_main_call0_call0_v3, val_main_call0_call0_v2, val_main_call0_call0_v1,
    val_main_call0_call0_v0, val_main_call0_call0_cst, val_main_call0_v0, val_main_v54, val_main_v53, val_main_v52,
    val_main_v51, val_main_v50]
  simp only [norm_at]
  exact logSigmoid_eq _

/-- A column of a head, whose width is 64, by the head and the lane. -/
theorem col_eq (c : ℕ) : c / 64 * 64 + c % 64 = c := by omega

theorem q_at (r : Fin 16384) (c : Fin 512) :
    val_main_v32 (F := Ideal) x0 x1 x2 x6 (ix2 r c)
      = qkv (fun k => x0 (ix2 r k)) (fun k => x1 (ix2 0 k)) x2 x6 x7 ⟨c.val, by omega⟩ := by
  pointwise [val_main_v32, val_main_v31, val_main_v30, val_main_v29, val_main_v28, val_main_v27, val_main_v26, val_main_v25,
    val_main_cst_4, val_main_v24, val_main_v23, val_main_cst_3, val_main_v22, val_main_v21, val_main_cst_2, val_main_v20,
    val_main_v19, val_main_v18]
  simp only [p_at, col_eq]
  unfold qkv
  rw [dif_pos c.isLt]
  rfl

theorem k_at (r : Fin 16384) (c : Fin 512) :
    val_main_v47 (F := Ideal) x0 x1 x2 x7 (ix2 r c)
      = qkv (fun k => x0 (ix2 r k)) (fun k => x1 (ix2 0 k)) x2 x6 x7 ⟨512 + c.val, by omega⟩ := by
  pointwise [val_main_v47, val_main_v46, val_main_v45, val_main_v44, val_main_v43, val_main_v42, val_main_v41, val_main_v40,
    val_main_cst_7, val_main_v39, val_main_v38, val_main_cst_6, val_main_v37, val_main_v36, val_main_cst_5, val_main_v35,
    val_main_v34, val_main_v33]
  simp only [p_at, col_eq]
  unfold qkv
  rw [dif_neg (by show ¬ 512 + c.val < 512; omega), dif_pos (by show 512 + c.val < 1024; omega)]
  unfold headScale
  have h (d : ℕ) : (512 + c.val) / 64 * 64 + d = 512 + (c.val / 64 * 64 + d) := by omega
  simp only [h, Nat.add_sub_cancel_left]
  rfl

theorem qkv_at (r : Fin 16384) (c : Fin 1536) :
    val_main_v82 (F := Ideal) x0 x1 x2 x6 x7 (ix2 r c)
      = qkv (fun k => x0 (ix2 r k)) (fun k => x1 (ix2 0 k)) x2 x6 x7 c := by
  pointwise [val_main_v82, val_main_v49]
  by_cases hq : c.val < 512
  · rw [dif_pos hq, q_at x0 x1 x2 x6 x7]
  · rw [dif_neg hq]
    by_cases hk : c.val - 512 < 512
    · rw [dif_pos hk, k_at x0 x1 x2 x6 x7]
      exact congrArg _ (Fin.ext (by show 512 + (c.val - 512) = c.val; omega))
    · rw [dif_neg hk]
      pointwise [val_main_v48]
      rw [p_at]
      unfold qkv
      rw [dif_neg hq, dif_neg (by omega)]
      exact congrArg _ (funext fun k => congrArg (fun j => x2 (ix2 j k)) (Fin.ext (by show 1024 + (c.val - 512 - 512) = c.val; omega)))

/-- The padded product at the row `d` rows back from row `r` of the flat array. -/
theorem pad_at (r : Fin 16384) (d : ℕ) (hd : d ≤ 2) (t : Fin 2050) (ht : t.val = r.val % 2048 + 2 - d) (c : Fin 512) :
    val_main_v61 (F := Ideal) x0 x1 x3 (ix3 ⟨r.val / 2048, by omega⟩ t c)
      = prev (fun r => zc (fun k => x0 (ix2 r k)) (fun k => x1 (ix2 0 k)) x3 c) d r := by
  pointwise [val_main_v61, val_main_v60, val_main_v59, val_main_v58, val_main_v56, val_main_call1_v0, val_main_c]
  unfold prev zc
  by_cases h : r.val % 2048 < d
  · rw [dif_neg (by omega), if_pos h]
    show (((0#32 : BitVec 32).toInt : ℝ) : EReal) = 0
    simp
  · rw [dif_pos (by omega), if_neg h, r_at, r_at, mul_comm]
    have e : r.val / 2048 * 2048 + (t.val - 2) = r.val - d := by omega
    simp only [e]

theorem conv_at (r : Fin 16384) (c : Fin 512) :
    val_main_v85 (F := Ideal) x0 x1 x3 x8 (ix2 r c)
      = conv (gateB (fun k => x0 (ix2 r k)) (fun k => x1 (ix2 0 k)) x3 c) (x8 (ix2 2 c)) (x8 (ix2 1 c)) (x8 (ix2 0 c))
          (zc (fun k => x0 (ix2 r k)) (fun k => x1 (ix2 0 k)) x3 c)
          (prev (fun r => zc (fun k => x0 (ix2 r k)) (fun k => x1 (ix2 0 k)) x3 c) 1 r)
          (prev (fun r => zc (fun k => x0 (ix2 r k)) (fun k => x1 (ix2 0 k)) x3 c) 2 r) := by
  pointwise [val_main_v85, val_main_v84, val_main_v83, val_main_v57, val_main_v81, val_main_v80, val_main_v79, val_main_v78,
    val_main_v77, val_main_v76, val_main_v75, val_main_v74, val_main_v73, val_main_v72, val_main_v71, val_main_v70,
    val_main_v69, val_main_v68, val_main_v67, val_main_v66, val_main_v65, val_main_v64, val_main_v63, val_main_v62]
  rw [r_at, pad_at x0 x1 x3 r 0 (by omega) _ (by show 2 + r.val % 2048 = _; omega),
    pad_at x0 x1 x3 r 1 (by omega) _ (by show 1 + r.val % 2048 = _; omega),
    pad_at x0 x1 x3 r 2 (by omega) _ (by show r.val % 2048 = _; omega)]
  rfl

end Cert.InpRefIdeal.Rows
-- ==== Proof.InpClaims.lean ====
/-
  The claims about the input projections.
-/
module

public import proofs.«01_k».proof.Proof.Gen.InpIdeal.Value
public import proofs.«01_k».proof.Proof.Gen.InpRefIdeal.Read
public import proofs.«01_k».proof.Defs
public import proofs.«01_k».proof.Proof.Gen.Inp.Frame
public import proofs.«01_k».proof.Proof.Gen.InpIdeal.Frame
public import proofs.«01_k».proof.Proof.Gen.InpRefIdeal.Run
public import proofs.«01_k».proof.Proof.InpReference
public import Idealize.ShloMosaic.Lib.Quiescent

@[expose] public section

set_option maxRecDepth 16384

noncomputable section

namespace Cert.Proof.InpClaims

open Idealize.ShloMosaic Idealize.ShloMosaic.TcCoe Idealize.SL.Sem

instance hInp : Cert.Inp.Facts := Cert.Inp.Gen.facts
instance hInpIdeal : Cert.InpIdeal.Facts := Cert.InpIdeal.Gen.facts
instance hInpRefIdeal : Cert.InpRefIdeal.Facts := Cert.InpRefIdeal.Gen.facts

theorem frame_p : Cert.quiescent_Inp := fun m ρ _ => Cert.Inp.Gen.frame m ρ

theorem frame_pi : Cert.quiescent_InpIdeal := fun m ρ _ => Cert.InpIdeal.Gen.frame m ρ

theorem frame_ri : Cert.quiescent_InpRefIdeal := fun m ρ _ =>
  (θ_run Cert.InpRefIdeal.defs _ _).mono (fun r h => ⟨fun c => (h c).2.2.2.2, sem_eq_zero_of_no_sems rfl r.2⟩)
    (Cert.InpRefIdeal.Value.run (F := Ideal) m ρ)

theorem preserves : Cert.preserves_Inp_InpIdeal := trivial

theorem algebraic : Cert.algebraic_InpIdeal_InpRefIdeal := fun m ρ m' ρ' _ hag =>
  ⟨fun c => Cert.InpIdeal.Array.res9 m c, fun c => Cert.InpIdeal.Array.res10 m c, fun c => Cert.InpIdeal.Array.res11 m c,
    fun c => Cert.InpIdeal.Array.res12 m c, Cert.InpIdeal.Array.run m ρ,
    (θ_run Cert.InpRefIdeal.defs _ _).mono
      (fun _ h c => by
        obtain ⟨h0, h1, h2, h3, h4⟩ := h c
        obtain ⟨a0, a1, a2, a3, a4, a5, a6, a7, a8⟩ := hag c
        refine ⟨h0.trans ?_, h1.trans ?_, h2.trans ?_, h3.trans ?_, h4⟩
        · rw [Cert.InpRefIdeal.Read.val_main_v82_eq, a0, a1, a2, a6, a7]
          funext i
          obtain ⟨r, k, rfl⟩ : ∃ r k, i = ix2 (n0 := 16384) (n1 := 1536) r k := ⟨i 0, i 1, eq_ix2 i⟩
          exact Cert.InpRefIdeal.Rows.qkv_at _ _ _ _ _ r k
        · rw [Cert.InpRefIdeal.Read.val_main_v55_eq, a0, a1, a4, a5]
          funext i
          obtain ⟨r, k, rfl⟩ : ∃ r k, i = ix2 (n0 := 16384) (n1 := 128) r k := ⟨i 0, i 1, eq_ix2 i⟩
          exact Cert.InpRefIdeal.Rows.logf_at _ _ _ _ r k
        · rw [Cert.InpRefIdeal.Read.val_main_v85_eq, a0, a1, a3, a8]
          funext i
          obtain ⟨r, k, rfl⟩ : ∃ r k, i = ix2 (n0 := 16384) (n1 := 512) r k := ⟨i 0, i 1, eq_ix2 i⟩
          exact Cert.InpRefIdeal.Rows.conv_at _ _ _ _ r k
        · rw [Cert.InpRefIdeal.Read.val_main_v93_eq, a0, a1, a3]
          funext i
          obtain ⟨r, k, rfl⟩ : ∃ r k, i = ix2 (n0 := 16384) (n1 := 2048) r k := ⟨i 0, i 1, eq_ix2 i⟩
          exact Cert.InpRefIdeal.Rows.gates_at _ _ _ r k)
      (Cert.InpRefIdeal.Value.run (F := Ideal) m' ρ')⟩

end Cert.Proof.InpClaims

end
-- ==== Proof.PostTile.lean ====
/-
  The merge and the attention into the memory tokens on one tile of 1024 rows, element by element.
-/
module

public import proofs.«01_k».proof.Proof.Gen.PostIdeal.Skeleton
public import proofs.«01_k».proof.Proof.Layer
public import Idealize.ShloMosaic.Lib.Pointwise

@[expose] public section

set_option maxRecDepth 16384

noncomputable section

namespace Cert.PostIdeal.Tile

open Cert.PostIdeal Cert.PostIdeal.Gen Cert.Layer Idealize.ShloMosaic Idealize.ShloMosaic.TcCoe

/-! ## The rows the tiles are made of -/

/-- The gated sum of the two branches' up projections. -/
def merge (a cc : Fin 512 → EReal) (g : Fin 2048 → EReal) (wa wb : S512x1024.Idx → EReal) (j : Fin 1024) : EReal :=
  g ⟨j.val, by omega⟩ * (∑ k, a k * wa (ix2 k j)) + g ⟨1024 + j.val, by omega⟩ * (∑ k, cc k * wb (ix2 k j))

/-- The stream after the output projection of the merged branches. -/
def stream (h mg : Fin 1024 → EReal) (wo : S1024x1024.Idx → EReal) (j : Fin 1024) : EReal :=
  h j + ∑ k, mg k * wo (ix2 k j)

/-- The queries of the memory attention, all heads. -/
def query (x g : Fin 1024 → EReal) (w : S1024x512.Idx → EReal) (j : Fin 512) : EReal :=
  ∑ k, rms len1024 eps6 x g k * w (ix2 k j)

/-- The word of 128, and that of the scale of the scores. -/
def len128 : EReal := Ideal.ofBits .f32 0x43000000#32
def factor : EReal := Ideal.ofBits .f32 0x3DB504F3#32

/-- A query's scores against 256 keys. -/
def score (q : Fin 128 → EReal) (k : Fin 256 → Fin 128 → EReal) (m : Fin 256) : EReal := (∑ d, q d * k m d) * factor

/-- The largest of the scores. -/
def largest (s : Fin 256 → EReal) : EReal := Finset.univ.fold max ⊥ s

/-- The weighted sum of the values by the sum of the weights. -/
def attend (s v : Fin 256 → EReal) : EReal :=
  Ideal.div (∑ m, Ideal.exp (s m - largest s) * v m) (∑ m, Ideal.exp (s m - largest s))

/-! ## The payloads -/

/-- The normalised queries of the head at column `o`. -/
def headQ {F : FTy → Type} [FloatOps F] (o : ℕ) (hs : Shape.Slices S1024x512 ![0, o] S1024x128) (q : FVec F S1024x512 .f32) (g : Vec F S1x128 .f32) :
    FVec F S1024x128 .bf16 :=
  have x := extractStridedSlice S1024x128 ![0, o] q hs
  have y := mulf x x
  have s := multiReduction .add [1] S1024 y 0x00000000#32 reduces_S1024x128_S1024 (.inl rfl) rfl
  have s := divf (shapeCast S1024x1 s shapeCasts_S1024_S1024x1) (broadcast S1024x1 (Scalar.ofBits .f32 0x43000000#32))
  have s := rsqrt (addf s (broadcast S1024x1 (Scalar.ofBits .f32 0x358637BD#32)))
  have x := mulf x (broadcastTo S1024x128 s broadcasts_S1024x1_S1024x128)
  truncf .bf16 (mulf x (broadcastTo S1024x128 g broadcasts_S1x128_S1024x128)) bitsLt_bf16_f32

/-- The heads side by side, through the last projection, on top of the stream. -/
def join {F : FTy → Type} [FloatOps F] (h : FVec F S1024x1024 .f32) (o : FVec F S1024x512 .bf16) (w : Vec F S512x1024 .bf16) :
    FVec F S1024x1024 .f32 :=
  addf h (matmul dot_S1024x512_S512x1024_S1024x1024_1_0_0_1_n_n none o w (constant S1024x1024 .f32 0x00000000#32))

/-- Four heads side by side. -/
def heads {F : FTy → Type} [FloatOps F] (o0 o1 o2 o3 : FVec F S1024x128 .bf16) : FVec F S1024x512 .bf16 :=
  concatenate S1024x512 1 [⟨S1024x128, o0⟩, ⟨S1024x128, o1⟩, ⟨S1024x128, o2⟩, ⟨S1024x128, o3⟩] concatenates_S1024x128_S1024x128_S1024x128_S1024x128_S1024x512_d1

theorem merge_apply (a cc : Vec Ideal S1024x512 .bf16) (wa wb : Vec Ideal S512x256 .bf16) (ga gb : Vec Ideal S1024x256 .bf16)
    (r : Fin 1024) (j : Fin 256) :
    k0_pay4 a cc wa wb ga gb (ix2 r j)
      = ga (ix2 r j) * (∑ k, a (ix2 r k) * wa (ix2 k j)) + gb (ix2 r j) * (∑ k, cc (ix2 r k) * wb (ix2 k j)) := by
  pointwise [k0_pay4]

theorem stream_apply (h : Vec Ideal S1024x1024 .f32) (mg wo : Vec Ideal S1024x1024 .bf16) (r j : Fin 1024) :
    k0_pay9 h mg wo (ix2 r j) = stream (fun j => h (ix2 r j)) (fun k => mg (ix2 r k)) wo j := by
  pointwise [k0_pay9]
  rfl

theorem query_apply (h : Vec Ideal S1024x1024 .f32) (mg wo : Vec Ideal S1024x1024 .bf16) (g : Vec Ideal S1x1024 .f32)
    (w : Vec Ideal S1024x512 .bf16) (r : Fin 1024) (j : Fin 512) :
    k0_pay10 h mg wo g w (ix2 r j)
      = query (fun j => stream (fun j => h (ix2 r j)) (fun k => mg (ix2 r k)) wo j) (fun k => g (ix2 0 k)) w j := by
  pointwise [k0_pay10]
  simp only [stream_apply]
  rfl

theorem headQ_apply (o : ℕ) (ho : o + 128 ≤ 512) (hs : Shape.Slices S1024x512 ![0, o] S1024x128) (q : FVec Ideal S1024x512 .f32)
    (g : Vec Ideal S1x128 .f32) (r : Fin 1024) (d : Fin 128) :
    headQ o hs q g (ix2 r d) = rms len128 eps6 (fun d : Fin 128 => q (ix2 r ⟨o + d.val, by omega⟩)) (fun d => g (ix2 0 d)) d := by
  pointwise [headQ]
  rfl

theorem attend_apply (q : FVec Ideal S1024x128 .bf16) (k v : Vec Ideal S1x256x128 .bf16) (r : Fin 1024) (d : Fin 128) :
    k0_pay17 q k v (ix2 r d)
      = attend (score (fun d => q (ix2 r d)) fun m d => k (ix3 0 m d)) (fun m => v (ix3 0 m d)) := by
  pointwise [k0_pay17]
  rfl

theorem heads_apply (o0 o1 o2 o3 : FVec Ideal S1024x128 .bf16) (f : Fin 512 → EReal) (r : Fin 1024)
    (h0 : ∀ d : Fin 128, o0 (ix2 r d) = f ⟨d.val, by omega⟩) (h1 : ∀ d : Fin 128, o1 (ix2 r d) = f ⟨128 + d.val, by omega⟩)
    (h2 : ∀ d : Fin 128, o2 (ix2 r d) = f ⟨256 + d.val, by omega⟩) (h3 : ∀ d : Fin 128, o3 (ix2 r d) = f ⟨384 + d.val, by omega⟩)
    (c : Fin 512) : heads o0 o1 o2 o3 (ix2 r c) = f c := by
  pointwise [heads]
  by_cases c0 : c.val < 128
  · rw [dif_pos c0, h0]
  · rw [dif_neg c0]
    by_cases c1 : c.val - 128 < 128
    · rw [dif_pos c1, h1]; exact congrArg f (Fin.ext (by show 128 + (c.val - 128) = c.val; omega))
    · rw [dif_neg c1]
      by_cases c2 : c.val - 128 - 128 < 128
      · rw [dif_pos c2, h2]; exact congrArg f (Fin.ext (by show 256 + (c.val - 128 - 128) = c.val; omega))
      · rw [dif_neg c2, h3]; exact congrArg f (Fin.ext (by show 384 + (c.val - 128 - 128 - 128) = c.val; omega))

theorem join_apply (h : FVec Ideal S1024x1024 .f32) (o : FVec Ideal S1024x512 .bf16) (w : Vec Ideal S512x1024 .bf16) (r j : Fin 1024) :
    join h o w (ix2 r j) = h (ix2 r j) + ∑ k, o (ix2 r k) * w (ix2 k j) := by
  pointwise [join]

theorem pay2_apply (x : Vec Ideal S1x64x5632 .f32) (r : Fin 64) (j : Fin 5632) : k0_pay2 x (ix2 r j) = x (ix3 0 r j) := by
  pointwise [k0_pay2]

theorem pay3_apply (x : Vec Ideal S1x176x1024 .f32) (r : Fin 176) (j : Fin 1024) : k0_pay3 x (ix2 r j) = x (ix3 0 r j) := by
  pointwise [k0_pay3]

/-! ## A row of the result -/

/-- A column of the memory attention: the head of its column attends to the keys `km` and takes the values `vm`. -/
def memory (x g : Fin 1024 → EReal) (wq : S1024x512.Idx → EReal) (cg : Fin 128 → EReal) (km vm : Fin 256 → Fin 512 → EReal)
    (c : Fin 512) : EReal :=
  attend (score (rms len128 eps6 (fun d : Fin 128 => query x g wq ⟨c.val / 128 * 128 + d.val, by omega⟩) cg)
    fun m d => km m ⟨c.val / 128 * 128 + d.val, by omega⟩) fun m => vm m c

/-- The stream with the memory attention's projection on top. -/
def output (x g : Fin 1024 → EReal) (wq : S1024x512.Idx → EReal) (cg : Fin 128 → EReal) (km vm : Fin 256 → Fin 512 → EReal)
    (wc : S512x1024.Idx → EReal) (j : Fin 1024) : EReal :=
  x j + ∑ k, memory x g wq cg km vm k * wc (ix2 k j)

/-! ## The tiles as parts of the results -/

/-- A part of a stack of one matrix at an index. -/
theorem ld3_at {e : EltTy} (x : Vec Ideal S1x256x512 e) (o : ℕ) (inb : ∀ i, ![0, 0, o] i + ![1, 256, 128] i ≤ S1x256x512.size i)
    (ho : o + 128 ≤ 512) (m : Fin 256) (d : Fin 128) :
    View.ld (Val := Elt Ideal) x (Rect.unit (s := S1x256x512) ![0, 0, o] ![1, 256, 128] inb) (ix3 0 m d)
      = x (ix3 0 m ⟨o + d.val, by omega⟩) :=
  congrArg x (funext fun a => by
    refine Fin.ext ?_
    match a with
    | ⟨0, _⟩ => rfl
    | ⟨1, _⟩ => show 0 + 1 * m.val = m.val; omega
    | ⟨2, _⟩ => show o + 1 * d.val = o + d.val; omega)

section
variable (x0 x1 : Vec Ideal S1024x512 .bf16) (x2 : Vec Ideal S1024x2048 .bf16) (x3 : Vec Ideal S1024x1024 .f32)
  (x4 x5 : Vec Ideal S512x1024 .bf16) (x6 : Vec Ideal S1024x1024 .bf16) (x7 : Vec Ideal S1x1024 .f32)
  (x8 : Vec Ideal S1024x512 .bf16) (x9 : Vec Ideal S1x128 .f32) (x10 x11 : Vec Ideal S1x256x512 .bf16)
  (x12 : Vec Ideal S512x1024 .bf16)

def mergeOf : S1024x1024.Idx → EReal :=
  fun i => merge (fun k => x0 (ix2 (i 0) k)) (fun k => x1 (ix2 (i 0) k)) (fun k => x2 (ix2 (i 0) k)) x4 x5 (i 1)

/-- A row of the stream in a tile. -/
def streamRow (r : Fin 1024) : Fin 1024 → EReal :=
  stream (fun k => x3 (ix2 r k))
    (merge (fun k => x0 (ix2 r k)) (fun k => x1 (ix2 r k)) (fun k => x2 (ix2 r k)) x4 x5) x6

def outOf : S1024x1024.Idx → EReal := fun i =>
  output (streamRow x0 x1 x2 x3 x4 x5 x6 (i 0)) (fun k => x7 (ix2 0 k)) x8 (fun d => x9 (ix2 0 d))
    (fun m c => x10 (ix3 0 m c)) (fun m c => x11 (ix3 0 m c)) x12 (i 1)

/-- A chunk of 256 columns of the merged branches, at column `b`. -/
theorem merge_at (b p : ℕ) (hb : b + 256 ≤ 1024) (hp : p = 1024 + b) (i4 : ∀ a, ![0, b] a + ![512, 256] a ≤ S512x1024.size a)
    (i5 : ∀ a, ![0, b] a + ![512, 256] a ≤ S512x1024.size a) (i2 : ∀ a, ![0, b] a + ![1024, 256] a ≤ S1024x2048.size a)
    (i2' : ∀ a, ![0, p] a + ![1024, 256] a ≤ S1024x2048.size a) (io : ∀ a, ![0, b] a + ![1024, 256] a ≤ S1024x1024.size a)
    (x : S1024x256.Idx) :
    k0_pay4 x0 x1 (View.ld (Val := Elt Ideal) x4 (Rect.unit (s := S512x1024) ![0, b] ![512, 256] i4))
      (View.ld (Val := Elt Ideal) x5 (Rect.unit (s := S512x1024) ![0, b] ![512, 256] i5))
      (View.ld (Val := Elt Ideal) x2 (Rect.unit (s := S1024x2048) ![0, b] ![1024, 256] i2))
      (View.ld (Val := Elt Ideal) x2 (Rect.unit (s := S1024x2048) ![0, p] ![1024, 256] i2')) x
      = mergeOf x0 x1 x2 x4 x5 ((Rect.unit (s := S1024x1024) ![0, b] ![1024, 256] io).emb x) := by
  subst hp
  obtain ⟨r, j, rfl⟩ : ∃ r j, x = ix2 (n0 := 1024) (n1 := 256) r j := ⟨x 0, x 1, eq_ix2 x⟩
  rw [merge_apply, emb0_at]
  simp only [ld_at x4, ld_at x5, ld_at x2, zero_add]
  unfold mergeOf merge
  simp only [Nat.add_assoc]
  rfl

/-- A head of the memory attention, at column `o`. -/
theorem head_at (q : FVec Ideal S1024x512 .f32) (X : Fin 1024 → Fin 1024 → EReal) (hq : ∀ r c, q (ix2 r c) = query (X r) (fun k => x7 (ix2 0 k)) x8 c)
    (o : ℕ) (ho : o + 128 ≤ 512) (h128 : o % 128 = 0) (hs : Shape.Slices S1024x512 ![0, o] S1024x128)
    (i10 : ∀ a, ![0, 0, o] a + ![1, 256, 128] a ≤ S1x256x512.size a) (i11 : ∀ a, ![0, 0, o] a + ![1, 256, 128] a ≤ S1x256x512.size a)
    (r : Fin 1024) (d : Fin 128) :
    k0_pay17 (headQ o hs q x9) (View.ld (Val := Elt Ideal) x10 (Rect.unit (s := S1x256x512) ![0, 0, o] ![1, 256, 128] i10))
      (View.ld (Val := Elt Ideal) x11 (Rect.unit (s := S1x256x512) ![0, 0, o] ![1, 256, 128] i11)) (ix2 r d)
      = memory (X r) (fun k => x7 (ix2 0 k)) x8 (fun d => x9 (ix2 0 d)) (fun m c => x10 (ix3 0 m c)) (fun m c => x11 (ix3 0 m c))
          ⟨o + d.val, by omega⟩ := by
  rw [attend_apply]
  simp only [headQ_apply o ho, hq, ld3_at x10 o _ ho, ld3_at x11 o _ ho]
  unfold memory
  have e : (o + d.val) / 128 * 128 = o := by omega
  simp only [e]

/-- The tile of the result, the merged branches given. -/
theorem out_at (mg : Vec Ideal S1024x1024 .bf16) (hm : mg = mergeOf x0 x1 x2 x4 x5)
    (s0 : Shape.Slices S1024x512 ![0, 0] S1024x128) (s1 : Shape.Slices S1024x512 ![0, 128] S1024x128)
    (s2 : Shape.Slices S1024x512 ![0, 256] S1024x128) (s3 : Shape.Slices S1024x512 ![0, 384] S1024x128)
    (i0 : ∀ a, ![0, 0, 0] a + ![1, 256, 128] a ≤ S1x256x512.size a) (i1 : ∀ a, ![0, 0, 128] a + ![1, 256, 128] a ≤ S1x256x512.size a)
    (i2 : ∀ a, ![0, 0, 256] a + ![1, 256, 128] a ≤ S1x256x512.size a) (i3 : ∀ a, ![0, 0, 384] a + ![1, 256, 128] a ≤ S1x256x512.size a)
    (x : S1024x1024.Idx) :
    join (k0_pay9 x3 mg x6) (heads
      (k0_pay17 (headQ 0 s0 (k0_pay10 x3 mg x6 x7 x8) x9) (View.ld (Val := Elt Ideal) x10 (Rect.unit (s := S1x256x512) ![0, 0, 0] ![1, 256, 128] i0))
        (View.ld (Val := Elt Ideal) x11 (Rect.unit (s := S1x256x512) ![0, 0, 0] ![1, 256, 128] i0)))
      (k0_pay17 (headQ 128 s1 (k0_pay10 x3 mg x6 x7 x8) x9) (View.ld (Val := Elt Ideal) x10 (Rect.unit (s := S1x256x512) ![0, 0, 128] ![1, 256, 128] i1))
        (View.ld (Val := Elt Ideal) x11 (Rect.unit (s := S1x256x512) ![0, 0, 128] ![1, 256, 128] i1)))
      (k0_pay17 (headQ 256 s2 (k0_pay10 x3 mg x6 x7 x8) x9) (View.ld (Val := Elt Ideal) x10 (Rect.unit (s := S1x256x512) ![0, 0, 256] ![1, 256, 128] i2))
        (View.ld (Val := Elt Ideal) x11 (Rect.unit (s := S1x256x512) ![0, 0, 256] ![1, 256, 128] i2)))
      (k0_pay17 (headQ 384 s3 (k0_pay10 x3 mg x6 x7 x8) x9) (View.ld (Val := Elt Ideal) x10 (Rect.unit (s := S1x256x512) ![0, 0, 384] ![1, 256, 128] i3))
        (View.ld (Val := Elt Ideal) x11 (Rect.unit (s := S1x256x512) ![0, 0, 384] ![1, 256, 128] i3)))) x12 x
      = outOf x0 x1 x2 x3 x4 x5 x6 x7 x8 x9 x10 x11 x12 x := by
  obtain ⟨r, j, rfl⟩ : ∃ r j, x = ix2 (n0 := 1024) (n1 := 1024) r j := ⟨x 0, x 1, eq_ix2 x⟩
  have hq (r : Fin 1024) (c : Fin 512) : k0_pay10 x3 mg x6 x7 x8 (ix2 r c)
      = query (streamRow x0 x1 x2 x3 x4 x5 x6 r) (fun k => x7 (ix2 0 k)) x8 c := by
    rw [query_apply, hm]; rfl
  rw [join_apply, stream_apply]
  refine congrArg₂ (· + ·) (by rw [hm]; rfl) (Finset.sum_congr rfl fun k _ => congrArg (· * _) ?_)
  refine heads_apply _ _ _ _ (memory (streamRow x0 x1 x2 x3 x4 x5 x6 r) (fun k => x7 (ix2 0 k)) x8 (fun d => x9 (ix2 0 d))
    (fun m c => x10 (ix3 0 m c)) (fun m c => x11 (ix3 0 m c))) r (fun d => ?_) (fun d => ?_) (fun d => ?_) (fun d => ?_) k
  · refine (head_at x7 x8 x9 x10 x11 _ _ hq 0 (by omega) rfl s0 i0 i0 r d).trans ?_
    simp only [zero_add]
  · exact head_at x7 x8 x9 x10 x11 _ _ hq 128 (by omega) rfl s1 i1 i1 r d
  · exact head_at x7 x8 x9 x10 x11 _ _ hq 256 (by omega) rfl s2 i2 i2 r d
  · exact head_at x7 x8 x9 x10 x11 _ _ hq 384 (by omega) rfl s3 i3 i3 r d
end

end Cert.PostIdeal.Tile
-- ==== Proof.PostKernel.lean ====
/-
  The merge kernel's three blocks are the tiles of PostTile.lean.
-/
module

public import proofs.«01_k».proof.Proof.Gen.PostIdeal.Frame
public import proofs.«01_k».proof.Proof.PostTile
public import Idealize.ShloMosaic.Lib.Pipeline.ReadBack

@[expose] public section

set_option maxRecDepth 16384

noncomputable section

namespace Cert.PostIdeal.Kernel

open Cert.PostIdeal Cert.PostIdeal.Gen Cert.Layer Idealize.ShloMosaic Idealize.ShloMosaic.TcCoe Idealize.SL.Sem
open Cert.PostIdeal.Tile
open Idealize.ShloMosaic.Pipeline (Dat)

theorem hz3 : (![0, 0, 0] : Fin 3 → Nat) = fun _ => 0 := funext fun a => by fin_cases a <;> rfl

variable (c : Dev nD) (i : grid0.Coords)
  (a2 : Memref sig .tc .vmem S1024x512 .bf16) (h2 : a2.IsWhole)
  (a3 : Memref sig .tc .vmem S1024x512 .bf16) (h3 : a3.IsWhole)
  (a4 : Memref sig .tc .vmem S1024x2048 .bf16) (h4 : a4.IsWhole)
  (a5 : Memref sig .tc .vmem S1024x1024 .f32) (h5 : a5.IsWhole)
  (a6 : Memref sig .tc .vmem S512x1024 .bf16) (h6 : a6.IsWhole)
  (a7 : Memref sig .tc .vmem S512x1024 .bf16) (h7 : a7.IsWhole)
  (a8 : Memref sig .tc .vmem S1024x1024 .bf16) (h8 : a8.IsWhole)
  (a9 : Memref sig .tc .vmem S1x1024 .f32) (h9 : a9.IsWhole)
  (a10 : Memref sig .tc .vmem S1024x512 .bf16) (h10 : a10.IsWhole)
  (a11 : Memref sig .tc .vmem S1x128 .f32) (h11 : a11.IsWhole)
  (a12 : Memref sig .tc .vmem S1x256x512 .bf16) (h12 : a12.IsWhole)
  (a13 : Memref sig .tc .vmem S1x256x512 .bf16) (h13 : a13.IsWhole)
  (a14 : Memref sig .tc .vmem S512x1024 .bf16) (h14 : a14.IsWhole)
  (a15 : Memref sig .tc .vmem S1x64x5632 .f32) (h15 : a15.IsWhole)
  (a16 : Memref sig .tc .vmem S1x176x1024 .f32) (h16 : a16.IsWhole)
  (a17 : Memref sig .tc .vmem S1024x1024 .f32) (h17 : a17.IsWhole)
  (a18 : Memref sig .tc .vmem S64x5632 .bf16) (h18 : a18.IsWhole)
  (a19 : Memref sig .tc .vmem S176x1024 .bf16) (h19 : a19.IsWhole)
  (a20 : Memref sig .tc .vmem S1024x1024 .bf16) (h20 : a20.IsWhole)
  (x0 : Vec Ideal S1024x512 .bf16) (x1 : Vec Ideal S1024x512 .bf16) (x2 : Vec Ideal S1024x2048 .bf16) (x3 : Vec Ideal S1024x1024 .f32) (x4 : Vec Ideal S512x1024 .bf16) (x5 : Vec Ideal S512x1024 .bf16) (x6 : Vec Ideal S1024x1024 .bf16) (x7 : Vec Ideal S1x1024 .f32) (x8 : Vec Ideal S1024x512 .bf16) (x9 : Vec Ideal S1x128 .f32) (x10 : Vec Ideal S1x256x512 .bf16) (x11 : Vec Ideal S1x256x512 .bf16) (x12 : Vec Ideal S512x1024 .bf16) (x13 : Vec Ideal S1x64x5632 .f32) (x14 : Vec Ideal S1x176x1024 .f32)

/-- The staged part of the first weight matrix. -/
def slabOf : S64x5632.Idx → EReal := fun i => x13 (ix3 0 (i 0) (i 1))

/-- The staged part of the second weight matrix. -/
def slabOf' : S176x1024.Idx → EReal := fun i => x14 (ix3 0 (i 0) (i 1))

theorem out_15 : out0_A_15 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14
    = outOf x0 x1 x2 x3 x4 x5 x6 x7 x8 x9 x10 x11 x12 := by
  unfold out0_A_15
  rw [View.read_writes_eq_canon _ _ _ (cover0_A_15 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h20.read_unread,
    View.ld_unit_zero (S := S1024x512) hz, View.ld_unit_zero (S := S1024x1024) hz, View.ld_unit_zero (S := S1x1024) hz,
    View.ld_unit_zero (S := S1x128) hz, View.ld_unit_zero (S := S512x1024) hz,
    View.ld_unit_zero (S := S1x64x5632) hz3, View.ld_unit_zero (S := S1x176x1024) hz3]
  rw [View.canon_unit_zero (S := S1024x1024) hz]
  funext x
  refine out_at x0 x1 x2 x3 x4 x5 x6 x7 x8 x9 x10 x11 x12 _ ?_ slices_S1024x512_o0_0_S1024x128 slices_S1024x512_o0_128_S1024x128
    slices_S1024x512_o0_256_S1024x128 slices_S1024x512_o0_384_S1024x128 _ _ _ _ x
  rw [View.readCov_eq_canon']
  funext y
  show View.canon (Val := Elt Ideal) (e := .bf16) _ ((Rect.unit (s := S1024x1024) ![0, 0] ![1024, 1024] _).emb y) = _
  rw [show (Rect.unit (s := S1024x1024) ![0, 0] ![1024, 1024] inb_S1024x1024_S1024x1024_0_0).emb y = y from by
    obtain ⟨r, j, rfl⟩ : ∃ r j, y = ix2 (n0 := 1024) (n1 := 1024) r j := ⟨y 0, y 1, eq_ix2 y⟩
    rw [emb_at]; simp only [zero_add]
    rfl]
  refine View.canon_apply_of_pieces (Val := Elt Ideal) (S := S1024x1024) (e := .bf16) (mergeOf x0 x1 x2 x4 x5) _ ?_ y
    (View.cover_of_tiledBy _ ![1024, 256] (by sl_kernel_rfl) y)
  simp only [List.forall_mem_cons, List.not_mem_nil, false_implies, implies_true, and_true]
  refine ⟨?_, ?_, ?_, ?_⟩ <;> intro z
  · exact merge_at x0 x1 x2 x4 x5 768 1792 (by omega) (by omega) _ _ _ _ _ z
  · exact merge_at x0 x1 x2 x4 x5 512 1536 (by omega) (by omega) _ _ _ _ _ z
  · exact merge_at x0 x1 x2 x4 x5 256 1280 (by omega) (by omega) _ _ _ _ _ z
  · exact merge_at x0 x1 x2 x4 x5 0 1024 (by omega) (by omega) _ _ _ _ _ z

theorem out_16 : out0_A_16 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14 = slabOf x13 := by
  unfold out0_A_16
  rw [View.read_writes_eq_canon _ _ _ (cover0_A_16 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h20.read_unread,
    View.ld_unit_zero (S := S1024x512) hz, View.ld_unit_zero (S := S1024x1024) hz, View.ld_unit_zero (S := S1x1024) hz,
    View.ld_unit_zero (S := S1x128) hz, View.ld_unit_zero (S := S512x1024) hz,
    View.ld_unit_zero (S := S1x64x5632) hz3, View.ld_unit_zero (S := S1x176x1024) hz3]
  rw [View.canon_unit_zero (S := S64x5632) hz]
  funext x
  obtain ⟨r, j, rfl⟩ : ∃ r j, x = ix2 (n0 := 64) (n1 := 5632) r j := ⟨x 0, x 1, eq_ix2 x⟩
  exact pay2_apply x13 r j

theorem out_17 : out0_A_17 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14 = slabOf' x14 := by
  unfold out0_A_17
  rw [View.read_writes_eq_canon _ _ _ (cover0_A_17 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, h20.read_unread,
    View.ld_unit_zero (S := S1024x512) hz, View.ld_unit_zero (S := S1024x1024) hz, View.ld_unit_zero (S := S1x1024) hz,
    View.ld_unit_zero (S := S1x128) hz, View.ld_unit_zero (S := S512x1024) hz,
    View.ld_unit_zero (S := S1x64x5632) hz3, View.ld_unit_zero (S := S1x176x1024) hz3]
  rw [View.canon_unit_zero (S := S176x1024) hz]
  funext x
  obtain ⟨r, j, rfl⟩ : ∃ r j, x = ix2 (n0 := 176) (n1 := 1024) r j := ⟨x 0, x 1, eq_ix2 x⟩
  exact pay3_apply x14 r j

end Cert.PostIdeal.Kernel
-- ==== Proof.PostArray.lean ====
/-
  The merge kernel's three result arrays, each as one function of the argument arrays. Grid point `t` takes rows `1024 * t`
  onwards and the memory tokens of the sequence these rows belong to, and casts one part of each of the next stage's two
  weight matrices.
-/
module

public import proofs.«01_k».proof.Proof.PostKernel
public import proofs.«01_k».proof.Proof.Gen.PostIdeal.Value

@[expose] public section

set_option maxRecDepth 16384

noncomputable section

namespace Cert.PostIdeal.Array

open Cert.PostIdeal Cert.PostIdeal.Gen Cert.PostIdeal.Tile Cert.PostIdeal.Kernel Cert.Layer Idealize.ShloMosaic Idealize.ShloMosaic.TcCoe
open Idealize.SL.Sem
open Idealize.ShloMosaic.Pipeline (Dat)

variable (m : (ℓ : Loc nD τ sig) → Buf (Elt Ideal) ℓ)

abbrev arr0 (c : Dev nD) : S16384x512.Idx → EReal := m ((c : Thread nD τ).loc main_arg0)
abbrev arr1 (c : Dev nD) : S16384x512.Idx → EReal := m ((c : Thread nD τ).loc main_arg1)
abbrev arr2 (c : Dev nD) : S16384x2048.Idx → EReal := m ((c : Thread nD τ).loc main_arg2)
abbrev arr3 (c : Dev nD) : S16384x1024.Idx → EReal := m ((c : Thread nD τ).loc main_arg3)
abbrev arr4 (c : Dev nD) : S512x1024.Idx → EReal := m ((c : Thread nD τ).loc main_arg4)
abbrev arr5 (c : Dev nD) : S512x1024.Idx → EReal := m ((c : Thread nD τ).loc main_arg5)
abbrev arr6 (c : Dev nD) : S1024x1024.Idx → EReal := m ((c : Thread nD τ).loc main_arg6)
abbrev arr7 (c : Dev nD) : S1x1024.Idx → EReal := m ((c : Thread nD τ).loc main_arg7)
abbrev arr8 (c : Dev nD) : S1024x512.Idx → EReal := m ((c : Thread nD τ).loc main_arg8)
abbrev arr9 (c : Dev nD) : S1x128.Idx → EReal := m ((c : Thread nD τ).loc main_arg9)
abbrev arr10 (c : Dev nD) : S4x2048x512.Idx → EReal := m ((c : Thread nD τ).loc main_arg10)
abbrev arr11 (c : Dev nD) : S4x2048x512.Idx → EReal := m ((c : Thread nD τ).loc main_arg11)
abbrev arr12 (c : Dev nD) : S512x1024.Idx → EReal := m ((c : Thread nD τ).loc main_arg12)
abbrev arr13 (c : Dev nD) : S4x1024x5632.Idx → EReal := m ((c : Thread nD τ).loc main_arg13)
abbrev arr14 (c : Dev nD) : S4x2816x1024.Idx → EReal := m ((c : Thread nD τ).loc main_arg14)

/-- The windows that hold a whole array at every grid point. -/
theorem whole_facts : ∀ t : Fin grid0.N,
    (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_12.index t a = 0) := by decide +kernel

/-- The windows of rows, of memory tokens, and of parts of the weights. -/
theorem index_facts : ∀ t : Fin grid0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_10.index t 0 = 3 ∧ win0_10.index t 1 = t.val / 2 ∧ win0_10.index t 2 = 0)
    ∧ (win0_11.index t 0 = 3 ∧ win0_11.index t 1 = t.val / 2 ∧ win0_11.index t 2 = 0)
    ∧ (win0_13.index t 0 = 3 ∧ win0_13.index t 1 = 64 * t.val ∧ win0_13.index t 2 = 0)
    ∧ (win0_14.index t 0 = 3 ∧ win0_14.index t 1 = 176 * t.val ∧ win0_14.index t 2 = 0)
    ∧ (win0_15.index t 0 = t.val ∧ win0_15.index t 1 = 0)
    ∧ (win0_16.index t 0 = t.val ∧ win0_16.index t 1 = 0)
    ∧ (win0_17.index t 0 = t.val ∧ win0_17.index t 1 = 0) := by decide +kernel

theorem lt16 (t : Fin cfg0.N) : t.val < 16 := lt_of_lt_of_eq t.isLt N_0

/-! ## The blocks of the arguments -/

theorem off (k n v : ℕ) (h : k = 0) : k * n + 1 * v = v := by subst h; omega

theorem row_off (k t v n : ℕ) (h : k = t) : k * n + 1 * v = n * t + v := by subst h; rw [Nat.mul_comm]; omega

theorem blk0 (c : Dev nD) (t : Fin cfg0.N) (i : Fin 1024) (j : Fin 512) :
    (iblk m c 0 t : S1024x512.Idx → EReal) (ix2 i j) = arr0 m c (ix2 ⟨1024 * t.val + i.val, by have := lt16 t; omega⟩ j) :=
  congrArg (arr0 m c) (funext fun a => Fin.ext (match a with
    | ⟨0, _⟩ => row_off _ _ _ 1024 (index_facts t).1.1
    | ⟨1, _⟩ => off _ _ _ (index_facts t).1.2))

theorem blk1 (c : Dev nD) (t : Fin cfg0.N) (i : Fin 1024) (j : Fin 512) :
    (iblk m c 1 t : S1024x512.Idx → EReal) (ix2 i j) = arr1 m c (ix2 ⟨1024 * t.val + i.val, by have := lt16 t; omega⟩ j) :=
  congrArg (arr1 m c) (funext fun a => Fin.ext (match a with
    | ⟨0, _⟩ => row_off _ _ _ 1024 (index_facts t).2.1.1
    | ⟨1, _⟩ => off _ _ _ (index_facts t).2.1.2))

theorem blk2 (c : Dev nD) (t : Fin cfg0.N) (i : Fin 1024) (j : Fin 2048) :
    (iblk m c 2 t : S1024x2048.Idx → EReal) (ix2 i j) = arr2 m c (ix2 ⟨1024 * t.val + i.val, by have := lt16 t; omega⟩ j) :=
  congrArg (arr2 m c) (funext fun a => Fin.ext (match a with
    | ⟨0, _⟩ => row_off _ _ _ 1024 (index_facts t).2.2.1.1
    | ⟨1, _⟩ => off _ _ _ (index_facts t).2.2.1.2))

theorem blk3 (c : Dev nD) (t : Fin cfg0.N) (i : Fin 1024) (j : Fin 1024) :
    (iblk m c 3 t : S1024x1024.Idx → EReal) (ix2 i j) = arr3 m c (ix2 ⟨1024 * t.val + i.val, by have := lt16 t; omega⟩ j) :=
  congrArg (arr3 m c) (funext fun a => Fin.ext (match a with
    | ⟨0, _⟩ => row_off _ _ _ 1024 (index_facts t).2.2.2.1.1
    | ⟨1, _⟩ => off _ _ _ (index_facts t).2.2.2.1.2))

theorem blk4 (c : Dev nD) (t : Fin cfg0.N) : (iblk m c 4 t : S512x1024.Idx → EReal) = arr4 m c :=
  funext fun x => congrArg (arr4 m c) (funext fun a => Fin.ext (off _ _ _ ((whole_facts t).1 a)))

theorem blk5 (c : Dev nD) (t : Fin cfg0.N) : (iblk m c 5 t : S512x1024.Idx → EReal) = arr5 m c :=
  funext fun x => congrArg (arr5 m c) (funext fun a => Fin.ext (off _ _ _ ((whole_facts t).2.1 a)))

theorem blk6 (c : Dev nD) (t : Fin cfg0.N) : (iblk m c 6 t : S1024x1024.Idx → EReal) = arr6 m c :=
  funext fun x => congrArg (arr6 m c) (funext fun a => Fin.ext (off _ _ _ ((whole_facts t).2.2.1 a)))

theorem blk7 (c : Dev nD) (t : Fin cfg0.N) : (iblk m c 7 t : S1x1024.Idx → EReal) = arr7 m c :=
  funext fun x => congrArg (arr7 m c) (funext fun a => Fin.ext (off _ _ _ ((whole_facts t).2.2.2.1 a)))

theorem blk8 (c : Dev nD) (t : Fin cfg0.N) : (iblk m c 8 t : S1024x512.Idx → EReal) = arr8 m c :=
  funext fun x => congrArg (arr8 m c) (funext fun a => Fin.ext (off _ _ _ ((whole_facts t).2.2.2.2.1 a)))

theorem blk9 (c : Dev nD) (t : Fin cfg0.N) : (iblk m c 9 t : S1x128.Idx → EReal) = arr9 m c :=
  funext fun x => congrArg (arr9 m c) (funext fun a => Fin.ext (off _ _ _ ((whole_facts t).2.2.2.2.2.1 a)))

theorem blk12 (c : Dev nD) (t : Fin cfg0.N) : (iblk m c 12 t : S512x1024.Idx → EReal) = arr12 m c :=
  funext fun x => congrArg (arr12 m c) (funext fun a => Fin.ext (off _ _ _ ((whole_facts t).2.2.2.2.2.2 a)))

theorem blk10 (c : Dev nD) (t : Fin cfg0.N) (i : Fin 256) (j : Fin 512) :
    (iblk m c 10 t : S1x256x512.Idx → EReal) (ix3 0 i j)
      = arr10 m c (ix3 3 ⟨256 * (t.val / 2) + i.val, by have := lt16 t; omega⟩ j) := by
  have hx := (index_facts t).2.2.2.2.1
  refine congrArg (arr10 m c) (funext fun a => Fin.ext ?_)
  match a with
  | ⟨0, _⟩ => show win0_10.index t 0 * 1 + 1 * 0 = 3; rw [hx.1]
  | ⟨1, _⟩ => exact row_off _ _ _ 256 hx.2.1
  | ⟨2, _⟩ => exact off _ _ _ hx.2.2

theorem blk11 (c : Dev nD) (t : Fin cfg0.N) (i : Fin 256) (j : Fin 512) :
    (iblk m c 11 t : S1x256x512.Idx → EReal) (ix3 0 i j)
      = arr11 m c (ix3 3 ⟨256 * (t.val / 2) + i.val, by have := lt16 t; omega⟩ j) := by
  have hx := (index_facts t).2.2.2.2.2.1
  refine congrArg (arr11 m c) (funext fun a => Fin.ext ?_)
  match a with
  | ⟨0, _⟩ => show win0_11.index t 0 * 1 + 1 * 0 = 3; rw [hx.1]
  | ⟨1, _⟩ => exact row_off _ _ _ 256 hx.2.1
  | ⟨2, _⟩ => exact off _ _ _ hx.2.2

theorem blk13 (c : Dev nD) (t : Fin cfg0.N) (i : Fin 64) (j : Fin 5632) :
    (iblk m c 13 t : S1x64x5632.Idx → EReal) (ix3 0 i j)
      = arr13 m c (ix3 3 ⟨64 * t.val + i.val, by have := lt16 t; omega⟩ j) := by
  have hx := (index_facts t).2.2.2.2.2.2.1
  refine congrArg (arr13 m c) (funext fun a => Fin.ext ?_)
  match a with
  | ⟨0, _⟩ => show win0_13.index t 0 + 1 * 0 = 3; rw [hx.1]
  | ⟨1, _⟩ => show win0_13.index t 1 + 1 * i.val = 64 * t.val + i.val; rw [hx.2.1]; omega
  | ⟨2, _⟩ => show win0_13.index t 2 + 1 * j.val = j.val; rw [hx.2.2]; omega

theorem blk14 (c : Dev nD) (t : Fin cfg0.N) (i : Fin 176) (j : Fin 1024) :
    (iblk m c 14 t : S1x176x1024.Idx → EReal) (ix3 0 i j)
      = arr14 m c (ix3 3 ⟨176 * t.val + i.val, by have := lt16 t; omega⟩ j) := by
  have hx := (index_facts t).2.2.2.2.2.2.2.1
  refine congrArg (arr14 m c) (funext fun a => Fin.ext ?_)
  match a with
  | ⟨0, _⟩ => show win0_14.index t 0 + 1 * 0 = 3; rw [hx.1]
  | ⟨1, _⟩ => show win0_14.index t 1 + 1 * i.val = 176 * t.val + i.val; rw [hx.2.1]; omega
  | ⟨2, _⟩ => show win0_14.index t 2 + 1 * j.val = j.val; rw [hx.2.2]; omega

/-! ## The results -/

/-- A row of the stream, from the two branches, their gates and the layer's input. -/
abbrev row (c : Dev nD) (r : Fin 16384) : Fin 1024 → EReal :=
  stream (fun k => arr3 m c (ix2 r k))
    (merge (fun k => arr0 m c (ix2 r k)) (fun k => arr1 m c (ix2 r k)) (fun k => arr2 m c (ix2 r k)) (arr4 m c) (arr5 m c)) (arr6 m c)

/-- The memory tokens of the sequence of a row. -/
abbrev tokens (x : S4x2048x512.Idx → EReal) (r : Fin 16384) : Fin 256 → Fin 512 → EReal :=
  fun n j => x (ix3 3 ⟨256 * (r.val / 2048) + n.val, by omega⟩ j)

def res15 (c : Dev nD) : S16384x1024.Idx → EReal :=
  fun i => output (row m c (i 0)) (fun k => arr7 m c (ix2 0 k)) (arr8 m c) (fun d => arr9 m c (ix2 0 d))
    (tokens (arr10 m c) (i 0)) (tokens (arr11 m c) (i 0)) (arr12 m c) (i 1)

def res16 (c : Dev nD) : S1024x5632.Idx → EReal := fun i => arr13 m c (ix3 3 (i 0) (i 1))

def res17 (c : Dev nD) : S2816x1024.Idx → EReal := fun i => arr14 m c (ix3 3 (i 0) (i 1))

theorem row_eq (c : Dev nD) (t : Fin cfg0.N) (r : Fin 1024) :
    streamRow (iblk m c 0 t) (iblk m c 1 t) (iblk m c 2 t) (iblk m c 3 t) (arr4 m c) (arr5 m c) (arr6 m c) r
      = row m c ⟨1024 * t.val + r.val, by have := lt16 t; omega⟩ := by
  unfold streamRow
  simp only [blk0, blk1, blk2, blk3]

theorem tokens10 (c : Dev nD) (t : Fin cfg0.N) (r : Fin 1024) :
    (fun n j => (iblk m c 10 t : S1x256x512.Idx → EReal) (ix3 0 n j))
      = tokens (arr10 m c) ⟨1024 * t.val + r.val, by have := lt16 t; omega⟩ := by
  funext n j
  refine (blk10 m c t n j).trans (congrArg (fun k => arr10 m c (ix3 3 k j)) (Fin.ext ?_))
  show 256 * (t.val / 2) + n.val = 256 * ((1024 * t.val + r.val) / 2048) + n.val
  omega

theorem tokens11 (c : Dev nD) (t : Fin cfg0.N) (r : Fin 1024) :
    (fun n j => (iblk m c 11 t : S1x256x512.Idx → EReal) (ix3 0 n j))
      = tokens (arr11 m c) ⟨1024 * t.val + r.val, by have := lt16 t; omega⟩ := by
  funext n j
  refine (blk11 m c t n j).trans (congrArg (fun k => arr11 m c (ix3 3 k j)) (Fin.ext ?_))
  show 256 * (t.val / 2) + n.val = 256 * ((1024 * t.val + r.val) / 2048) + n.val
  omega

/-! ## What is written back -/

theorem emb15 (t : Fin cfg0.N) (r : Fin 1024) (k : Fin 1024) : ((cfg0.win 15).blk t).view.emb (ix2 r k)
    = ix2 (n0 := 16384) (n1 := 1024) ⟨1024 * t.val + r.val, by have := lt16 t; omega⟩ k :=
  funext fun a => Fin.ext (match a with
    | ⟨0, _⟩ => row_off _ _ _ 1024 (index_facts t).2.2.2.2.2.2.2.2.1.1
    | ⟨1, _⟩ => off _ _ _ (index_facts t).2.2.2.2.2.2.2.2.1.2)

theorem mem_blk15 (t : Fin cfg0.N) (i : S16384x1024.Idx) :
    i ∈ ((cfg0.win 15).blk t).view.set ↔ (i 0).val / 1024 = t.val := by
  have hx := (index_facts t).2.2.2.2.2.2.2.2.1
  have hi : (i 1).val < 1024 := (i 1).isLt
  show i ∈ ((View.whole main_v0_0).slice (win0_15.rect t)).set ↔ _
  rw [View.set_slice_whole, Rect.mem_set_unit]
  constructor
  · intro h
    have h0 : win0_15.index t 0 * 1024 ≤ (i 0).val ∧ (i 0).val < win0_15.index t 0 * 1024 + 1024 := h 0
    rw [hx.1] at h0
    omega
  · intro h a
    match a with
    | ⟨0, _⟩ => show win0_15.index t 0 * 1024 ≤ (i 0).val ∧ (i 0).val < win0_15.index t 0 * 1024 + 1024; rw [hx.1]; omega
    | ⟨1, _⟩ => show win0_15.index t 1 * 1024 ≤ (i 1).val ∧ (i 1).val < win0_15.index t 1 * 1024 + 1024; rw [hx.2]; omega

theorem emb16 (t : Fin cfg0.N) (r : Fin 64) (k : Fin 5632) : ((cfg0.win 16).blk t).view.emb (ix2 r k)
    = ix2 (n0 := 1024) (n1 := 5632) ⟨64 * t.val + r.val, by have := lt16 t; omega⟩ k :=
  funext fun a => Fin.ext (match a with
    | ⟨0, _⟩ => row_off _ _ _ 64 (index_facts t).2.2.2.2.2.2.2.2.2.1.1
    | ⟨1, _⟩ => off _ _ _ (index_facts t).2.2.2.2.2.2.2.2.2.1.2)

theorem mem_blk16 (t : Fin cfg0.N) (i : S1024x5632.Idx) :
    i ∈ ((cfg0.win 16).blk t).view.set ↔ (i 0).val / 64 = t.val := by
  have hx := (index_facts t).2.2.2.2.2.2.2.2.2.1
  have hi : (i 1).val < 5632 := (i 1).isLt
  show i ∈ ((View.whole main_v0_1).slice (win0_16.rect t)).set ↔ _
  rw [View.set_slice_whole, Rect.mem_set_unit]
  constructor
  · intro h
    have h0 : win0_16.index t 0 * 64 ≤ (i 0).val ∧ (i 0).val < win0_16.index t 0 * 64 + 64 := h 0
    rw [hx.1] at h0
    omega
  · intro h a
    match a with
    | ⟨0, _⟩ => show win0_16.index t 0 * 64 ≤ (i 0).val ∧ (i 0).val < win0_16.index t 0 * 64 + 64; rw [hx.1]; omega
    | ⟨1, _⟩ => show win0_16.index t 1 * 5632 ≤ (i 1).val ∧ (i 1).val < win0_16.index t 1 * 5632 + 5632; rw [hx.2]; omega

theorem emb17 (t : Fin cfg0.N) (r : Fin 176) (k : Fin 1024) : ((cfg0.win 17).blk t).view.emb (ix2 r k)
    = ix2 (n0 := 2816) (n1 := 1024) ⟨176 * t.val + r.val, by have := lt16 t; omega⟩ k :=
  funext fun a => Fin.ext (match a with
    | ⟨0, _⟩ => row_off _ _ _ 176 (index_facts t).2.2.2.2.2.2.2.2.2.2.1
    | ⟨1, _⟩ => off _ _ _ (index_facts t).2.2.2.2.2.2.2.2.2.2.2)

theorem mem_blk17 (t : Fin cfg0.N) (i : S2816x1024.Idx) :
    i ∈ ((cfg0.win 17).blk t).view.set ↔ (i 0).val / 176 = t.val := by
  have hx := (index_facts t).2.2.2.2.2.2.2.2.2.2
  have hi : (i 1).val < 1024 := (i 1).isLt
  show i ∈ ((View.whole main_v0_2).slice (win0_17.rect t)).set ↔ _
  rw [View.set_slice_whole, Rect.mem_set_unit]
  constructor
  · intro h
    have h0 : win0_17.index t 0 * 176 ≤ (i 0).val ∧ (i 0).val < win0_17.index t 0 * 176 + 176 := h 0
    rw [hx.1] at h0
    omega
  · intro h a
    match a with
    | ⟨0, _⟩ => show win0_17.index t 0 * 176 ≤ (i 0).val ∧ (i 0).val < win0_17.index t 0 * 176 + 176; rw [hx.1]; omega
    | ⟨1, _⟩ => show win0_17.index t 1 * 1024 ≤ (i 1).val ∧ (i 1).val < win0_17.index t 1 * 1024 + 1024; rw [hx.2]; omega

theorem flushed15 (c : Dev nD) (t : Fin cfg0.N) (hf : (cfg0.win 15).flush t = true) :
    (dats m 0 c).flushed 15 t = ((cfg0.win 15).blk t).view.read (Elt Ideal) (res15 m c) := by
  rw [Value.flushed15_A m c t, out_15]
  funext x
  obtain ⟨r, k, rfl⟩ : ∃ r k, x = ix2 (n0 := 1024) (n1 := 1024) r k := ⟨x 0, x 1, eq_ix2 x⟩
  show outOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k)
    = res15 m c (((cfg0.win 15).blk t).view.emb (ix2 r k))
  rw [emb15, blk4, blk5, blk6, blk7, blk8, blk9, blk12]
  show output (streamRow (iblk m c 0 t) (iblk m c 1 t) (iblk m c 2 t) (iblk m c 3 t) (arr4 m c) (arr5 m c) (arr6 m c) r)
    (fun k => arr7 m c (ix2 0 k)) (arr8 m c) (fun d => arr9 m c (ix2 0 d))
    (fun n j => (iblk m c 10 t : S1x256x512.Idx → EReal) (ix3 0 n j))
    (fun n j => (iblk m c 11 t : S1x256x512.Idx → EReal) (ix3 0 n j)) (arr12 m c) k = _
  rw [row_eq, tokens10 m c t r, tokens11 m c t r]
  rfl

theorem flushed16 (c : Dev nD) (t : Fin cfg0.N) (hf : (cfg0.win 16).flush t = true) :
    (dats m 0 c).flushed 16 t = ((cfg0.win 16).blk t).view.read (Elt Ideal) (res16 m c) := by
  rw [Value.flushed16_A m c t, out_16]
  funext x
  obtain ⟨r, k, rfl⟩ : ∃ r k, x = ix2 (n0 := 64) (n1 := 5632) r k := ⟨x 0, x 1, eq_ix2 x⟩
  show slabOf (iblk m c 13 t) (ix2 r k) = res16 m c (((cfg0.win 16).blk t).view.emb (ix2 r k))
  rw [emb16]
  exact blk13 m c t r k

theorem flushed17 (c : Dev nD) (t : Fin cfg0.N) (hf : (cfg0.win 17).flush t = true) :
    (dats m 0 c).flushed 17 t = ((cfg0.win 17).blk t).view.read (Elt Ideal) (res17 m c) := by
  rw [Value.flushed17_A m c t, out_17]
  funext x
  obtain ⟨r, k, rfl⟩ : ∃ r k, x = ix2 (n0 := 176) (n1 := 1024) r k := ⟨x 0, x 1, eq_ix2 x⟩
  show slabOf' (iblk m c 14 t) (ix2 r k) = res17 m c (((cfg0.win 17).blk t).view.emb (ix2 r k))
  rw [emb17]
  exact blk14 m c t r k

theorem final15 (c : Dev nD) : (dats m 0 c).arrAt 15 cfg0.N = res15 m c :=
  (dats m 0 c).arrAt_eq_of_cover 15 (res15 m c) (flushed15 m c) fun i => by
    have h0 : (i 0).val < 16384 := (i 0).isLt
    refine ⟨⟨(i 0).val / 1024, by rw [show cfg0.N = 16 from N_0]; omega⟩, flush0_15 _, ?_⟩
    rw [mem_blk15]

theorem final16 (c : Dev nD) : (dats m 0 c).arrAt 16 cfg0.N = res16 m c :=
  (dats m 0 c).arrAt_eq_of_cover 16 (res16 m c) (flushed16 m c) fun i => by
    have h0 : (i 0).val < 1024 := (i 0).isLt
    refine ⟨⟨(i 0).val / 64, by rw [show cfg0.N = 16 from N_0]; omega⟩, flush0_16 _, ?_⟩
    rw [mem_blk16]

theorem final17 (c : Dev nD) : (dats m 0 c).arrAt 17 cfg0.N = res17 m c :=
  (dats m 0 c).arrAt_eq_of_cover 17 (res17 m c) (flushed17 m c) fun i => by
    have h0 : (i 0).val < 2816 := (i 0).isLt
    refine ⟨⟨(i 0).val / 176, by rw [show cfg0.N = 16 from N_0]; omega⟩, flush0_17 _, ?_⟩
    rw [mem_blk17]

/-- The kernel's run: the three results, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = res15 m c
      ∧ r.2.mem ((c : Thread nD τ).loc main_v0_1) = res16 m c
      ∧ r.2.mem ((c : Thread nD τ).loc main_v0_2) = res17 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (final15 m c), (h c).2.1.trans (final16 m c), (h c).2.2.1.trans (final17 m c),
    (h c).2.2.2⟩) (Value.run_blocks m ρ)

end Cert.PostIdeal.Array
-- ==== Proof.PostReference.lean ====
/-
  The merge reference's rows at an index, up to the scores against the memory tokens, and the softmax of such scores.
-/
module

public import proofs.«01_k».proof.Proof.Gen.PostRefIdeal.Read
public import proofs.«01_k».proof.Proof.PostArray
public import proofs.«01_k».proof.Proof.FoxReference

@[expose] public section

set_option maxRecDepth 16384

noncomputable section

namespace Cert.PostRefIdeal.Rows

open Cert.PostRefIdeal Cert.PostRefIdeal.Gen Cert.PostRefIdeal.Read Cert.Layer Idealize.ShloMosaic Idealize.ShloMosaic.TcCoe
open Cert.PostIdeal.Tile (merge stream query len128 factor score largest attend memory output)
open Cert.PostIdeal.Array (tokens)
open Cert.FoxRefIdeal.Soft (IsReal isReal_of_lt of_ofBool)

/-! ## The softmax -/

/-- Where the largest score is finite, the quotient of the sums is the sum of the values by the quotients. -/
theorem attend_eq (s v : Fin 256 → EReal) (h : IsReal (largest s)) :
    attend s v = ∑ m, v m * Ideal.div (Ideal.exp (s m - largest s)) (∑ m, Ideal.exp (s m - largest s)) := by
  obtain ⟨M, hM⟩ := h
  have hle (m : Fin 256) : s m ≤ M := hM ▸ ((Finset.fold_max_le (largest s)).1 le_rfl).2 m (Finset.mem_univ m)
  obtain ⟨j, -, hj⟩ : ∃ j ∈ Finset.univ, (M : EReal) ≤ s j :=
    (((Finset.le_fold_max (b := ⊥) (s := Finset.univ) (f := s) (M : EReal)).1 hM.ge).resolve_left
      fun hb => EReal.coe_ne_bot M (le_bot_iff.1 hb))
  have hw (m : Fin 256) : ∃ r : ℝ, 0 ≤ r ∧ Ideal.exp (s m - (M : EReal)) = r := by
    have := hle m
    generalize s m = x at this
    induction x with
    | bot => exact ⟨0, le_rfl, rfl⟩
    | top => exact absurd (top_le_iff.1 this) (EReal.coe_ne_top M)
    | coe r => exact ⟨Real.exp (r - M), (Real.exp_pos _).le, rfl⟩
  unfold attend
  rw [hM]
  choose r hr0 hr using hw
  have hpos : 0 < ∑ m, r m := by
    refine Finset.sum_pos' (fun m _ => hr0 m) ⟨j, Finset.mem_univ j, ?_⟩
    have h1 := hr j
    rw [le_antisymm (hle j) hj] at h1
    have h2 : Ideal.exp ((M : EReal) - (M : EReal)) = ((Real.exp (M - M) : ℝ) : EReal) := rfl
    rw [h2] at h1
    rw [← EReal.coe_eq_coe_iff.1 h1]
    exact Real.exp_pos _
  simp only [hr]
  rw [← Cert.Online.coe_sum, Ideal.div_coe hpos.ne', mul_comm, Cert.Online.mul_sum]
  · refine Finset.sum_congr rfl fun m _ => ?_
    rw [Ideal.div_coe hpos.ne', ← mul_assoc, mul_comm]
    congr 1
    rw [mul_comm]
  · exact_mod_cast (by positivity : (0 : ℝ) ≤ 1 / ∑ m, r m)
  · exact EReal.coe_ne_top _

/-! ## The rows -/

variable (x0 x1 : S16384x512.Idx → EReal) (x2 : S16384x2048.Idx → EReal) (x3 : S16384x1024.Idx → EReal)
  (x4 x5 : S512x1024.Idx → EReal) (x6 : S1024x1024.Idx → EReal) (x7 : S1x1024.Idx → EReal) (x8 : S1024x512.Idx → EReal)
  (x9 : S1x128.Idx → EReal) (x10 x11 : S4x2048x512.Idx → EReal) (x12 : S512x1024.Idx → EReal)
  (x13 : S4x1024x5632.Idx → EReal) (x14 : S4x2816x1024.Idx → EReal)

/-- A row of the stream. -/
abbrev row (r : Fin 16384) : Fin 1024 → EReal :=
  stream (fun k => x3 (ix2 r k))
    (merge (fun k => x0 (ix2 r k)) (fun k => x1 (ix2 r k)) (fun k => x2 (ix2 r k)) x4 x5) x6

theorem stream_at (r : Fin 16384) (j : Fin 1024) :
    val_main_v14 (F := Ideal) x0 x1 x2 x3 x4 x5 x6 (ix2 r j) = row x0 x1 x2 x3 x4 x5 x6 r j := by
  pointwise [val_main_v14, val_main_v13, val_main_v12, val_main_v11, val_main_v10, val_main_v9, val_main_v8, val_main_v7,
    val_main_v6, val_main_v5, val_main_v4, val_main_v3, val_main_v2, val_main_v1, val_main_v0]
  rfl

theorem query_at (r : Fin 16384) (c : Fin 512) :
    val_main_v28 (F := Ideal) x0 x1 x2 x3 x4 x5 x6 x7 x8 (ix2 r c)
      = query (row x0 x1 x2 x3 x4 x5 x6 r) (fun k => x7 (ix2 0 k)) x8 c := by
  pointwise [val_main_v28, val_main_v27, val_main_v26, val_main_v25, val_main_v24, val_main_v23, val_main_v22, val_main_v21,
    val_main_v20, val_main_cst_1, val_main_v19, val_main_v18, val_main_cst_0, val_main_v17, val_main_v16, val_main_cst,
    val_main_v15]
  simp only [stream_at]
  rfl

/-- The row of a token of a sequence. -/
abbrev at8 (b : Fin 8) (t : Fin 2048) : Fin 16384 := ⟨b.val * 2048 + t.val, by omega⟩

theorem head_at (b : Fin 8) (t : Fin 2048) (h : Fin 4) (d : Fin 128) :
    val_main_v43 (F := Ideal) x0 x1 x2 x3 x4 x5 x6 x7 x8 x9 (ix4 b t h d)
      = rms len128 eps6 (fun d : Fin 128 => query (row x0 x1 x2 x3 x4 x5 x6 (at8 b t)) (fun k => x7 (ix2 0 k)) x8
          ⟨h.val * 128 + d.val, by omega⟩) (fun d => x9 (ix2 0 d)) d := by
  pointwise [val_main_v43, val_main_v42, val_main_v41, val_main_v40, val_main_v39, val_main_v38, val_main_v37, val_main_v36,
    val_main_v35, val_main_cst_4, val_main_v34, val_main_v33, val_main_cst_3, val_main_v32, val_main_v31, val_main_cst_2,
    val_main_v30, val_main_v29]
  simp only [query_at]
  rfl

theorem token_eq (x : S4x2048x512.Idx → EReal) (b : Fin 8) (t : Fin 2048) (n : Fin 256) (c : Fin 512) :
    x (ix3 3 ⟨b.val * 256 + n.val, by omega⟩ c) = tokens x (at8 b t) n c :=
  congrArg (fun k => x (ix3 3 k c)) (Fin.ext (by
    show b.val * 256 + n.val = 256 * ((b.val * 2048 + t.val) / 2048) + n.val
    omega))

theorem key_at (b : Fin 8) (t : Fin 2048) (n : Fin 256) (h : Fin 4) (d : Fin 128) :
    val_main_v47 (F := Ideal) x10 (ix4 b n h d) = tokens x10 (at8 b t) n ⟨h.val * 128 + d.val, by omega⟩ := by
  rw [← token_eq]
  pointwise [val_main_v47, val_main_v46, val_main_v45, val_main_v44]

theorem value_at (b : Fin 8) (t : Fin 2048) (n : Fin 256) (h : Fin 4) (d : Fin 128) :
    val_main_v51 (F := Ideal) x11 (ix4 b n h d) = tokens x11 (at8 b t) n ⟨h.val * 128 + d.val, by omega⟩ := by
  rw [← token_eq]
  pointwise [val_main_v51, val_main_v50, val_main_v49, val_main_v48]

/-- The scores of a row in a head. -/
def scores (r : Fin 16384) (h : Fin 4) : Fin 256 → EReal :=
  score (rms len128 eps6 (fun d : Fin 128 => query (row x0 x1 x2 x3 x4 x5 x6 r) (fun k => x7 (ix2 0 k)) x8
    ⟨h.val * 128 + d.val, by omega⟩) (fun d => x9 (ix2 0 d))) fun n d => tokens x10 r n ⟨h.val * 128 + d.val, by omega⟩

theorem score_at (b : Fin 8) (h : Fin 4) (t : Fin 2048) (n : Fin 256) :
    val_main_v54 (F := Ideal) x0 x1 x2 x3 x4 x5 x6 x7 x8 x9 x10 (ix4 b h t n)
      = scores x0 x1 x2 x3 x4 x5 x6 x7 x8 x9 x10 (at8 b t) h n := by
  pointwise [val_main_v54, val_main_v53, val_main_cst_5, val_main_v52]
  simp only [head_at, key_at x10 b t]
  rfl

theorem peak_at (b : Fin 8) (h : Fin 4) (t : Fin 2048) :
    val_main_v55 (F := Ideal) x0 x1 x2 x3 x4 x5 x6 x7 x8 x9 x10 (ix3 b h t)
      = largest (scores x0 x1 x2 x3 x4 x5 x6 x7 x8 x9 x10 (at8 b t) h) := by
  pointwise [val_main_v55, val_main_cst_6]
  simp only [score_at]
  rfl

end Cert.PostRefIdeal.Rows
-- ==== Proof.PostAttention.lean ====
/-
  The merge reference's three results at an index, under the precondition.
-/
module

public import proofs.«01_k».proof.Proof.PostReference
public import proofs.«01_k».proof.Pre_finite_peaks

@[expose] public section

set_option maxRecDepth 16384

noncomputable section

namespace Cert.PostRefIdeal.Rows

open Cert.PostRefIdeal Cert.PostRefIdeal.Gen Cert.PostRefIdeal.Read Cert.Layer Idealize.ShloMosaic Idealize.ShloMosaic.TcCoe
open Cert.PostIdeal.Tile (merge stream query len128 factor score largest attend memory output)
open Cert.PostIdeal.Array (tokens)
open Cert.FoxRefIdeal.Soft (IsReal isReal_of_lt of_ofBool)

variable (x0 x1 : S16384x512.Idx → EReal) (x2 : S16384x2048.Idx → EReal) (x3 : S16384x1024.Idx → EReal)
  (x4 x5 : S512x1024.Idx → EReal) (x6 : S1024x1024.Idx → EReal) (x7 : S1x1024.Idx → EReal) (x8 : S1024x512.Idx → EReal)
  (x9 : S1x128.Idx → EReal) (x10 x11 : S4x2048x512.Idx → EReal) (x12 : S512x1024.Idx → EReal)
  (x13 : S4x1024x5632.Idx → EReal) (x14 : S4x2816x1024.Idx → EReal)

/-! ## The weights -/

theorem max_word (y : EReal) : max (Ideal.ofBits .f32 0xFF800000#32) y = y := by
  have hinf : Ideal.ofBits .f32 0xFF800000#32 = ⊥ := rfl
  rw [hinf, max_eq_right bot_le]

theorem max_at' (b : Fin 8) (h : Fin 4) (t : Fin 2048) :
    val_main_v57 (F := Ideal) x0 x1 x2 x3 x4 x5 x6 x7 x8 x9 x10 (ix3 b h t)
      = max (Ideal.ofBits .f32 0xFF800000#32) (largest (scores x0 x1 x2 x3 x4 x5 x6 x7 x8 x9 x10 (at8 b t) h)) := by
  rw [val_main_v57_apply, peak_at, val_main_v56_apply, val_main_cst_7_apply]
  rfl

theorem max_at (b : Fin 8) (h : Fin 4) (t : Fin 2048) :
    val_main_v57 (F := Ideal) x0 x1 x2 x3 x4 x5 x6 x7 x8 x9 x10 (ix3 b h t)
      = largest (scores x0 x1 x2 x3 x4 x5 x6 x7 x8 x9 x10 (at8 b t) h) :=
  (max_at' x0 x1 x2 x3 x4 x5 x6 x7 x8 x9 x10 b h t).trans (max_word _)

theorem exp_at (b : Fin 8) (h : Fin 4) (t : Fin 2048) (n : Fin 256) :
    val_main_v61 (F := Ideal) x0 x1 x2 x3 x4 x5 x6 x7 x8 x9 x10 (ix4 b h t n)
      = Ideal.exp (scores x0 x1 x2 x3 x4 x5 x6 x7 x8 x9 x10 (at8 b t) h n
          - largest (scores x0 x1 x2 x3 x4 x5 x6 x7 x8 x9 x10 (at8 b t) h)) := by
  unfold val_main_v61 val_main_v60 val_main_v59 val_main_v58
  have p := max_at x0 x1 x2 x3 x4 x5 x6 x7 x8 x9 x10 b h t
  have q := score_at x0 x1 x2 x3 x4 x5 x6 x7 x8 x9 x10 b h t n
  generalize val_main_v57 (F := Ideal) x0 x1 x2 x3 x4 x5 x6 x7 x8 x9 x10 = y at p ⊢
  generalize val_main_v54 (F := Ideal) x0 x1 x2 x3 x4 x5 x6 x7 x8 x9 x10 = z at q ⊢
  pointwise []
  rw [p, q]

theorem sum_at (b : Fin 8) (h : Fin 4) (t : Fin 2048) :
    val_main_v62 (F := Ideal) x0 x1 x2 x3 x4 x5 x6 x7 x8 x9 x10 (ix3 b h t)
      = ∑ n, Ideal.exp (scores x0 x1 x2 x3 x4 x5 x6 x7 x8 x9 x10 (at8 b t) h n
          - largest (scores x0 x1 x2 x3 x4 x5 x6 x7 x8 x9 x10 (at8 b t) h)) := by
  unfold val_main_v62 val_main_cst_8
  have p := exp_at x0 x1 x2 x3 x4 x5 x6 x7 x8 x9 x10 b h t
  generalize val_main_v61 (F := Ideal) x0 x1 x2 x3 x4 x5 x6 x7 x8 x9 x10 = y at p ⊢
  pointwise []
  simp only [p]

theorem weight_at (b : Fin 8) (h : Fin 4) (t : Fin 2048) (n : Fin 256) :
    val_main_v65 (F := Ideal) x0 x1 x2 x3 x4 x5 x6 x7 x8 x9 x10 (ix4 b h t n)
      = Ideal.div (Ideal.exp (scores x0 x1 x2 x3 x4 x5 x6 x7 x8 x9 x10 (at8 b t) h n
            - largest (scores x0 x1 x2 x3 x4 x5 x6 x7 x8 x9 x10 (at8 b t) h)))
          (∑ n, Ideal.exp (scores x0 x1 x2 x3 x4 x5 x6 x7 x8 x9 x10 (at8 b t) h n
            - largest (scores x0 x1 x2 x3 x4 x5 x6 x7 x8 x9 x10 (at8 b t) h))) := by
  unfold val_main_v65 val_main_v64 val_main_v63
  have p := exp_at x0 x1 x2 x3 x4 x5 x6 x7 x8 x9 x10 b h t n
  have q := sum_at x0 x1 x2 x3 x4 x5 x6 x7 x8 x9 x10 b h t
  generalize val_main_v61 (F := Ideal) x0 x1 x2 x3 x4 x5 x6 x7 x8 x9 x10 = y at p ⊢
  generalize val_main_v62 (F := Ideal) x0 x1 x2 x3 x4 x5 x6 x7 x8 x9 x10 = z at q ⊢
  pointwise []
  rw [p, q]

/-! ## The precondition -/

/-- The shape relations of the precondition are relations of the reference. -/
theorem pre_facts : Cert.Pre_finite_peaks.Facts where
  bitsLt_bf16_f32 := Cert.PostRefIdeal.Gen.facts.bitsLt_bf16_f32
  slices_S16384x2048_S16384x1024_0_0 := Cert.PostRefIdeal.Gen.facts.slices_S16384x2048_S16384x1024_0_0
  slices_S16384x2048_S16384x1024_0_1024 := Cert.PostRefIdeal.Gen.facts.slices_S16384x2048_S16384x1024_0_1024
  reducesTo_S16384x1024_S16384_d1 := Cert.PostRefIdeal.Gen.facts.reducesTo_S16384x1024_S16384_d1
  h_S_ := Cert.PostRefIdeal.Gen.facts.h_S_
  bcast_S16384_S16384x1_0 := Cert.PostRefIdeal.Gen.facts.bcast_S16384_S16384x1_0
  bcast_S_S16384x1 := Cert.PostRefIdeal.Gen.facts.bcast_S_S16384x1
  bcast_S16384x1_S16384x1024_0_1 := Cert.PostRefIdeal.Gen.facts.bcast_S16384x1_S16384x1024_0_1
  bcast_S1x1024_S16384x1024_0_1 := Cert.PostRefIdeal.Gen.facts.bcast_S1x1024_S16384x1024_0_1
  shapeCasts_S16384x512_S8x2048x4x128 := Cert.PostRefIdeal.Gen.facts.shapeCasts_S16384x512_S8x2048x4x128
  reducesTo_S8x2048x4x128_S8x2048x4_d3 := Cert.PostRefIdeal.Gen.facts.reducesTo_S8x2048x4x128_S8x2048x4_d3
  bcast_S8x2048x4_S8x2048x4x1_0_1_2 := Cert.PostRefIdeal.Gen.facts.bcast_S8x2048x4_S8x2048x4x1_0_1_2
  bcast_S_S8x2048x4x1 := Cert.PostRefIdeal.Gen.facts.bcast_S_S8x2048x4x1
  bcast_S8x2048x4x1_S8x2048x4x128_0_1_2_3 := Cert.PostRefIdeal.Gen.facts.bcast_S8x2048x4x1_S8x2048x4x128_0_1_2_3
  shapeCasts_S1x128_S128 := Cert.PostRefIdeal.Gen.facts.shapeCasts_S1x128_S128
  bcast_S128_S1x1x1x128_3 := Cert.PostRefIdeal.Gen.facts.bcast_S128_S1x1x1x128_3
  bcast_S1x1x1x128_S8x2048x4x128_0_1_2_3 := Cert.PostRefIdeal.Gen.facts.bcast_S1x1x1x128_S8x2048x4x128_0_1_2_3
  slices_S4x2048x512_S1x2048x512_3_0_0 := Cert.PostRefIdeal.Gen.facts.slices_S4x2048x512_S1x2048x512_3_0_0
  shapeCasts_S1x2048x512_S2048x512 := Cert.PostRefIdeal.Gen.facts.shapeCasts_S1x2048x512_S2048x512
  shapeCasts_S2048x512_S8x256x4x128 := Cert.PostRefIdeal.Gen.facts.shapeCasts_S2048x512_S8x256x4x128
  bcast_S_S8x4x2048x256 := Cert.PostRefIdeal.Gen.facts.bcast_S_S8x4x2048x256
  reducesTo_S8x4x2048x256_S8x4x2048_d3 := Cert.PostRefIdeal.Gen.facts.reducesTo_S8x4x2048x256_S8x4x2048_d3
  bcast_S_S8x4x2048 := Cert.PostRefIdeal.Gen.facts.bcast_S_S8x4x2048
  dot_S16384x512_S512x1024_S16384x1024_1_0_0_1_n_n_wf := Cert.PostRefIdeal.Gen.facts.dot_S16384x512_S512x1024_S16384x1024_1_0_0_1_n_n_wf
  dot_S16384x1024_S1024x1024_S16384x1024_1_0_0_1_n_n_wf := Cert.PostRefIdeal.Gen.facts.dot_S16384x1024_S1024x1024_S16384x1024_1_0_0_1_n_n_wf
  dot_S16384x1024_S1024x512_S16384x512_1_0_0_1_n_n_wf := Cert.PostRefIdeal.Gen.facts.dot_S16384x1024_S1024x512_S16384x512_1_0_0_1_n_n_wf
  dot_S8x2048x4x128_S8x256x4x128_S8x4x2048x256_3_3_1_1_02_02_wf := Cert.PostRefIdeal.Gen.facts.dot_S8x2048x4x128_S8x256x4x128_S8x4x2048x256_3_3_1_1_02_02_wf

/-- The precondition is a comparison of the reference's largest scores. -/
theorem pre_eq [Cert.Pre_finite_peaks.Facts] :
    Cert.Pre_finite_peaks.fn (F := Ideal) x0 x1 x2 x3 x4 x5 x6 x7 x8 x9 x10 x11 x12 x13 x14
      = cmpf (F := Ideal) (φ := .f32) .olt (Host.absf (val_main_v55 (F := Ideal) x0 x1 x2 x3 x4 x5 x6 x7 x8 x9 x10))
          (broadcastInDim S8x4x2048 ![] Cert.Pre_finite_peaks.Facts.bcast_S_S8x4x2048 (constant S_ .f32 0x7F800000#32)) := rfl

/-- An array whose magnitudes are below the word of plus infinity holds reals. -/
theorem real_of_cmp (bc : S_.BroadcastsInDim S8x4x2048 (![] : Fin 0 → Fin S8x4x2048.rank)) (y : FVec Ideal S8x4x2048 .f32) (b : Fin 8) (h : Fin 4) (t : Fin 2048)
    (hi : cmpf (F := Ideal) (φ := .f32) .olt (Host.absf y)
      (broadcastInDim S8x4x2048 ![] bc (constant S_ .f32 0x7F800000#32)) (ix3 b h t) = 1#1) : IsReal (y (ix3 b h t)) := by
  have hinf : Ideal.ofBits .f32 0x7F800000#32 = ⊤ := rfl
  pointwise [] at hi
  rw [hinf] at hi
  exact isReal_of_lt (of_decide_eq_true (of_ofBool hi))

theorem peak_of_pre [Cert.Pre_finite_peaks.Facts]
    (hp : Cert.Pre_finite_peaks.fn (F := Ideal) x0 x1 x2 x3 x4 x5 x6 x7 x8 x9 x10 x11 x12 x13 x14 = fun _ => 1#1)
    (b : Fin 8) (h : Fin 4) (t : Fin 2048) : IsReal (largest (scores x0 x1 x2 x3 x4 x5 x6 x7 x8 x9 x10 (at8 b t) h)) := by
  rw [← peak_at x0 x1 x2 x3 x4 x5 x6 x7 x8 x9 x10 b h t]
  rw [pre_eq] at hp
  exact real_of_cmp _ _ b h t (congrFun hp (ix3 b h t))

/-! ## The results -/

theorem slab_at (r : Fin 1024) (j : Fin 5632) : val_main_v74 (F := Ideal) x13 (ix2 r j) = x13 (ix3 3 r j) := by
  pointwise [val_main_v74, val_main_v73, val_main_v72]

theorem slab_at' (r : Fin 2816) (j : Fin 1024) : val_main_v77 (F := Ideal) x14 (ix2 r j) = x14 (ix3 3 r j) := by
  pointwise [val_main_v77, val_main_v76, val_main_v75]

/-- Where the largest scores of a row are finite, the reference's column of the memory attention is the kernel's. -/
theorem memory_at (r : Fin 16384) (hp : ∀ h : Fin 4, IsReal (largest (scores x0 x1 x2 x3 x4 x5 x6 x7 x8 x9 x10 r h))) (c : Fin 512) :
    val_main_v68 (F := Ideal) x0 x1 x2 x3 x4 x5 x6 x7 x8 x9 x10 x11 (ix2 r c)
      = memory (row x0 x1 x2 x3 x4 x5 x6 r) (fun k => x7 (ix2 0 k)) x8 (fun d => x9 (ix2 0 d)) (tokens x10 r) (tokens x11 r) c := by
  have hr : at8 ⟨r.val / 2048, by omega⟩ ⟨r.val % 2048, by omega⟩ = r := Fin.ext (by show r.val / 2048 * 2048 + r.val % 2048 = r.val; omega)
  have hc : (⟨c.val / 128 * 128 + c.val % 128, by omega⟩ : Fin 512) = c := Fin.ext (by show c.val / 128 * 128 + c.val % 128 = c.val; omega)
  have p := value_at x11 ⟨r.val / 2048, by omega⟩ ⟨r.val % 2048, by omega⟩
  have q := weight_at x0 x1 x2 x3 x4 x5 x6 x7 x8 x9 x10
  unfold val_main_v68 val_main_v67 val_main_v66
  generalize val_main_v65 (F := Ideal) x0 x1 x2 x3 x4 x5 x6 x7 x8 x9 x10 = y at q ⊢
  generalize val_main_v51 (F := Ideal) x11 = z at p ⊢
  pointwise []
  simp only [p, q, hr, hc]
  exact (attend_eq _ _ (hp ⟨c.val / 128, by omega⟩)).symm

theorem ref_at (r : Fin 16384) (hp : ∀ h : Fin 4, IsReal (largest (scores x0 x1 x2 x3 x4 x5 x6 x7 x8 x9 x10 r h))) (j : Fin 1024) :
    val_main_v71 (F := Ideal) x0 x1 x2 x3 x4 x5 x6 x7 x8 x9 x10 x11 x12 (ix2 r j)
      = output (row x0 x1 x2 x3 x4 x5 x6 r) (fun k => x7 (ix2 0 k)) x8 (fun d => x9 (ix2 0 d)) (tokens x10 r) (tokens x11 r) x12 j := by
  have p := memory_at x0 x1 x2 x3 x4 x5 x6 x7 x8 x9 x10 x11 r hp
  have q := stream_at x0 x1 x2 x3 x4 x5 x6 r j
  unfold val_main_v71 val_main_v70 val_main_v69
  generalize val_main_v68 (F := Ideal) x0 x1 x2 x3 x4 x5 x6 x7 x8 x9 x10 x11 = y at p ⊢
  generalize val_main_v14 (F := Ideal) x0 x1 x2 x3 x4 x5 x6 = z at q ⊢
  pointwise []
  simp only [p, q]
  rfl

/-- Every row is the row of a token of a sequence. -/
theorem peak_row [Cert.Pre_finite_peaks.Facts]
    (hp : Cert.Pre_finite_peaks.fn (F := Ideal) x0 x1 x2 x3 x4 x5 x6 x7 x8 x9 x10 x11 x12 x13 x14 = fun _ => 1#1)
    (r : Fin 16384) (h : Fin 4) : IsReal (largest (scores x0 x1 x2 x3 x4 x5 x6 x7 x8 x9 x10 r h)) := by
  have e := peak_of_pre x0 x1 x2 x3 x4 x5 x6 x7 x8 x9 x10 x11 x12 x13 x14 hp ⟨r.val / 2048, by omega⟩ h ⟨r.val % 2048, by omega⟩
  rwa [show at8 ⟨r.val / 2048, by omega⟩ ⟨r.val % 2048, by omega⟩ = r from
    Fin.ext (by show r.val / 2048 * 2048 + r.val % 2048 = r.val; omega)] at e

end Cert.PostRefIdeal.Rows
-- ==== Proof.PostClaims.lean ====
/-
  The claims about the merge and the memory attention.
-/
module

public import proofs.«01_k».proof.Proof.Gen.PostIdeal.Value
public import proofs.«01_k».proof.Proof.Gen.PostRefIdeal.Read
public import proofs.«01_k».proof.Defs
public import proofs.«01_k».proof.Proof.Gen.Post.Frame
public import proofs.«01_k».proof.Proof.Gen.PostIdeal.Frame
public import proofs.«01_k».proof.Proof.Gen.PostRefIdeal.Run
public import proofs.«01_k».proof.Proof.PostAttention
public import Idealize.ShloMosaic.Lib.Quiescent

@[expose] public section

set_option maxRecDepth 16384

noncomputable section

namespace Cert.Proof.PostClaims

open Idealize.ShloMosaic Idealize.ShloMosaic.TcCoe Idealize.SL.Sem

instance hPost : Cert.Post.Facts := Cert.Post.Gen.facts
instance hPostIdeal : Cert.PostIdeal.Facts := Cert.PostIdeal.Gen.facts
instance hPostRefIdeal : Cert.PostRefIdeal.Facts := Cert.PostRefIdeal.Gen.facts

instance hPre : Cert.Pre_finite_peaks.Facts := Cert.PostRefIdeal.Rows.pre_facts

theorem frame_p : Cert.quiescent_Post := fun m ρ _ => Cert.Post.Gen.frame m ρ

theorem frame_pi : Cert.quiescent_PostIdeal := fun m ρ _ => Cert.PostIdeal.Gen.frame m ρ

theorem frame_pi_pre : Cert.quiescent_PostIdeal_pre_finite_peaks := fun m ρ _ => Cert.PostIdeal.Gen.frame m ρ

theorem frame_ri : Cert.quiescent_PostRefIdeal := fun m ρ _ =>
  (θ_run Cert.PostRefIdeal.defs _ _).mono (fun r h => ⟨fun c => (h c).2.2.2, sem_eq_zero_of_no_sems rfl r.2⟩)
    (Cert.PostRefIdeal.Value.run (F := Ideal) m ρ)

theorem frame_ri_pre : Cert.quiescent_PostRefIdeal_pre_finite_peaks := fun m ρ _ => frame_ri m ρ trivial

theorem preserves : Cert.preserves_Post_PostIdeal := trivial

/-- The kernel's three results and the reference's are the same arrays. -/
theorem algebraic : Cert.algebraic_PostIdeal_PostRefIdeal_pre_finite_peaks := fun m ρ m' ρ' hpre hag =>
  ⟨fun c => Cert.PostIdeal.Array.res15 m c, fun c => Cert.PostIdeal.Array.res16 m c, fun c => Cert.PostIdeal.Array.res17 m c,
    Cert.PostIdeal.Array.run m ρ,
    (θ_run Cert.PostRefIdeal.defs _ _).mono
      (fun _ h c => by
        obtain ⟨h0, h1, h2, h3⟩ := h c
        obtain ⟨a0, a1, a2, a3, a4, a5, a6, a7, a8, a9, a10, a11, a12, a13, a14⟩ := hag c
        refine ⟨h0.trans ?_, h1.trans ?_, h2.trans ?_, h3⟩
        · rw [Cert.PostRefIdeal.Read.val_main_v71_eq, a0, a1, a2, a3, a4, a5, a6, a7, a8, a9, a10, a11, a12]
          funext i
          obtain ⟨r, k, rfl⟩ : ∃ r k, i = ix2 (n0 := 16384) (n1 := 1024) r k := ⟨i 0, i 1, eq_ix2 i⟩
          exact Cert.PostRefIdeal.Rows.ref_at _ _ _ _ _ _ _ _ _ _ _ _ _ r
            (Cert.PostRefIdeal.Rows.peak_row _ _ _ _ _ _ _ _ _ _ _ _ _ _ _ (hpre c) r) k
        · rw [Cert.PostRefIdeal.Read.val_main_v74_eq, a13]
          funext i
          obtain ⟨r, k, rfl⟩ : ∃ r k, i = ix2 (n0 := 1024) (n1 := 5632) r k := ⟨i 0, i 1, eq_ix2 i⟩
          exact Cert.PostRefIdeal.Rows.slab_at _ r k
        · rw [Cert.PostRefIdeal.Read.val_main_v77_eq, a14]
          funext i
          obtain ⟨r, k, rfl⟩ : ∃ r k, i = ix2 (n0 := 2816) (n1 := 1024) r k := ⟨i 0, i 1, eq_ix2 i⟩
          exact Cert.PostRefIdeal.Rows.slab_at' _ r k)
      (Cert.PostRefIdeal.Value.run (F := Ideal) m' ρ')⟩

end Cert.Proof.PostClaims

end
-- ==== Proof.MemkvTile.lean ====
/-
  What one grid point of the memory keys' kernel stores, as functions of the blocks it reads.
-/
module

public import proofs.«01_k».proof.Proof.Layer
public import proofs.«01_k».proof.Proof.Gen.MemkvIdeal.Value

@[expose] public section

set_option maxRecDepth 16384

noncomputable section

namespace Cert.MemkvIdeal.Tile

open Cert.MemkvIdeal Cert.MemkvIdeal.Gen Cert.Layer Idealize.ShloMosaic Idealize.ShloMosaic.TcCoe Idealize.SL.Sem

/-- The word of 128. -/
def len128 : EReal := Ideal.ofBits .f32 0x43000000#32

/-- A memory token's normalised row against a column of the weights: the keys' columns come first, then the values'. -/
def project (x g : Fin 1024 → EReal) (w : Fin 1024 → Fin 1024 → EReal) (c : Fin 1024) : EReal :=
  ∑ k, rms len1024 eps6 x g k * w k c

/-- The columns of one head of the keys. -/
def headOf (p : Fin 1024 → EReal) (h : Fin 4) (d : Fin 128) : EReal := p ⟨h.val * 128 + d.val, by omega⟩

/-- The keys of a token: each head normalised by its own root mean square. -/
def keys (p : Fin 1024 → EReal) (gain : Fin 128 → EReal) (c : Fin 512) : EReal :=
  rms len128 eps6 (headOf p ⟨c.val / 128, by omega⟩) gain ⟨c.val % 128, Nat.mod_lt _ (by decide)⟩

/-- The values of a token. -/
def values (p : Fin 1024 → EReal) (c : Fin 512) : EReal := p ⟨512 + c.val, by omega⟩

theorem hz3 : (![0, 0, 0] : Fin 3 → Nat) = fun _ => 0 := funext fun a => by fin_cases a <;> rfl

/-! ## The steps at an index -/

theorem project_at (x0 : Vec Ideal S1024x1024 .f32) (x1 : Vec Ideal S1x1x1024 .f32) (x2 : Vec Ideal S1x1024x1024 .f32)
    (r c : Fin 1024) : k0_pay11 x0 x1 x2 (ix2 r c)
      = project (fun k => x0 (ix2 r k)) (fun k => x1 (ix3 0 0 k)) (fun k c => x2 (ix3 0 k c)) c := by
  pointwise [k0_pay11]
  rfl

section
variable (p : FVec Ideal S1024x1024 .f32) (g : Vec Ideal S1x1x128 .f32) (r : Fin 1024) (d : Fin 128)

/-- One head's keys at a row. -/
abbrev headKeys (h : Fin 4) : EReal := rms len128 eps6 (headOf (fun c => p (ix2 r c)) h) (fun d => g (ix3 0 0 d)) d

theorem head1_at : k0_pay14 p g (ix3 0 r d) = headKeys p g r d 1 := by
  pointwise [k0_pay14]
  rfl

theorem head2_at : k0_pay1 (k0_pay15 p) g (ix3 0 r d) = headKeys p g r d 2 := by
  pointwise [k0_pay1, k0_pay15]
  rfl

theorem head3_at : k0_pay2 p g (ix3 0 r d) = headKeys p g r d 3 := by
  pointwise [k0_pay2]
  rfl

theorem values_at (c : Fin 512) : k0_pay3 p (ix3 0 r c) = values (fun c => p (ix2 r c)) c := by
  pointwise [k0_pay3]
  rfl
end

theorem head0_at (x0 : Vec Ideal S1024x1024 .f32) (x1 : Vec Ideal S1x1x1024 .f32) (x2 : Vec Ideal S1x1024x1024 .f32)
    (g : Vec Ideal S1x1x128 .f32) (r : Fin 1024) (d : Fin 128) :
    k0_pay13 (k0_pay12 x0 x1 x2) g (ix3 0 r d) = headKeys (k0_pay11 x0 x1 x2) g r d 0 := by
  unfold k0_pay12
  generalize k0_pay11 x0 x1 x2 = p
  pointwise [k0_pay13]
  simp only [headKeys, rms, scale, headOf]
  simp
  rfl

end Cert.MemkvIdeal.Tile

end
-- ==== Proof.MemkvArray.lean ====
/-
  The memory keys' kernel's nine result arrays, each as one function of the argument arrays. Grid point `t` takes layer
  `t / 2` and half `t % 2` of the memory tokens, and casts one eighth of each of the first layer's weight matrices.
-/
module

public import proofs.«01_k».proof.Proof.MemkvTile

@[expose] public section

set_option maxRecDepth 16384

noncomputable section

namespace Cert.MemkvIdeal.Array

open Cert.MemkvIdeal Cert.MemkvIdeal.Gen Cert.MemkvIdeal.Tile Cert.Layer Idealize.ShloMosaic Idealize.ShloMosaic.TcCoe
open Idealize.SL.Sem
open Idealize.ShloMosaic.Pipeline (Dat)

/-! ## The blocks a grid point stores -/

section
variable (x0 : Vec Ideal S1024x1024 .f32) (x1 : Vec Ideal S1x1x1024 .f32) (x2 : Vec Ideal S1x1024x1024 .f32)
  (x3 : Vec Ideal S1x1x128 .f32) (x4 : Vec Ideal S1x192x1024 .f32) (x5 : Vec Ideal S1x448x1024 .f32)
  (x6 x7 : Vec Ideal S1x64x1024 .f32) (x8 : Vec Ideal S1x128x1024 .f32) (x9 : Vec Ideal S1x128x512 .f32)
  (x10 : Vec Ideal S1x64x1024 .f32)

/-- A row of the block of tokens against the weights. -/
abbrev blockRow (r : Fin 1024) : Fin 1024 → EReal :=
  project (fun k => x0 (ix2 r k)) (fun k => x1 (ix3 0 0 k)) (fun k c => x2 (ix3 0 k c))

theorem payload_row (r : Fin 1024) : (fun c => k0_pay11 x0 x1 x2 (ix2 r c)) = blockRow x0 x1 x2 r :=
  funext fun c => project_at x0 x1 x2 r c

/-- One head of the keys at its columns. -/
theorem head_piece (y : FVec Ideal S1x1024x128 .bf16) (h : Fin 4) (x : S1x1024x128.Idx) (i : S1x1024x512.Idx)
    (hy : ∀ r d, y (ix3 0 r d) = headKeys (k0_pay11 x0 x1 x2) x3 r d h)
    (h1 : (i 1).val = (x 1).val) (h2 : (i 2).val = 128 * h.val + (x 2).val) :
    y x = keys (blockRow x0 x1 x2 (i 1)) (fun d => x3 (ix3 0 0 d)) (i 2) := by
  have hx2 : (x 2).val < 128 := (x 2).isLt
  obtain ⟨a, r, d, rfl⟩ : ∃ a r d, x = ix3 (n0 := 1) (n1 := 1024) (n2 := 128) a r d := ⟨x 0, x 1, x 2, eq_ix3 x⟩
  obtain rfl : a = 0 := Subsingleton.elim _ _
  rw [hy, headKeys, payload_row]
  have e1 : i 1 = r := Fin.ext h1
  have e2 : (⟨(i 2).val / 128, by have : (i 2).val < 512 := (i 2).isLt; omega⟩ : Fin 4) = h := Fin.ext (by
    have : (i 2).val = 128 * h.val + d.val := h2
    show (i 2).val / 128 = h.val
    omega)
  have e3 : (⟨(i 2).val % 128, Nat.mod_lt _ (by decide)⟩ : Fin 128) = d := Fin.ext (by
    have : (i 2).val = 128 * h.val + d.val := h2
    show (i 2).val % 128 = d.val
    omega)
  unfold keys
  rw [e1, e2, e3]

theorem out_11 (i : S1x1024x512.Idx) : out0_11 x0 x1 x2 x3 x4 x5 x6 x7 x8 x9 x10 i
    = keys (blockRow x0 x1 x2 (i 1)) (fun d => x3 (ix3 0 0 d)) (i 2) := by
  unfold_out out0_11
  simp only [View.ld_unit_zero (S := S1024x1024) hz, View.ld_unit_zero (S := S1x1x1024) hz3,
    View.ld_unit_zero (S := S1x1024x1024) hz3, View.ld_unit_zero (S := S1x1x128) hz3]
  refine View.canon_apply_of_pieces (Val := Elt Ideal) (S := S1x1024x512) (e := .bf16)
    (fun i => keys (blockRow x0 x1 x2 (i 1)) (fun d => x3 (ix3 0 0 d)) (i 2)) _ ?_ i (cover0_11 _ _ _ _ i)
  simp only [List.forall_mem_cons, List.not_mem_nil, false_implies, implies_true, and_true]
  refine ⟨?_, ?_, ?_, ?_⟩ <;> intro x
  · exact head_piece x0 x1 x2 x3 _ 3 x _ (fun r d => head3_at _ _ r d) (by simp) (by simp)
  · exact head_piece x0 x1 x2 x3 _ 2 x _ (fun r d => head2_at _ _ r d) (by simp) (by simp)
  · exact head_piece x0 x1 x2 x3 _ 1 x _ (fun r d => head1_at _ _ r d) (by simp) (by simp)
  · exact head_piece x0 x1 x2 x3 _ 0 x _ (fun r d => head0_at _ _ _ _ r d) (by simp) (by simp)

theorem out_12 (r : Fin 1024) (c : Fin 512) : out0_12 x0 x1 x2 x3 x4 x5 x6 x7 x8 x9 x10 (ix3 0 r c)
    = values (blockRow x0 x1 x2 r) c := by
  unfold_out out0_12
  simp only [View.ld_unit_zero (S := S1024x1024) hz, View.ld_unit_zero (S := S1x1x1024) hz3,
    View.ld_unit_zero (S := S1x1024x1024) hz3]
  rw [View.canon_unit_zero (S := S1x1024x512) hz3, values_at, payload_row]

theorem out_13 (r : Fin 192) (c : Fin 1024) : out0_13 x0 x1 x2 x3 x4 x5 x6 x7 x8 x9 x10 (ix2 r c) = x4 (ix3 0 r c) := by
  unfold_out out0_13
  rw [View.ld_unit_zero (S := S1x192x1024) hz3, View.canon_unit_zero (S := S192x1024) hz]
  pointwise [k0_pay4]

theorem out_14 (r : Fin 448) (c : Fin 1024) : out0_14 x0 x1 x2 x3 x4 x5 x6 x7 x8 x9 x10 (ix2 r c) = x5 (ix3 0 r c) := by
  unfold_out out0_14
  rw [View.ld_unit_zero (S := S1x448x1024) hz3, View.canon_unit_zero (S := S448x1024) hz]
  pointwise [k0_pay5]

theorem out_15 (r : Fin 64) (c : Fin 1024) : out0_15 x0 x1 x2 x3 x4 x5 x6 x7 x8 x9 x10 (ix2 r c) = x6 (ix3 0 r c) := by
  unfold_out out0_15
  rw [View.ld_unit_zero (S := S1x64x1024) hz3, View.canon_unit_zero (S := S64x1024) hz]
  pointwise [k0_pay6]

theorem out_16 (r : Fin 64) (c : Fin 1024) : out0_16 x0 x1 x2 x3 x4 x5 x6 x7 x8 x9 x10 (ix2 r c) = x7 (ix3 0 r c) := by
  unfold_out out0_16
  rw [View.ld_unit_zero (S := S1x64x1024) hz3, View.canon_unit_zero (S := S64x1024) hz]
  pointwise [k0_pay7]

theorem out_17 (r : Fin 128) (c : Fin 1024) : out0_17 x0 x1 x2 x3 x4 x5 x6 x7 x8 x9 x10 (ix2 r c) = x8 (ix3 0 r c) := by
  unfold_out out0_17
  rw [View.ld_unit_zero (S := S1x128x1024) hz3, View.canon_unit_zero (S := S128x1024) hz]
  pointwise [k0_pay8]

theorem out_18 (r : Fin 128) (c : Fin 512) : out0_18 x0 x1 x2 x3 x4 x5 x6 x7 x8 x9 x10 (ix2 r c) = x9 (ix3 0 r c) := by
  unfold_out out0_18
  rw [View.ld_unit_zero (S := S1x128x512) hz3, View.canon_unit_zero (S := S128x512) hz]
  pointwise [k0_pay9]

theorem out_19 (r : Fin 64) (c : Fin 1024) : out0_19 x0 x1 x2 x3 x4 x5 x6 x7 x8 x9 x10 (ix2 r c) = x10 (ix3 0 r c) := by
  unfold_out out0_19
  rw [View.ld_unit_zero (S := S1x64x1024) hz3, View.canon_unit_zero (S := S64x1024) hz]
  pointwise [k0_pay10]

end

variable (m : (ℓ : Loc nD τ sig) → Buf (Elt Ideal) ℓ)

abbrev arr0 (c : Dev nD) : S8x256x1024.Idx → EReal := m ((c : Thread nD τ).loc main_arg0)
abbrev arr1 (c : Dev nD) : S4x1024.Idx → EReal := m ((c : Thread nD τ).loc main_arg1)
abbrev arr2 (c : Dev nD) : S4x1024x1024.Idx → EReal := m ((c : Thread nD τ).loc main_arg2)
abbrev arr3 (c : Dev nD) : S4x128.Idx → EReal := m ((c : Thread nD τ).loc main_arg3)
abbrev arr4 (c : Dev nD) : S4x5128x1024.Idx → EReal := m ((c : Thread nD τ).loc main_arg4)
abbrev arr5 (c : Dev nD) : S4x512x1024.Idx → EReal := m ((c : Thread nD τ).loc main_arg5)
abbrev arr6 (c : Dev nD) : S4x512x1024.Idx → EReal := m ((c : Thread nD τ).loc main_arg6)
abbrev arr7 (c : Dev nD) : S4x1024x1024.Idx → EReal := m ((c : Thread nD τ).loc main_arg7)
abbrev arr8 (c : Dev nD) : S4x1024x512.Idx → EReal := m ((c : Thread nD τ).loc main_arg8)
abbrev arr9 (c : Dev nD) : S4x512x1024.Idx → EReal := m ((c : Thread nD τ).loc main_arg9)

/-! ## The arrays made before the kernel starts -/

theorem entry_v0 (c : Dev nD) : V m c main_v0 = shapeCast _ (arr0 m c) shapeCasts_S8x256x1024_S2048x1024 := by
  show StableHlo.after hostOps0 _ (Proc.devRef .tc main_v0) = _
  after_results
  rfl

theorem entry_v1 (c : Dev nD) : V m c main_v1 = broadcastInDim S4x1x1024 ![0, 2] bcast_S4x1024_S4x1x1024_0_2 (arr1 m c) := by
  show StableHlo.after hostOps0 _ (Proc.devRef .tc main_v1) = _
  after_results

theorem entry_v2 (c : Dev nD) : V m c main_v2 = broadcastInDim S4x1x128 ![0, 2] bcast_S4x128_S4x1x128_0_2 (arr3 m c) := by
  show StableHlo.after hostOps0 _ (Proc.devRef .tc main_v2) = _
  after_results

/-- A memory token's row. -/
abbrev token (x : S8x256x1024.Idx → EReal) (n : Fin 2048) : Fin 1024 → EReal :=
  fun k => x (ix3 ⟨n.val / 256, by omega⟩ ⟨n.val % 256, Nat.mod_lt _ (by decide)⟩ k)

theorem v0_at (c : Dev nD) (n : Fin 2048) (k : Fin 1024) :
    (V m c main_v0 : S2048x1024.Idx → EReal) (ix2 n k) = token (arr0 m c) n k := by
  rw [entry_v0]
  generalize arr0 m c = x
  refine shapeCast_apply x shapeCasts_S8x256x1024_S2048x1024 (ix2 n k)
    (ix3 (n0 := 8) (n1 := 256) (n2 := 1024) ⟨n.val / 256, by omega⟩ ⟨n.val % 256, Nat.mod_lt _ (by decide)⟩ k) ?_
  rewrite [Shape.rowMajor_val_three, Shape.rowMajor_val_two]
  show (n.val / 256 * 256 + n.val % 256) * 1024 + k.val = n.val * 1024 + k.val
  omega

theorem v1_at (c : Dev nD) (l : Fin 4) (k : Fin 1024) :
    (V m c main_v1 : S4x1x1024.Idx → EReal) (ix3 l 0 k) = arr1 m c (ix2 l k) := by
  rw [entry_v1]
  generalize arr1 m c = x
  pointwise

theorem v2_at (c : Dev nD) (l : Fin 4) (k : Fin 128) :
    (V m c main_v2 : S4x1x128.Idx → EReal) (ix3 l 0 k) = arr3 m c (ix2 l k) := by
  rw [entry_v2]
  generalize arr3 m c = x
  pointwise

/-! ## The blocks of the arguments -/

theorem index_facts : ∀ t : Fin grid0.N,
    (win0_0.index t 0 = t.val % 2 ∧ win0_0.index t 1 = 0)
    ∧ (win0_1.index t 0 = t.val / 2 ∧ win0_1.index t 1 = 0 ∧ win0_1.index t 2 = 0)
    ∧ (win0_2.index t 0 = t.val / 2 ∧ win0_2.index t 1 = 0 ∧ win0_2.index t 2 = 0)
    ∧ (win0_3.index t 0 = t.val / 2 ∧ win0_3.index t 1 = 0 ∧ win0_3.index t 2 = 0)
    ∧ (win0_11.index t 0 = t.val / 2 ∧ win0_11.index t 1 = t.val % 2 ∧ win0_11.index t 2 = 0)
    ∧ (win0_12.index t 0 = t.val / 2 ∧ win0_12.index t 1 = t.val % 2 ∧ win0_12.index t 2 = 0) := by decide +kernel

theorem index_4 : ∀ t : Fin grid0.N, (win0_4.index t 0 = 0 ∧ win0_4.index t 1 = 192 * t.val ∧ win0_4.index t 2 = 0)
    ∧ (win0_13.index t 0 = t.val ∧ win0_13.index t 1 = 0) := by decide +kernel

theorem index_5 : ∀ t : Fin grid0.N, (win0_5.index t 0 = 0 ∧ win0_5.index t 1 = 1544 + 448 * t.val ∧ win0_5.index t 2 = 0)
    ∧ (win0_14.index t 0 = t.val ∧ win0_14.index t 1 = 0) := by decide +kernel

theorem index_6 : ∀ t : Fin grid0.N, (win0_6.index t 0 = 0 ∧ win0_6.index t 1 = 64 * t.val ∧ win0_6.index t 2 = 0)
    ∧ (win0_15.index t 0 = t.val ∧ win0_15.index t 1 = 0) := by decide +kernel

theorem index_7 : ∀ t : Fin grid0.N, (win0_7.index t 0 = 0 ∧ win0_7.index t 1 = 64 * t.val ∧ win0_7.index t 2 = 0)
    ∧ (win0_16.index t 0 = t.val ∧ win0_16.index t 1 = 0) := by decide +kernel

theorem index_8 : ∀ t : Fin grid0.N, (win0_8.index t 0 = 0 ∧ win0_8.index t 1 = 128 * t.val ∧ win0_8.index t 2 = 0)
    ∧ (win0_17.index t 0 = t.val ∧ win0_17.index t 1 = 0) := by decide +kernel

theorem index_9 : ∀ t : Fin grid0.N, (win0_9.index t 0 = 0 ∧ win0_9.index t 1 = 128 * t.val ∧ win0_9.index t 2 = 0)
    ∧ (win0_18.index t 0 = t.val ∧ win0_18.index t 1 = 0) := by decide +kernel

theorem index_10 : ∀ t : Fin grid0.N, (win0_10.index t 0 = 0 ∧ win0_10.index t 1 = 64 * t.val ∧ win0_10.index t 2 = 0)
    ∧ (win0_19.index t 0 = t.val ∧ win0_19.index t 1 = 0) := by decide +kernel

theorem lt8 (t : Fin cfg0.N) : t.val < 8 := lt_of_lt_of_eq t.isLt N_0

theorem off (k n v : ℕ) (h : k = 0) : k * n + 1 * v = v := by subst h; omega

theorem row_off (k t v n : ℕ) (h : k = t) : k * n + 1 * v = n * t + v := by subst h; rw [Nat.mul_comm]; omega

/-- The layer of a grid point. -/
abbrev layer (t : Fin cfg0.N) : Fin 4 := ⟨t.val / 2, by have := lt8 t; omega⟩

/-- The token at a row of a grid point's block. -/
abbrev place (t : Fin cfg0.N) (r : Fin 1024) : Fin 2048 := ⟨1024 * (t.val % 2) + r.val, by omega⟩

theorem blk0 (c : Dev nD) (t : Fin cfg0.N) (i : Fin 1024) (j : Fin 1024) :
    (iblk m c 0 t : S1024x1024.Idx → EReal) (ix2 i j) = token (arr0 m c) (place t i) j := by
  rw [← v0_at]
  exact congrArg (V m c main_v0 : S2048x1024.Idx → EReal) (funext fun a => Fin.ext (match a with
    | ⟨0, _⟩ => row_off _ _ _ 1024 (index_facts t).1.1
    | ⟨1, _⟩ => off _ _ _ (index_facts t).1.2))

theorem blk1 (c : Dev nD) (t : Fin cfg0.N) (j : Fin 1024) :
    (iblk m c 1 t : S1x1x1024.Idx → EReal) (ix3 0 0 j) = arr1 m c (ix2 (layer t) j) := by
  rw [← v1_at]
  have hx := (index_facts t).2.1
  refine congrArg (V m c main_v1 : S4x1x1024.Idx → EReal) (funext fun a => Fin.ext ?_)
  match a with
  | ⟨0, _⟩ => show win0_1.index t 0 * 1 + 1 * 0 = t.val / 2; rw [hx.1]; omega
  | ⟨1, _⟩ => exact off _ _ _ hx.2.1
  | ⟨2, _⟩ => exact off _ _ _ hx.2.2

theorem blk2 (c : Dev nD) (t : Fin cfg0.N) (i : Fin 1024) (j : Fin 1024) :
    (iblk m c 2 t : S1x1024x1024.Idx → EReal) (ix3 0 i j) = arr2 m c (ix3 (layer t) i j) := by
  have hx := (index_facts t).2.2.1
  refine (congrArg (V m c main_arg2 : S4x1024x1024.Idx → EReal) (funext fun a => Fin.ext ?_)).trans
    (congrFun (V_main_arg2 m c) _)
  match a with
  | ⟨0, _⟩ => show win0_2.index t 0 * 1 + 1 * 0 = t.val / 2; rw [hx.1]; omega
  | ⟨1, _⟩ => exact off _ _ _ hx.2.1
  | ⟨2, _⟩ => exact off _ _ _ hx.2.2

theorem blk3 (c : Dev nD) (t : Fin cfg0.N) (j : Fin 128) :
    (iblk m c 3 t : S1x1x128.Idx → EReal) (ix3 0 0 j) = arr3 m c (ix2 (layer t) j) := by
  rw [← v2_at]
  have hx := (index_facts t).2.2.2.1
  refine congrArg (V m c main_v2 : S4x1x128.Idx → EReal) (funext fun a => Fin.ext ?_)
  match a with
  | ⟨0, _⟩ => show win0_3.index t 0 * 1 + 1 * 0 = t.val / 2; rw [hx.1]; omega
  | ⟨1, _⟩ => exact off _ _ _ hx.2.1
  | ⟨2, _⟩ => exact off _ _ _ hx.2.2

theorem blk4 (c : Dev nD) (t : Fin cfg0.N) (i : Fin 192) (j : Fin 1024) :
    (iblk m c 4 t : S1x192x1024.Idx → EReal) (ix3 0 i j)
      = arr4 m c (ix3 0 ⟨192 * t.val + i.val, by have := lt8 t; omega⟩ j) := by
  have hx := (index_4 t).1
  refine (congrArg (V m c main_arg4 : S4x5128x1024.Idx → EReal) (funext fun a => Fin.ext ?_)).trans
    (congrFun (V_main_arg4 m c) _)
  match a with
  | ⟨0, _⟩ => show win0_4.index t 0 + 1 * 0 = 0; rw [hx.1]
  | ⟨1, _⟩ => show win0_4.index t 1 + 1 * i.val = 192 * t.val + i.val; rw [hx.2.1]; omega
  | ⟨2, _⟩ => show win0_4.index t 2 + 1 * j.val = j.val; rw [hx.2.2]; omega

theorem blk5 (c : Dev nD) (t : Fin cfg0.N) (i : Fin 448) (j : Fin 1024) :
    (iblk m c 5 t : S1x448x1024.Idx → EReal) (ix3 0 i j)
      = arr4 m c (ix3 0 ⟨1544 + (448 * t.val + i.val), by have := lt8 t; omega⟩ j) := by
  have hx := (index_5 t).1
  refine (congrArg (V m c main_arg4 : S4x5128x1024.Idx → EReal) (funext fun a => Fin.ext ?_)).trans
    (congrFun (V_main_arg4 m c) _)
  match a with
  | ⟨0, _⟩ => show win0_5.index t 0 + 1 * 0 = 0; rw [hx.1]
  | ⟨1, _⟩ => show win0_5.index t 1 + 1 * i.val = 1544 + (448 * t.val + i.val); rw [hx.2.1]; omega
  | ⟨2, _⟩ => show win0_5.index t 2 + 1 * j.val = j.val; rw [hx.2.2]; omega

theorem blk6 (c : Dev nD) (t : Fin cfg0.N) (i : Fin 64) (j : Fin 1024) :
    (iblk m c 6 t : S1x64x1024.Idx → EReal) (ix3 0 i j)
      = arr5 m c (ix3 0 ⟨64 * t.val + i.val, by have := lt8 t; omega⟩ j) := by
  have hx := (index_6 t).1
  refine (congrArg (V m c main_arg5 : S4x512x1024.Idx → EReal) (funext fun a => Fin.ext ?_)).trans
    (congrFun (V_main_arg5 m c) _)
  match a with
  | ⟨0, _⟩ => show win0_6.index t 0 + 1 * 0 = 0; rw [hx.1]
  | ⟨1, _⟩ => show win0_6.index t 1 + 1 * i.val = 64 * t.val + i.val; rw [hx.2.1]; omega
  | ⟨2, _⟩ => show win0_6.index t 2 + 1 * j.val = j.val; rw [hx.2.2]; omega

theorem blk7 (c : Dev nD) (t : Fin cfg0.N) (i : Fin 64) (j : Fin 1024) :
    (iblk m c 7 t : S1x64x1024.Idx → EReal) (ix3 0 i j)
      = arr6 m c (ix3 0 ⟨64 * t.val + i.val, by have := lt8 t; omega⟩ j) := by
  have hx := (index_7 t).1
  refine (congrArg (V m c main_arg6 : S4x512x1024.Idx → EReal) (funext fun a => Fin.ext ?_)).trans
    (congrFun (V_main_arg6 m c) _)
  match a with
  | ⟨0, _⟩ => show win0_7.index t 0 + 1 * 0 = 0; rw [hx.1]
  | ⟨1, _⟩ => show win0_7.index t 1 + 1 * i.val = 64 * t.val + i.val; rw [hx.2.1]; omega
  | ⟨2, _⟩ => show win0_7.index t 2 + 1 * j.val = j.val; rw [hx.2.2]; omega

theorem blk8 (c : Dev nD) (t : Fin cfg0.N) (i : Fin 128) (j : Fin 1024) :
    (iblk m c 8 t : S1x128x1024.Idx → EReal) (ix3 0 i j)
      = arr7 m c (ix3 0 ⟨128 * t.val + i.val, by have := lt8 t; omega⟩ j) := by
  have hx := (index_8 t).1
  refine (congrArg (V m c main_arg7 : S4x1024x1024.Idx → EReal) (funext fun a => Fin.ext ?_)).trans
    (congrFun (V_main_arg7 m c) _)
  match a with
  | ⟨0, _⟩ => show win0_8.index t 0 + 1 * 0 = 0; rw [hx.1]
  | ⟨1, _⟩ => show win0_8.index t 1 + 1 * i.val = 128 * t.val + i.val; rw [hx.2.1]; omega
  | ⟨2, _⟩ => show win0_8.index t 2 + 1 * j.val = j.val; rw [hx.2.2]; omega

theorem blk9 (c : Dev nD) (t : Fin cfg0.N) (i : Fin 128) (j : Fin 512) :
    (iblk m c 9 t : S1x128x512.Idx → EReal) (ix3 0 i j)
      = arr8 m c (ix3 0 ⟨128 * t.val + i.val, by have := lt8 t; omega⟩ j) := by
  have hx := (index_9 t).1
  refine (congrArg (V m c main_arg8 : S4x1024x512.Idx → EReal) (funext fun a => Fin.ext ?_)).trans
    (congrFun (V_main_arg8 m c) _)
  match a with
  | ⟨0, _⟩ => show win0_9.index t 0 + 1 * 0 = 0; rw [hx.1]
  | ⟨1, _⟩ => show win0_9.index t 1 + 1 * i.val = 128 * t.val + i.val; rw [hx.2.1]; omega
  | ⟨2, _⟩ => show win0_9.index t 2 + 1 * j.val = j.val; rw [hx.2.2]; omega

theorem blk10 (c : Dev nD) (t : Fin cfg0.N) (i : Fin 64) (j : Fin 1024) :
    (iblk m c 10 t : S1x64x1024.Idx → EReal) (ix3 0 i j)
      = arr9 m c (ix3 0 ⟨64 * t.val + i.val, by have := lt8 t; omega⟩ j) := by
  have hx := (index_10 t).1
  refine (congrArg (V m c main_arg9 : S4x512x1024.Idx → EReal) (funext fun a => Fin.ext ?_)).trans
    (congrFun (V_main_arg9 m c) _)
  match a with
  | ⟨0, _⟩ => show win0_10.index t 0 + 1 * 0 = 0; rw [hx.1]
  | ⟨1, _⟩ => show win0_10.index t 1 + 1 * i.val = 64 * t.val + i.val; rw [hx.2.1]; omega
  | ⟨2, _⟩ => show win0_10.index t 2 + 1 * j.val = j.val; rw [hx.2.2]; omega

/-! ## The results -/

/-- A token's row against the weights of a layer. -/
abbrev tokenRow (x0 : S8x256x1024.Idx → EReal) (x1 : S4x1024.Idx → EReal) (x2 : S4x1024x1024.Idx → EReal) (l : Fin 4)
    (n : Fin 2048) : Fin 1024 → EReal :=
  project (token x0 n) (fun k => x1 (ix2 l k)) (fun k c => x2 (ix3 l k c))

/-- The keys in every layer. -/
def res11 (c : Dev nD) : S4x2048x512.Idx → EReal :=
  fun i => keys (tokenRow (arr0 m c) (arr1 m c) (arr2 m c) (i 0) (i 1)) (fun d => arr3 m c (ix2 (i 0) d)) (i 2)

/-- The values in every layer. -/
def res12 (c : Dev nD) : S4x2048x512.Idx → EReal :=
  fun i => values (tokenRow (arr0 m c) (arr1 m c) (arr2 m c) (i 0) (i 1)) (i 2)

def res13 (c : Dev nD) : S1536x1024.Idx → EReal :=
  fun i => arr4 m c (ix3 0 ⟨(i 0).val, by have : (i 0).val < 1536 := (i 0).isLt; omega⟩ (i 1))

def res14 (c : Dev nD) : S3584x1024.Idx → EReal :=
  fun i => arr4 m c (ix3 0 ⟨1544 + (i 0).val, by have : (i 0).val < 3584 := (i 0).isLt; omega⟩ (i 1))

def res15 (c : Dev nD) : S512x1024.Idx → EReal :=
  fun i => arr5 m c (ix3 0 ⟨(i 0).val, by have : (i 0).val < 512 := (i 0).isLt; omega⟩ (i 1))

def res16 (c : Dev nD) : S512x1024.Idx → EReal :=
  fun i => arr6 m c (ix3 0 ⟨(i 0).val, by have : (i 0).val < 512 := (i 0).isLt; omega⟩ (i 1))

def res17 (c : Dev nD) : S1024x1024.Idx → EReal :=
  fun i => arr7 m c (ix3 0 ⟨(i 0).val, by have : (i 0).val < 1024 := (i 0).isLt; omega⟩ (i 1))

def res18 (c : Dev nD) : S1024x512.Idx → EReal :=
  fun i => arr8 m c (ix3 0 ⟨(i 0).val, by have : (i 0).val < 1024 := (i 0).isLt; omega⟩ (i 1))

def res19 (c : Dev nD) : S512x1024.Idx → EReal :=
  fun i => arr9 m c (ix3 0 ⟨(i 0).val, by have : (i 0).val < 512 := (i 0).isLt; omega⟩ (i 1))

theorem row_eq (c : Dev nD) (t : Fin cfg0.N) (r : Fin 1024) :
    blockRow (iblk m c 0 t) (iblk m c 1 t) (iblk m c 2 t) r
      = tokenRow (arr0 m c) (arr1 m c) (arr2 m c) (layer t) (place t r) := by
  unfold blockRow
  simp only [blk0, blk1, blk2]

theorem gain_eq (c : Dev nD) (t : Fin cfg0.N) :
    (fun d => (iblk m c 3 t : S1x1x128.Idx → EReal) (ix3 0 0 d)) = fun d => arr3 m c (ix2 (layer t) d) :=
  funext fun d => blk3 m c t d

/-! ## What is written back -/

theorem emb11 (t : Fin cfg0.N) (r : Fin 1024) (k : Fin 512) : ((cfg0.win 11).blk t).view.emb (ix3 0 r k)
    = ix3 (n0 := 4) (n1 := 2048) (n2 := 512) (layer t) (place t r) k := by
  have hx := (index_facts t).2.2.2.2.1
  refine funext fun a => Fin.ext ?_
  match a with
  | ⟨0, _⟩ => show win0_11.index t 0 * 1 + 1 * 0 = t.val / 2; rw [hx.1]; omega
  | ⟨1, _⟩ => exact row_off _ _ _ 1024 hx.2.1
  | ⟨2, _⟩ => exact off _ _ _ hx.2.2

theorem mem_blk11 (t : Fin cfg0.N) (i : S4x2048x512.Idx) :
    i ∈ ((cfg0.win 11).blk t).view.set ↔ (i 0).val = t.val / 2 ∧ (i 1).val / 1024 = t.val % 2 := by
  have hx := (index_facts t).2.2.2.2.1
  have hi : (i 2).val < 512 := (i 2).isLt
  show i ∈ ((View.whole main_v3_0).slice (win0_11.rect t)).set ↔ _
  rw [View.set_slice_whole, Rect.mem_set_unit]
  constructor
  · intro h
    have h0 : win0_11.index t 0 * 1 ≤ (i 0).val ∧ (i 0).val < win0_11.index t 0 * 1 + 1 := h 0
    have h1 : win0_11.index t 1 * 1024 ≤ (i 1).val ∧ (i 1).val < win0_11.index t 1 * 1024 + 1024 := h 1
    rw [hx.1] at h0
    rw [hx.2.1] at h1
    omega
  · intro h a
    match a with
    | ⟨0, _⟩ => show win0_11.index t 0 * 1 ≤ (i 0).val ∧ (i 0).val < win0_11.index t 0 * 1 + 1; rw [hx.1]; omega
    | ⟨1, _⟩ => show win0_11.index t 1 * 1024 ≤ (i 1).val ∧ (i 1).val < win0_11.index t 1 * 1024 + 1024; rw [hx.2.1]; omega
    | ⟨2, _⟩ => show win0_11.index t 2 * 512 ≤ (i 2).val ∧ (i 2).val < win0_11.index t 2 * 512 + 512; rw [hx.2.2]; omega

theorem flushed11 (c : Dev nD) (t : Fin cfg0.N) (hf : (cfg0.win 11).flush t = true) :
    (dats m 0 c).flushed 11 t = ((cfg0.win 11).blk t).view.read (Elt Ideal) (res11 m c) := by
  rw [Value.flushed11 m c t]
  funext x
  obtain ⟨a, r, k, rfl⟩ : ∃ a r k, x = ix3 (n0 := 1) (n1 := 1024) (n2 := 512) a r k := ⟨x 0, x 1, x 2, eq_ix3 x⟩
  obtain rfl : a = 0 := Subsingleton.elim _ _
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r k)
    = res11 m c (((cfg0.win 11).blk t).view.emb (ix3 0 r k))
  rw [emb11, out_11]
  show keys (blockRow (iblk m c 0 t) (iblk m c 1 t) (iblk m c 2 t) r)
    (fun d => (iblk m c 3 t : S1x1x128.Idx → EReal) (ix3 0 0 d)) k = _
  rw [row_eq, gain_eq]
  rfl

theorem final11 (c : Dev nD) : (dats m 0 c).arrAt 11 cfg0.N = res11 m c :=
  (dats m 0 c).arrAt_eq_of_cover 11 (res11 m c) (flushed11 m c) fun i => by
    have h0 : (i 0).val < 4 := (i 0).isLt
    have h1 : (i 1).val < 2048 := (i 1).isLt
    refine ⟨⟨2 * (i 0).val + (i 1).val / 1024, by rw [show cfg0.N = 8 from N_0]; omega⟩, flush0_11 _, ?_⟩
    rw [mem_blk11]
    constructor <;> dsimp only <;> omega

theorem emb12 (t : Fin cfg0.N) (r : Fin 1024) (k : Fin 512) : ((cfg0.win 12).blk t).view.emb (ix3 0 r k)
    = ix3 (n0 := 4) (n1 := 2048) (n2 := 512) (layer t) (place t r) k := by
  have hx := (index_facts t).2.2.2.2.2
  refine funext fun a => Fin.ext ?_
  match a with
  | ⟨0, _⟩ => show win0_12.index t 0 * 1 + 1 * 0 = t.val / 2; rw [hx.1]; omega
  | ⟨1, _⟩ => exact row_off _ _ _ 1024 hx.2.1
  | ⟨2, _⟩ => exact off _ _ _ hx.2.2

theorem mem_blk12 (t : Fin cfg0.N) (i : S4x2048x512.Idx) :
    i ∈ ((cfg0.win 12).blk t).view.set ↔ (i 0).val = t.val / 2 ∧ (i 1).val / 1024 = t.val % 2 := by
  have hx := (index_facts t).2.2.2.2.2
  have hi : (i 2).val < 512 := (i 2).isLt
  show i ∈ ((View.whole main_v3_1).slice (win0_12.rect t)).set ↔ _
  rw [View.set_slice_whole, Rect.mem_set_unit]
  constructor
  · intro h
    have h0 : win0_12.index t 0 * 1 ≤ (i 0).val ∧ (i 0).val < win0_12.index t 0 * 1 + 1 := h 0
    have h1 : win0_12.index t 1 * 1024 ≤ (i 1).val ∧ (i 1).val < win0_12.index t 1 * 1024 + 1024 := h 1
    rw [hx.1] at h0
    rw [hx.2.1] at h1
    omega
  · intro h a
    match a with
    | ⟨0, _⟩ => show win0_12.index t 0 * 1 ≤ (i 0).val ∧ (i 0).val < win0_12.index t 0 * 1 + 1; rw [hx.1]; omega
    | ⟨1, _⟩ => show win0_12.index t 1 * 1024 ≤ (i 1).val ∧ (i 1).val < win0_12.index t 1 * 1024 + 1024; rw [hx.2.1]; omega
    | ⟨2, _⟩ => show win0_12.index t 2 * 512 ≤ (i 2).val ∧ (i 2).val < win0_12.index t 2 * 512 + 512; rw [hx.2.2]; omega

theorem flushed12 (c : Dev nD) (t : Fin cfg0.N) (hf : (cfg0.win 12).flush t = true) :
    (dats m 0 c).flushed 12 t = ((cfg0.win 12).blk t).view.read (Elt Ideal) (res12 m c) := by
  rw [Value.flushed12 m c t]
  funext x
  obtain ⟨a, r, k, rfl⟩ : ∃ a r k, x = ix3 (n0 := 1) (n1 := 1024) (n2 := 512) a r k := ⟨x 0, x 1, x 2, eq_ix3 x⟩
  obtain rfl : a = 0 := Subsingleton.elim _ _
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r k)
    = res12 m c (((cfg0.win 12).blk t).view.emb (ix3 0 r k))
  rw [emb12, out_12]
  rw [row_eq]
  rfl

theorem final12 (c : Dev nD) : (dats m 0 c).arrAt 12 cfg0.N = res12 m c :=
  (dats m 0 c).arrAt_eq_of_cover 12 (res12 m c) (flushed12 m c) fun i => by
    have h0 : (i 0).val < 4 := (i 0).isLt
    have h1 : (i 1).val < 2048 := (i 1).isLt
    refine ⟨⟨2 * (i 0).val + (i 1).val / 1024, by rw [show cfg0.N = 8 from N_0]; omega⟩, flush0_12 _, ?_⟩
    rw [mem_blk12]
    constructor <;> dsimp only <;> omega

theorem emb13 (t : Fin cfg0.N) (r : Fin 192) (k : Fin 1024) : ((cfg0.win 13).blk t).view.emb (ix2 r k)
    = ix2 (n0 := 1536) (n1 := 1024) ⟨192 * t.val + r.val, by have := lt8 t; omega⟩ k :=
  funext fun a => Fin.ext (match a with
    | ⟨0, _⟩ => row_off _ _ _ 192 (index_4 t).2.1
    | ⟨1, _⟩ => off _ _ _ (index_4 t).2.2)

theorem mem_blk13 (t : Fin cfg0.N) (i : S1536x1024.Idx) :
    i ∈ ((cfg0.win 13).blk t).view.set ↔ (i 0).val / 192 = t.val := by
  have hx := (index_4 t).2
  have hi : (i 1).val < 1024 := (i 1).isLt
  show i ∈ ((View.whole main_v3_2).slice (win0_13.rect t)).set ↔ _
  rw [View.set_slice_whole, Rect.mem_set_unit]
  constructor
  · intro h
    have h0 : win0_13.index t 0 * 192 ≤ (i 0).val ∧ (i 0).val < win0_13.index t 0 * 192 + 192 := h 0
    rw [hx.1] at h0
    omega
  · intro h a
    match a with
    | ⟨0, _⟩ => show win0_13.index t 0 * 192 ≤ (i 0).val ∧ (i 0).val < win0_13.index t 0 * 192 + 192; rw [hx.1]; omega
    | ⟨1, _⟩ => show win0_13.index t 1 * 1024 ≤ (i 1).val ∧ (i 1).val < win0_13.index t 1 * 1024 + 1024; rw [hx.2]; omega

theorem flushed13 (c : Dev nD) (t : Fin cfg0.N) (hf : (cfg0.win 13).flush t = true) :
    (dats m 0 c).flushed 13 t = ((cfg0.win 13).blk t).view.read (Elt Ideal) (res13 m c) := by
  rw [Value.flushed13 m c t]
  funext x
  obtain ⟨r, k, rfl⟩ : ∃ r k, x = ix2 (n0 := 192) (n1 := 1024) r k := ⟨x 0, x 1, eq_ix2 x⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
    = res13 m c (((cfg0.win 13).blk t).view.emb (ix2 r k))
  rw [emb13, out_13]
  exact blk4 m c t r k

theorem final13 (c : Dev nD) : (dats m 0 c).arrAt 13 cfg0.N = res13 m c :=
  (dats m 0 c).arrAt_eq_of_cover 13 (res13 m c) (flushed13 m c) fun i => by
    have h0 : (i 0).val < 1536 := (i 0).isLt
    refine ⟨⟨(i 0).val / 192, by rw [show cfg0.N = 8 from N_0]; omega⟩, flush0_13 _, ?_⟩
    rw [mem_blk13]

theorem emb14 (t : Fin cfg0.N) (r : Fin 448) (k : Fin 1024) : ((cfg0.win 14).blk t).view.emb (ix2 r k)
    = ix2 (n0 := 3584) (n1 := 1024) ⟨448 * t.val + r.val, by have := lt8 t; omega⟩ k :=
  funext fun a => Fin.ext (match a with
    | ⟨0, _⟩ => row_off _ _ _ 448 (index_5 t).2.1
    | ⟨1, _⟩ => off _ _ _ (index_5 t).2.2)

theorem mem_blk14 (t : Fin cfg0.N) (i : S3584x1024.Idx) :
    i ∈ ((cfg0.win 14).blk t).view.set ↔ (i 0).val / 448 = t.val := by
  have hx := (index_5 t).2
  have hi : (i 1).val < 1024 := (i 1).isLt
  show i ∈ ((View.whole main_v3_3).slice (win0_14.rect t)).set ↔ _
  rw [View.set_slice_whole, Rect.mem_set_unit]
  constructor
  · intro h
    have h0 : win0_14.index t 0 * 448 ≤ (i 0).val ∧ (i 0).val < win0_14.index t 0 * 448 + 448 := h 0
    rw [hx.1] at h0
    omega
  · intro h a
    match a with
    | ⟨0, _⟩ => show win0_14.index t 0 * 448 ≤ (i 0).val ∧ (i 0).val < win0_14.index t 0 * 448 + 448; rw [hx.1]; omega
    | ⟨1, _⟩ => show win0_14.index t 1 * 1024 ≤ (i 1).val ∧ (i 1).val < win0_14.index t 1 * 1024 + 1024; rw [hx.2]; omega

theorem flushed14 (c : Dev nD) (t : Fin cfg0.N) (hf : (cfg0.win 14).flush t = true) :
    (dats m 0 c).flushed 14 t = ((cfg0.win 14).blk t).view.read (Elt Ideal) (res14 m c) := by
  rw [Value.flushed14 m c t]
  funext x
  obtain ⟨r, k, rfl⟩ : ∃ r k, x = ix2 (n0 := 448) (n1 := 1024) r k := ⟨x 0, x 1, eq_ix2 x⟩
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
    = res14 m c (((cfg0.win 14).blk t).view.emb (ix2 r k))
  rw [emb14, out_14]
  exact blk5 m c t r k

theorem final14 (c : Dev nD) : (dats m 0 c).arrAt 14 cfg0.N = res14 m c :=
  (dats m 0 c).arrAt_eq_of_cover 14 (res14 m c) (flushed14 m c) fun i => by
    have h0 : (i 0).val < 3584 := (i 0).isLt
    refine ⟨⟨(i 0).val / 448, by rw [show cfg0.N = 8 from N_0]; omega⟩, flush0_14 _, ?_⟩
    rw [mem_blk14]

theorem emb15 (t : Fin cfg0.N) (r : Fin 64) (k : Fin 1024) : ((cfg0.win 15).blk t).view.emb (ix2 r k)
    = ix2 (n0 := 512) (n1 := 1024) ⟨64 * t.val + r.val, by have := lt8 t; omega⟩ k :=
  funext fun a => Fin.ext (match a with
    | ⟨0, _⟩ => row_off _ _ _ 64 (index_6 t).2.1
    | ⟨1, _⟩ => off _ _ _ (index_6 t).2.2)

theorem mem_blk15 (t : Fin cfg0.N) (i : S512x1024.Idx) :
    i ∈ ((cfg0.win 15).blk t).view.set ↔ (i 0).val / 64 = t.val := by
  have hx := (index_6 t).2
  have hi : (i 1).val < 1024 := (i 1).isLt
  show i ∈ ((View.whole main_v3_4).slice (win0_15.rect t)).set ↔ _
  rw [View.set_slice_whole, Rect.mem_set_unit]
  constructor
  · intro h
    have h0 : win0_15.index t 0 * 64 ≤ (i 0).val ∧ (i 0).val < win0_15.index t 0 * 64 + 64 := h 0
    rw [hx.1] at h0
    omega
  · intro h a
    match a with
    | ⟨0, _⟩ => show win0_15.index t 0 * 64 ≤ (i 0).val ∧ (i 0).val < win0_15.index t 0 * 64 + 64; rw [hx.1]; omega
    | ⟨1, _⟩ => show win0_15.index t 1 * 1024 ≤ (i 1).val ∧ (i 1).val < win0_15.index t 1 * 1024 + 1024; rw [hx.2]; omega

theorem flushed15 (c : Dev nD) (t : Fin cfg0.N) (hf : (cfg0.win 15).flush t = true) :
    (dats m 0 c).flushed 15 t = ((cfg0.win 15).blk t).view.read (Elt Ideal) (res15 m c) := by
  rw [Value.flushed15 m c t]
  funext x
  obtain ⟨r, k, rfl⟩ : ∃ r k, x = ix2 (n0 := 64) (n1 := 1024) r k := ⟨x 0, x 1, eq_ix2 x⟩
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
    = res15 m c (((cfg0.win 15).blk t).view.emb (ix2 r k))
  rw [emb15, out_15]
  exact blk6 m c t r k

theorem final15 (c : Dev nD) : (dats m 0 c).arrAt 15 cfg0.N = res15 m c :=
  (dats m 0 c).arrAt_eq_of_cover 15 (res15 m c) (flushed15 m c) fun i => by
    have h0 : (i 0).val < 512 := (i 0).isLt
    refine ⟨⟨(i 0).val / 64, by rw [show cfg0.N = 8 from N_0]; omega⟩, flush0_15 _, ?_⟩
    rw [mem_blk15]

theorem emb16 (t : Fin cfg0.N) (r : Fin 64) (k : Fin 1024) : ((cfg0.win 16).blk t).view.emb (ix2 r k)
    = ix2 (n0 := 512) (n1 := 1024) ⟨64 * t.val + r.val, by have := lt8 t; omega⟩ k :=
  funext fun a => Fin.ext (match a with
    | ⟨0, _⟩ => row_off _ _ _ 64 (index_7 t).2.1
    | ⟨1, _⟩ => off _ _ _ (index_7 t).2.2)

theorem mem_blk16 (t : Fin cfg0.N) (i : S512x1024.Idx) :
    i ∈ ((cfg0.win 16).blk t).view.set ↔ (i 0).val / 64 = t.val := by
  have hx := (index_7 t).2
  have hi : (i 1).val < 1024 := (i 1).isLt
  show i ∈ ((View.whole main_v3_5).slice (win0_16.rect t)).set ↔ _
  rw [View.set_slice_whole, Rect.mem_set_unit]
  constructor
  · intro h
    have h0 : win0_16.index t 0 * 64 ≤ (i 0).val ∧ (i 0).val < win0_16.index t 0 * 64 + 64 := h 0
    rw [hx.1] at h0
    omega
  · intro h a
    match a with
    | ⟨0, _⟩ => show win0_16.index t 0 * 64 ≤ (i 0).val ∧ (i 0).val < win0_16.index t 0 * 64 + 64; rw [hx.1]; omega
    | ⟨1, _⟩ => show win0_16.index t 1 * 1024 ≤ (i 1).val ∧ (i 1).val < win0_16.index t 1 * 1024 + 1024; rw [hx.2]; omega

theorem flushed16 (c : Dev nD) (t : Fin cfg0.N) (hf : (cfg0.win 16).flush t = true) :
    (dats m 0 c).flushed 16 t = ((cfg0.win 16).blk t).view.read (Elt Ideal) (res16 m c) := by
  rw [Value.flushed16 m c t]
  funext x
  obtain ⟨r, k, rfl⟩ : ∃ r k, x = ix2 (n0 := 64) (n1 := 1024) r k := ⟨x 0, x 1, eq_ix2 x⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
    = res16 m c (((cfg0.win 16).blk t).view.emb (ix2 r k))
  rw [emb16, out_16]
  exact blk7 m c t r k

theorem final16 (c : Dev nD) : (dats m 0 c).arrAt 16 cfg0.N = res16 m c :=
  (dats m 0 c).arrAt_eq_of_cover 16 (res16 m c) (flushed16 m c) fun i => by
    have h0 : (i 0).val < 512 := (i 0).isLt
    refine ⟨⟨(i 0).val / 64, by rw [show cfg0.N = 8 from N_0]; omega⟩, flush0_16 _, ?_⟩
    rw [mem_blk16]

theorem emb17 (t : Fin cfg0.N) (r : Fin 128) (k : Fin 1024) : ((cfg0.win 17).blk t).view.emb (ix2 r k)
    = ix2 (n0 := 1024) (n1 := 1024) ⟨128 * t.val + r.val, by have := lt8 t; omega⟩ k :=
  funext fun a => Fin.ext (match a with
    | ⟨0, _⟩ => row_off _ _ _ 128 (index_8 t).2.1
    | ⟨1, _⟩ => off _ _ _ (index_8 t).2.2)

theorem mem_blk17 (t : Fin cfg0.N) (i : S1024x1024.Idx) :
    i ∈ ((cfg0.win 17).blk t).view.set ↔ (i 0).val / 128 = t.val := by
  have hx := (index_8 t).2
  have hi : (i 1).val < 1024 := (i 1).isLt
  show i ∈ ((View.whole main_v3_6).slice (win0_17.rect t)).set ↔ _
  rw [View.set_slice_whole, Rect.mem_set_unit]
  constructor
  · intro h
    have h0 : win0_17.index t 0 * 128 ≤ (i 0).val ∧ (i 0).val < win0_17.index t 0 * 128 + 128 := h 0
    rw [hx.1] at h0
    omega
  · intro h a
    match a with
    | ⟨0, _⟩ => show win0_17.index t 0 * 128 ≤ (i 0).val ∧ (i 0).val < win0_17.index t 0 * 128 + 128; rw [hx.1]; omega
    | ⟨1, _⟩ => show win0_17.index t 1 * 1024 ≤ (i 1).val ∧ (i 1).val < win0_17.index t 1 * 1024 + 1024; rw [hx.2]; omega

theorem flushed17 (c : Dev nD) (t : Fin cfg0.N) (hf : (cfg0.win 17).flush t = true) :
    (dats m 0 c).flushed 17 t = ((cfg0.win 17).blk t).view.read (Elt Ideal) (res17 m c) := by
  rw [Value.flushed17 m c t]
  funext x
  obtain ⟨r, k, rfl⟩ : ∃ r k, x = ix2 (n0 := 128) (n1 := 1024) r k := ⟨x 0, x 1, eq_ix2 x⟩
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
    = res17 m c (((cfg0.win 17).blk t).view.emb (ix2 r k))
  rw [emb17, out_17]
  exact blk8 m c t r k

theorem final17 (c : Dev nD) : (dats m 0 c).arrAt 17 cfg0.N = res17 m c :=
  (dats m 0 c).arrAt_eq_of_cover 17 (res17 m c) (flushed17 m c) fun i => by
    have h0 : (i 0).val < 1024 := (i 0).isLt
    refine ⟨⟨(i 0).val / 128, by rw [show cfg0.N = 8 from N_0]; omega⟩, flush0_17 _, ?_⟩
    rw [mem_blk17]

theorem emb18 (t : Fin cfg0.N) (r : Fin 128) (k : Fin 512) : ((cfg0.win 18).blk t).view.emb (ix2 r k)
    = ix2 (n0 := 1024) (n1 := 512) ⟨128 * t.val + r.val, by have := lt8 t; omega⟩ k :=
  funext fun a => Fin.ext (match a with
    | ⟨0, _⟩ => row_off _ _ _ 128 (index_9 t).2.1
    | ⟨1, _⟩ => off _ _ _ (index_9 t).2.2)

theorem mem_blk18 (t : Fin cfg0.N) (i : S1024x512.Idx) :
    i ∈ ((cfg0.win 18).blk t).view.set ↔ (i 0).val / 128 = t.val := by
  have hx := (index_9 t).2
  have hi : (i 1).val < 512 := (i 1).isLt
  show i ∈ ((View.whole main_v3_7).slice (win0_18.rect t)).set ↔ _
  rw [View.set_slice_whole, Rect.mem_set_unit]
  constructor
  · intro h
    have h0 : win0_18.index t 0 * 128 ≤ (i 0).val ∧ (i 0).val < win0_18.index t 0 * 128 + 128 := h 0
    rw [hx.1] at h0
    omega
  · intro h a
    match a with
    | ⟨0, _⟩ => show win0_18.index t 0 * 128 ≤ (i 0).val ∧ (i 0).val < win0_18.index t 0 * 128 + 128; rw [hx.1]; omega
    | ⟨1, _⟩ => show win0_18.index t 1 * 512 ≤ (i 1).val ∧ (i 1).val < win0_18.index t 1 * 512 + 512; rw [hx.2]; omega

theorem flushed18 (c : Dev nD) (t : Fin cfg0.N) (hf : (cfg0.win 18).flush t = true) :
    (dats m 0 c).flushed 18 t = ((cfg0.win 18).blk t).view.read (Elt Ideal) (res18 m c) := by
  rw [Value.flushed18 m c t]
  funext x
  obtain ⟨r, k, rfl⟩ : ∃ r k, x = ix2 (n0 := 128) (n1 := 512) r k := ⟨x 0, x 1, eq_ix2 x⟩
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
    = res18 m c (((cfg0.win 18).blk t).view.emb (ix2 r k))
  rw [emb18, out_18]
  exact blk9 m c t r k

theorem final18 (c : Dev nD) : (dats m 0 c).arrAt 18 cfg0.N = res18 m c :=
  (dats m 0 c).arrAt_eq_of_cover 18 (res18 m c) (flushed18 m c) fun i => by
    have h0 : (i 0).val < 1024 := (i 0).isLt
    refine ⟨⟨(i 0).val / 128, by rw [show cfg0.N = 8 from N_0]; omega⟩, flush0_18 _, ?_⟩
    rw [mem_blk18]

theorem emb19 (t : Fin cfg0.N) (r : Fin 64) (k : Fin 1024) : ((cfg0.win 19).blk t).view.emb (ix2 r k)
    = ix2 (n0 := 512) (n1 := 1024) ⟨64 * t.val + r.val, by have := lt8 t; omega⟩ k :=
  funext fun a => Fin.ext (match a with
    | ⟨0, _⟩ => row_off _ _ _ 64 (index_10 t).2.1
    | ⟨1, _⟩ => off _ _ _ (index_10 t).2.2)

theorem mem_blk19 (t : Fin cfg0.N) (i : S512x1024.Idx) :
    i ∈ ((cfg0.win 19).blk t).view.set ↔ (i 0).val / 64 = t.val := by
  have hx := (index_10 t).2
  have hi : (i 1).val < 1024 := (i 1).isLt
  show i ∈ ((View.whole main_v3_8).slice (win0_19.rect t)).set ↔ _
  rw [View.set_slice_whole, Rect.mem_set_unit]
  constructor
  · intro h
    have h0 : win0_19.index t 0 * 64 ≤ (i 0).val ∧ (i 0).val < win0_19.index t 0 * 64 + 64 := h 0
    rw [hx.1] at h0
    omega
  · intro h a
    match a with
    | ⟨0, _⟩ => show win0_19.index t 0 * 64 ≤ (i 0).val ∧ (i 0).val < win0_19.index t 0 * 64 + 64; rw [hx.1]; omega
    | ⟨1, _⟩ => show win0_19.index t 1 * 1024 ≤ (i 1).val ∧ (i 1).val < win0_19.index t 1 * 1024 + 1024; rw [hx.2]; omega

theorem flushed19 (c : Dev nD) (t : Fin cfg0.N) (hf : (cfg0.win 19).flush t = true) :
    (dats m 0 c).flushed 19 t = ((cfg0.win 19).blk t).view.read (Elt Ideal) (res19 m c) := by
  rw [Value.flushed19 m c t]
  funext x
  obtain ⟨r, k, rfl⟩ : ∃ r k, x = ix2 (n0 := 64) (n1 := 1024) r k := ⟨x 0, x 1, eq_ix2 x⟩
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
    = res19 m c (((cfg0.win 19).blk t).view.emb (ix2 r k))
  rw [emb19, out_19]
  exact blk10 m c t r k

theorem final19 (c : Dev nD) : (dats m 0 c).arrAt 19 cfg0.N = res19 m c :=
  (dats m 0 c).arrAt_eq_of_cover 19 (res19 m c) (flushed19 m c) fun i => by
    have h0 : (i 0).val < 512 := (i 0).isLt
    refine ⟨⟨(i 0).val / 64, by rw [show cfg0.N = 8 from N_0]; omega⟩, flush0_19 _, ?_⟩
    rw [mem_blk19]

/-- The kernel's run: the nine results, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v3_0) = res11 m c
      ∧ r.2.mem ((c : Thread nD τ).loc main_v3_1) = res12 m c
      ∧ r.2.mem ((c : Thread nD τ).loc main_v3_2) = res13 m c
      ∧ r.2.mem ((c : Thread nD τ).loc main_v3_3) = res14 m c
      ∧ r.2.mem ((c : Thread nD τ).loc main_v3_4) = res15 m c
      ∧ r.2.mem ((c : Thread nD τ).loc main_v3_5) = res16 m c
      ∧ r.2.mem ((c : Thread nD τ).loc main_v3_6) = res17 m c
      ∧ r.2.mem ((c : Thread nD τ).loc main_v3_7) = res18 m c
      ∧ r.2.mem ((c : Thread nD τ).loc main_v3_8) = res19 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => by
    obtain ⟨h0, h1, h2, h3, h4, h5, h6, h7, h8, h9⟩ := h c
    exact ⟨h0.trans (final11 m c), h1.trans (final12 m c), h2.trans (final13 m c), h3.trans (final14 m c),
      h4.trans (final15 m c), h5.trans (final16 m c), h6.trans (final17 m c), h7.trans (final18 m c),
      h8.trans (final19 m c), h9⟩) (Value.run_blocks m ρ)

end Cert.MemkvIdeal.Array

end
-- ==== Proof.MemkvReference.lean ====
/-
  The memory keys' reference at an index: the keys, the values, and the weights it casts.
-/
module

public import proofs.«01_k».proof.Proof.Gen.MemkvRefIdeal.Read
public import proofs.«01_k».proof.Proof.MemkvArray

@[expose] public section

set_option maxRecDepth 16384

noncomputable section

namespace Cert.MemkvRefIdeal.Rows

open Cert.MemkvRefIdeal Cert.MemkvRefIdeal.Gen Cert.MemkvRefIdeal.Read Cert.Layer Idealize.ShloMosaic Idealize.ShloMosaic.TcCoe
open Cert.MemkvIdeal.Tile (len128 project headOf keys values)
open Cert.MemkvIdeal.Array (token tokenRow)

variable (x0 : S8x256x1024.Idx → EReal) (x1 : S4x1024.Idx → EReal) (x2 : S4x1024x1024.Idx → EReal) (x3 : S4x128.Idx → EReal)

theorem token_at (n : Fin 2048) (k : Fin 1024) : val_main_v0 (F := Ideal) x0 (ix2 n k) = token x0 n k := by
  rw [val_main_v0_apply]
  refine congrArg x0 (funext fun a => Fin.ext ?_)
  match a with
  | ⟨0, _⟩ => show (n.val * 1024 + k.val) / 262144 = n.val / 256; omega
  | ⟨1, _⟩ => show (n.val * 1024 + k.val) / 1024 % 256 = n.val % 256; omega
  | ⟨2, _⟩ => show (n.val * 1024 + k.val) % 1024 = k.val; omega

theorem norm_at (n : Fin 2048) (k : Fin 1024) :
    val_main_v10 (F := Ideal) x0 (ix2 n k) = token x0 n k * scale len1024 eps6 (token x0 n) := by
  pointwise [val_main_v10, val_main_v9, val_main_v8, val_main_v7, val_main_v6, val_main_cst_1, val_main_v5, val_main_v4,
    val_main_cst_0, val_main_v3, val_main_v2, val_main_cst, val_main_v1]
  simp only [token_at]
  rfl

theorem row_at (l : Fin 4) (n : Fin 2048) (c : Fin 1024) :
    val_main_v16 (F := Ideal) x0 x1 x2 (ix3 l n c) = tokenRow x0 x1 x2 l n c := by
  pointwise [val_main_v16, val_main_v15, val_main_v14, val_main_v13, val_main_v12, val_main_v11]
  simp only [norm_at]
  rfl

theorem split_at (l : Fin 4) (n : Fin 2048) (h : Fin 4) (d : Fin 128) :
    val_main_v18 (F := Ideal) x0 x1 x2 (ix4 l n h d) = headOf (tokenRow x0 x1 x2 l n) h d := by
  pointwise [val_main_v18, val_main_v17]
  simp only [row_at]
  rfl

theorem head_at (l : Fin 4) (n : Fin 2048) (h : Fin 4) (d : Fin 128) :
    val_main_v31 (F := Ideal) x0 x1 x2 x3 (ix4 l n h d)
      = rms len128 eps6 (headOf (tokenRow x0 x1 x2 l n) h) (fun d => x3 (ix2 l d)) d := by
  pointwise [val_main_v31, val_main_v30, val_main_v29, val_main_v28, val_main_v27, val_main_v26, val_main_v25, val_main_v24,
    val_main_cst_4, val_main_v23, val_main_v22, val_main_cst_3, val_main_v21, val_main_v20, val_main_cst_2, val_main_v19]
  simp only [split_at]
  rfl

/-- The reference's keys. -/
theorem keys_at (l : Fin 4) (n : Fin 2048) (c : Fin 512) :
    val_main_v33 (F := Ideal) x0 x1 x2 x3 (ix3 l n c)
      = keys (tokenRow x0 x1 x2 l n) (fun d => x3 (ix2 l d)) c := by
  unfold keys
  rw [← head_at]
  show val_main_v32 (F := Ideal) x0 x1 x2 x3 (ix3 l n c) = _
  rw [val_main_v32_apply]
  refine congrArg (val_main_v31 (F := Ideal) x0 x1 x2 x3) (funext fun a => Fin.ext ?_)
  match a with
  | ⟨0, _⟩ => show ((l.val * 2048 + n.val) * 512 + c.val) / 1048576 = l.val; omega
  | ⟨1, _⟩ => show ((l.val * 2048 + n.val) * 512 + c.val) / 512 % 2048 = n.val; omega
  | ⟨2, _⟩ => show ((l.val * 2048 + n.val) * 512 + c.val) / 128 % 4 = c.val / 128; omega
  | ⟨3, _⟩ => show ((l.val * 2048 + n.val) * 512 + c.val) % 128 = c.val % 128; omega

/-- The reference's values. -/
theorem values_at (l : Fin 4) (n : Fin 2048) (c : Fin 512) :
    val_main_v35 (F := Ideal) x0 x1 x2 (ix3 l n c) = values (tokenRow x0 x1 x2 l n) c := by
  pointwise [val_main_v35, val_main_v34]
  simp only [row_at]
  rfl

theorem cast4_38 (x : S4x5128x1024.Idx → EReal) (r : Fin 1536) (k : Fin 1024) :
    val_main_v38 (F := Ideal) x (ix2 r k) = x (ix3 0 ⟨r.val, by omega⟩ k) := by
  pointwise [val_main_v38, val_main_v37, val_main_v36]

theorem cast4_41 (x : S4x5128x1024.Idx → EReal) (r : Fin 3584) (k : Fin 1024) :
    val_main_v41 (F := Ideal) x (ix2 r k) = x (ix3 0 ⟨1544 + r.val, by omega⟩ k) := by
  pointwise [val_main_v41, val_main_v40, val_main_v39]

theorem cast5_44 (x : S4x512x1024.Idx → EReal) (r : Fin 512) (k : Fin 1024) :
    val_main_v44 (F := Ideal) x (ix2 r k) = x (ix3 0 ⟨r.val, by omega⟩ k) := by
  pointwise [val_main_v44, val_main_v43, val_main_v42]

theorem cast6_47 (x : S4x512x1024.Idx → EReal) (r : Fin 512) (k : Fin 1024) :
    val_main_v47 (F := Ideal) x (ix2 r k) = x (ix3 0 ⟨r.val, by omega⟩ k) := by
  pointwise [val_main_v47, val_main_v46, val_main_v45]

theorem cast7_50 (x : S4x1024x1024.Idx → EReal) (r : Fin 1024) (k : Fin 1024) :
    val_main_v50 (F := Ideal) x (ix2 r k) = x (ix3 0 ⟨r.val, by omega⟩ k) := by
  pointwise [val_main_v50, val_main_v49, val_main_v48]

theorem cast8_53 (x : S4x1024x512.Idx → EReal) (r : Fin 1024) (k : Fin 512) :
    val_main_v53 (F := Ideal) x (ix2 r k) = x (ix3 0 ⟨r.val, by omega⟩ k) := by
  pointwise [val_main_v53, val_main_v52, val_main_v51]

theorem cast9_56 (x : S4x512x1024.Idx → EReal) (r : Fin 512) (k : Fin 1024) :
    val_main_v56 (F := Ideal) x (ix2 r k) = x (ix3 0 ⟨r.val, by omega⟩ k) := by
  pointwise [val_main_v56, val_main_v55, val_main_v54]

end Cert.MemkvRefIdeal.Rows

end
-- ==== Proof.MemkvClaims.lean ====
/-
  The claims about the keys and values of the memory tokens.
-/
module

public import proofs.«01_k».proof.Defs
public import proofs.«01_k».proof.Proof.Gen.MemkvIdeal.Value
public import proofs.«01_k».proof.Proof.Gen.MemkvRefIdeal.Read
public import proofs.«01_k».proof.Proof.Gen.Memkv.Frame
public import proofs.«01_k».proof.Proof.Gen.MemkvIdeal.Frame
public import proofs.«01_k».proof.Proof.Gen.MemkvRefIdeal.Run
public import proofs.«01_k».proof.Proof.MemkvReference
public import Idealize.ShloMosaic.Lib.Quiescent

@[expose] public section

set_option maxRecDepth 16384

noncomputable section

namespace Cert.Proof.MemkvClaims

open Idealize.ShloMosaic Idealize.ShloMosaic.TcCoe Idealize.SL.Sem

instance hMemkv : Cert.Memkv.Facts := Cert.Memkv.Gen.facts
instance hMemkvIdeal : Cert.MemkvIdeal.Facts := Cert.MemkvIdeal.Gen.facts
instance hMemkvRefIdeal : Cert.MemkvRefIdeal.Facts := Cert.MemkvRefIdeal.Gen.facts

theorem frame_p : Cert.quiescent_Memkv := fun m ρ _ => Cert.Memkv.Gen.frame m ρ

theorem frame_pi : Cert.quiescent_MemkvIdeal := fun m ρ _ => Cert.MemkvIdeal.Gen.frame m ρ

theorem frame_ri : Cert.quiescent_MemkvRefIdeal := fun m ρ _ =>
  (θ_run Cert.MemkvRefIdeal.defs _ _).mono (fun r h => ⟨fun c => (h c).2.2.2.2.2.2.2.2.2, sem_eq_zero_of_no_sems rfl r.2⟩)
    (Cert.MemkvRefIdeal.Value.run (F := Ideal) m ρ)

theorem preserves : Cert.preserves_Memkv_MemkvIdeal := trivial

/-- The kernel's nine results and the reference's are the same arrays. -/
theorem algebraic : Cert.algebraic_MemkvIdeal_MemkvRefIdeal := fun m ρ m' ρ' _ hag =>
  ⟨fun c => Cert.MemkvIdeal.Array.res11 m c, fun c => Cert.MemkvIdeal.Array.res12 m c, fun c => Cert.MemkvIdeal.Array.res13 m c, fun c => Cert.MemkvIdeal.Array.res14 m c,
    fun c => Cert.MemkvIdeal.Array.res15 m c, fun c => Cert.MemkvIdeal.Array.res16 m c, fun c => Cert.MemkvIdeal.Array.res17 m c, fun c => Cert.MemkvIdeal.Array.res18 m c, fun c => Cert.MemkvIdeal.Array.res19 m c,
    Cert.MemkvIdeal.Array.run m ρ,
    (θ_run Cert.MemkvRefIdeal.defs _ _).mono
      (fun _ h c => by
        obtain ⟨h0, h1, h2, h3, h4, h5, h6, h7, h8, h9⟩ := h c
        obtain ⟨a0, a1, a2, a3, a4, a5, a6, a7, a8, a9⟩ := hag c
        refine ⟨h0.trans ?_, h1.trans ?_, h2.trans ?_, h3.trans ?_, h4.trans ?_, h5.trans ?_, h6.trans ?_, h7.trans ?_,
          h8.trans ?_, h9⟩
        · rw [Cert.MemkvRefIdeal.Read.val_main_v33_eq, a0, a1, a2, a3]
          funext i
          obtain ⟨l, n, k, rfl⟩ : ∃ l n k, i = ix3 (n0 := 4) (n1 := 2048) (n2 := 512) l n k := ⟨i 0, i 1, i 2, eq_ix3 i⟩
          exact Cert.MemkvRefIdeal.Rows.keys_at _ _ _ _ l n k
        · rw [Cert.MemkvRefIdeal.Read.val_main_v35_eq, a0, a1, a2]
          funext i
          obtain ⟨l, n, k, rfl⟩ : ∃ l n k, i = ix3 (n0 := 4) (n1 := 2048) (n2 := 512) l n k := ⟨i 0, i 1, i 2, eq_ix3 i⟩
          exact Cert.MemkvRefIdeal.Rows.values_at _ _ _ l n k
        · rw [Cert.MemkvRefIdeal.Read.val_main_v38_eq, a4]
          funext i
          obtain ⟨r, k, rfl⟩ : ∃ r k, i = ix2 (n0 := 1536) (n1 := 1024) r k := ⟨i 0, i 1, eq_ix2 i⟩
          exact Cert.MemkvRefIdeal.Rows.cast4_38 _ r k
        · rw [Cert.MemkvRefIdeal.Read.val_main_v41_eq, a4]
          funext i
          obtain ⟨r, k, rfl⟩ : ∃ r k, i = ix2 (n0 := 3584) (n1 := 1024) r k := ⟨i 0, i 1, eq_ix2 i⟩
          exact Cert.MemkvRefIdeal.Rows.cast4_41 _ r k
        · rw [Cert.MemkvRefIdeal.Read.val_main_v44_eq, a5]
          funext i
          obtain ⟨r, k, rfl⟩ : ∃ r k, i = ix2 (n0 := 512) (n1 := 1024) r k := ⟨i 0, i 1, eq_ix2 i⟩
          exact Cert.MemkvRefIdeal.Rows.cast5_44 _ r k
        · rw [Cert.MemkvRefIdeal.Read.val_main_v47_eq, a6]
          funext i
          obtain ⟨r, k, rfl⟩ : ∃ r k, i = ix2 (n0 := 512) (n1 := 1024) r k := ⟨i 0, i 1, eq_ix2 i⟩
          exact Cert.MemkvRefIdeal.Rows.cast6_47 _ r k
        · rw [Cert.MemkvRefIdeal.Read.val_main_v50_eq, a7]
          funext i
          obtain ⟨r, k, rfl⟩ : ∃ r k, i = ix2 (n0 := 1024) (n1 := 1024) r k := ⟨i 0, i 1, eq_ix2 i⟩
          exact Cert.MemkvRefIdeal.Rows.cast7_50 _ r k
        · rw [Cert.MemkvRefIdeal.Read.val_main_v53_eq, a8]
          funext i
          obtain ⟨r, k, rfl⟩ : ∃ r k, i = ix2 (n0 := 1024) (n1 := 512) r k := ⟨i 0, i 1, eq_ix2 i⟩
          exact Cert.MemkvRefIdeal.Rows.cast8_53 _ r k
        · rw [Cert.MemkvRefIdeal.Read.val_main_v56_eq, a9]
          funext i
          obtain ⟨r, k, rfl⟩ : ∃ r k, i = ix2 (n0 := 512) (n1 := 1024) r k := ⟨i 0, i 1, eq_ix2 i⟩
          exact Cert.MemkvRefIdeal.Rows.cast9_56 _ r k)
      (Cert.MemkvRefIdeal.Value.run (F := Ideal) m' ρ')⟩

end Cert.Proof.MemkvClaims

end
-- ==== Proof.DecayTile.lean ====
/-
  What one grid point of the decay's kernel stores, as functions of the blocks it reads.
-/
module

public import proofs.«01_k».proof.Proof.Layer
public import proofs.«01_k».proof.Proof.Online
public import proofs.«01_k».proof.Proof.Gen.DecayIdeal.Value

@[expose] public section

set_option maxRecDepth 16384

noncomputable section

namespace Cert.DecayIdeal.Tile

open Cert.DecayIdeal Cert.DecayIdeal.Gen Cert.Layer Cert.Online Idealize.ShloMosaic Idealize.ShloMosaic.TcCoe
open Idealize.SL.Sem Idealize.ShloMosaic.WordCmp

/-- Block `i` of 256 rows. -/
def rows (x : Vec Ideal S4096x128 .f32) : ℕ → Vec Ideal S256x128 .f32
  | 0 => View.ld x r0_1
  | 1 => View.ld x r0_2
  | 2 => View.ld x r0_3
  | 3 => View.ld x r0_4
  | 4 => View.ld x r0_5
  | 5 => View.ld x r0_6
  | 6 => View.ld x r0_7
  | 7 => View.ld x r0_8
  | 8 => View.ld x r0_9
  | 9 => View.ld x r0_10
  | 10 => View.ld x r0_11
  | 11 => View.ld x r0_12
  | 12 => View.ld x r0_13
  | 13 => View.ld x r0_14
  | 14 => View.ld x r0_15
  | _ => View.ld x r0_16

/-- The sums of the rows before block `k` of sequence `i`. -/
def carry (T : FVec Ideal S256x256 .bf16) (x : Vec Ideal S4096x128 .f32) (i : ℕ) : ℕ → FVec Ideal S1x128 .f32
  | 0 => k0_pay39
  | k + 1 => k0_pay19 T (carry T x i k) (rows x (8 * i + k))

/-- The coefficients of block `k` of sequence `i`. -/
def parts (T : FVec Ideal S256x256 .bf16) (x : Vec Ideal S4096x128 .f32) (i k : ℕ) : FVec Ideal S256x128 .bf16 :=
  k0_pay20 T (iota .tc S1x128 32 [1] iota_S1x128_d1_w32) (carry T x i k) (rows x (8 * i + k))

/-- The sixteen blocks' coefficients, one under the other. -/
def coefs (T : FVec Ideal S256x256 .bf16) (x : Vec Ideal S4096x128 .f32) : FVec Ideal S4096x128 .bf16 :=
  concatenate S4096x128 0 [⟨S256x128, parts T x 0 0⟩, ⟨S256x128, parts T x 0 1⟩, ⟨S256x128, parts T x 0 2⟩,
    ⟨S256x128, parts T x 0 3⟩, ⟨S256x128, parts T x 0 4⟩, ⟨S256x128, parts T x 0 5⟩, ⟨S256x128, parts T x 0 6⟩,
    ⟨S256x128, parts T x 0 7⟩, ⟨S256x128, parts T x 1 0⟩, ⟨S256x128, parts T x 1 1⟩, ⟨S256x128, parts T x 1 2⟩,
    ⟨S256x128, parts T x 1 3⟩, ⟨S256x128, parts T x 1 4⟩, ⟨S256x128, parts T x 1 5⟩, ⟨S256x128, parts T x 1 6⟩,
    ⟨S256x128, parts T x 1 7⟩]
    concatenates_S256x128_S256x128_S256x128_S256x128_S256x128_S256x128_S256x128_S256x128_S256x128_S256x128_S256x128_S256x128_S256x128_S256x128_S256x128_S256x128_S4096x128_d0

/-- The coefficients against a matrix, and a constant row added. -/
def affine (p : FVec Ideal S4096x128 .bf16) (w : FVec Ideal S128x512 .bf16) (b : FVec Ideal S1x512 .f32) :
    FVec Ideal S4096x512 .bf16 :=
  have z : FVec Ideal S4096x512 .f32 := constant S4096x512 .f32 0x00000000#32
  have d : FVec Ideal S4096x512 .f32 := matmul dot_S4096x128_S128x512_S4096x512_1_0_0_1_n_n none p w z
  have e : FVec Ideal S4096x512 .f32 := broadcastTo S4096x512 b broadcasts_S1x512_S4096x512
  truncf .bf16 (addf d e) bitsLt_bf16_f32

section
variable (x0 : Vec Ideal S4096x128 .f32) (x1 : Vec Ideal S256x256 .bf16) (x2 x3 : Vec Ideal S128x512 .bf16)
  (x4 x5 : Vec Ideal S1x512 .f32)

set_option maxHeartbeats 2000000 in
/-- The kernel's first block, by the sixteen blocks of rows. -/
theorem out6_eq : out0_6 x0 x1 x2 x3 x4 x5 = View.canon [⟨r0_19,
    affine (coefs (k0_pay2 (View.ld x1 r0_0)) x0) (View.ld x2 r0_17) (View.ld x4 r0_18)⟩] := by
  unfold out0_6
  congr 1

set_option maxHeartbeats 2000000 in
/-- The kernel's second block. -/
theorem out7_eq : out0_7 x0 x1 x2 x3 x4 x5 = View.canon [⟨r0_19,
    affine (coefs (k0_pay2 (View.ld x1 r0_0)) x0) (View.ld x3 r0_17) (View.ld x5 r0_18)⟩] := by
  unfold out0_7
  congr 1

end

/-! ## The steps at an index -/

/-- The word of `log2 e`. -/
def log2e : EReal := Ideal.ofBits .f32 0x3FB8AA3B#32

/-- The three parts a split into a high, a middle and a low part leaves, one to each eight lanes. -/
def part (l : ℕ) (c : EReal) : EReal :=
  if l < 8 then c * log2e else if l < 16 then c * log2e - c * log2e
  else c * log2e - c * log2e - (c * log2e - c * log2e)

/-- The matrix of ones on and below the diagonal. -/
def IsTri (T : FVec Ideal S256x256 .bf16) : Prop := ∀ r k : Fin 256, T (ix2 r k) = if k.val ≤ r.val then 1 else 0

theorem select_dec (P : Prop) [Decidable P] (a b : EReal) :
    Scalar.select (BitVec.ofBool (decide P)) a b = if P then a else b := by
  by_cases h : P <;> simp [h, Scalar.select]

/-- The three parts of a number that is not `⊤` sum to it. -/
theorem split_sum {x : EReal} (h : x ≠ ⊤) : x - x - (x - x) + (x - x) + x = x := by
  induction x with
  | bot => simp
  | top => exact absurd rfl h
  | coe r => norm_cast; simp

/-- A sum over the indices up to `t`. -/
theorem sum_le {n : ℕ} (f : ℕ → EReal) (t : ℕ) (h : t < n) :
    (∑ k : Fin n, if k.val ≤ t then f k.val else 0) = ∑ k ∈ Finset.range (t + 1), f k := by
  rw [Fin.sum_univ_eq_sum_range (fun k => if k ≤ t then f k else 0) n, ← Finset.sum_filter]
  congr 1
  ext k
  simp only [Finset.mem_filter, Finset.mem_range]
  omega

theorem rows_at (x : Vec Ideal S4096x128 .f32) (i : ℕ) (hi : i < 16) (r : Fin 256) (l : Fin 128) :
    rows x i (ix2 r l) = at2 x (256 * i + r.val) l.val := by
  refine Eq.trans ?_ (at2_ix2 x ⟨256 * i + r.val, by omega⟩ l).symm
  interval_cases i <;> pointwise [rows]

theorem step_at (T : FVec Ideal S256x256 .bf16) (c : FVec Ideal S1x128 .f32) (x : Vec Ideal S256x128 .f32) (r : Fin 256) (l : Fin 128) :
    k0_pay18 T c x (ix2 r l) = (∑ k : Fin 256, T (ix2 r k) * (x (ix2 k l) - x (ix2 k l) - (x (ix2 k l) - x (ix2 k l))))
      + (∑ k : Fin 256, T (ix2 r k) * (x (ix2 k l) - x (ix2 k l))) + (∑ k : Fin 256, T (ix2 r k) * x (ix2 k l)) + c (ix2 0 l) := by
  pointwise [k0_pay18]
  have h1 : ¬ 256 + l.val < 128 := by omega
  have h2 : ¬ 256 + l.val - 128 < 128 := by omega
  have h3 : ∀ h : 256 + l.val - 128 - 128 < 128, (⟨256 + l.val - 128 - 128, h⟩ : Fin 128) = l := fun h => Fin.ext (by
    show 256 + l.val - 128 - 128 = l.val
    omega)
  simp only [h1, h2, h3, dite_false]

theorem carryOf_at (T : FVec Ideal S256x256 .bf16) (c : FVec Ideal S1x128 .f32) (x : Vec Ideal S256x128 .f32) (l : Fin 128) :
    k0_pay19 T c x (ix2 0 l) = k0_pay18 T c x (ix2 ⟨255, by decide⟩ l) := by
  pointwise [k0_pay19]

theorem partsOf_at (T : FVec Ideal S256x256 .bf16) (c : FVec Ideal S1x128 .f32) (x : Vec Ideal S256x128 .f32) (r : Fin 256) (l : Fin 128) :
    k0_pay20 T (iota .tc S1x128 32 [1] iota_S1x128_d1_w32) c x (ix2 r l) = part l.val (k0_pay18 T c x (ix2 r l)) := by
  pointwise [k0_pay20]
  rw [show (8#32) = BitVec.ofNat 32 8 from rfl, show (16#32) = BitVec.ofNat 32 16 from rfl,
    cmpi_slt_ofNat (by omega) (by omega), cmpi_slt_ofNat (by omega) (by omega), select_dec, select_dec]
  rfl

theorem zero_at (l : Fin 128) : k0_pay39 (F := Ideal) (ix2 0 l) = 0 := by
  pointwise [k0_pay39]

theorem coefs_at (T : FVec Ideal S256x256 .bf16) (x : Vec Ideal S4096x128 .f32) (R : Fin 4096) (l : Fin 128) :
    coefs T x (ix2 R l) = parts T x (R.val / 256 / 8) (R.val / 256 % 8) (ix2 ⟨R.val % 256, Nat.mod_lt _ (by decide)⟩ l) := by
  exact concatenate_ofFn_apply (t := S4096x128) (s₁ := S256x128) 0 (N := 16)
    (fun n => parts T x (n.val / 8) (n.val % 8)) concatenates_S256x128_S256x128_S256x128_S256x128_S256x128_S256x128_S256x128_S256x128_S256x128_S256x128_S256x128_S256x128_S256x128_S256x128_S256x128_S256x128_S4096x128_d0
    rfl 256 rfl (ix2 R l) ⟨R.val / 256, by omega⟩ rfl _ rfl (fun b hb => by fin_cases b <;> simp_all)

theorem affine_at (p : FVec Ideal S4096x128 .bf16) (w : FVec Ideal S128x512 .bf16) (b : FVec Ideal S1x512 .f32) (R : Fin 4096)
    (j : Fin 512) : affine p w b (ix2 R j) = (∑ l : Fin 128, p (ix2 R l) * w (ix2 l j)) + b (ix2 0 j) := by
  pointwise [affine]

/-! ## The running sums -/

/-- A row of the result: the row's running sums since its sequence began, in three parts, against a column of a matrix,
    and a constant. -/
def decayAt (x : ℕ → ℕ → EReal) (w : Fin 128 → EReal) (b : EReal) (R : ℕ) : EReal :=
  (∑ l : Fin 128, part l.val (∑ n ∈ Finset.range (R % 2048 + 1), x (2048 * (R / 2048) + n) l.val) * w l) + b

theorem step_sum (T : FVec Ideal S256x256 .bf16) (hT : IsTri T) (c : FVec Ideal S1x128 .f32) (x : Vec Ideal S256x128 .f32)
    (hx : ∀ i, x i ≠ ⊤) (r : Fin 256) (l : Fin 128) :
    k0_pay18 T c x (ix2 r l) = (∑ k ∈ Finset.range (r.val + 1), at2 x k l.val) + c (ix2 0 l) := by
  rw [step_at, ← Finset.sum_add_distrib, ← Finset.sum_add_distrib, ← sum_le (n := 256) (fun k => at2 x k l.val) r.val r.isLt]
  congr 1
  refine Finset.sum_congr rfl fun k _ => ?_
  rw [hT r k, at2_ix2]
  by_cases h : k.val ≤ r.val
  · rw [if_pos h, if_pos h, one_mul, one_mul, one_mul, split_sum (hx _)]
  · rw [if_neg h, if_neg h, zero_mul, zero_mul, zero_mul, add_zero, add_zero]

section
variable (T : FVec Ideal S256x256 .bf16) (hT : IsTri T) (x : Vec Ideal S4096x128 .f32) (hx : ∀ i, x i ≠ ⊤)
include hT hx

theorem rows_ne (i : ℕ) (hi : i < 16) (j : S256x128.Idx) : rows x i j ≠ ⊤ := by
  rw [eq_ix2 j]
  have h := rows_at x i hi (j 0) (j 1)
  have e := at2_ix2 x ⟨256 * i + (j 0).val, by have : (j 0).val < 256 := (j 0).isLt; omega⟩ (j 1)
  rw [h]
  exact e ▸ hx _

theorem sum_at_of (i k : ℕ) (hi : i < 2) (hk : k < 8) (r : Fin 256) (l : Fin 128)
    (hc : carry T x i k (ix2 0 l) = ∑ n ∈ Finset.range (256 * k), at2 x (2048 * i + n) l.val) :
    k0_pay18 T (carry T x i k) (rows x (8 * i + k)) (ix2 r l)
      = ∑ n ∈ Finset.range (256 * k + (r.val + 1)), at2 x (2048 * i + n) l.val := by
  rw [step_sum T hT _ _ (rows_ne T hT x hx _ (by omega)), hc,
    Finset.sum_range_add (fun n => at2 x (2048 * i + n) l.val) (256 * k) (r.val + 1), add_comm]
  congr 1
  refine Finset.sum_congr rfl fun n hn => ?_
  have hn' := Finset.mem_range.1 hn
  rw [at2_ix2 (rows x (8 * i + k)) ⟨n, by omega⟩ l, rows_at x _ (by omega)]
  congr 1
  show 256 * (8 * i + k) + n = 2048 * i + (256 * k + n)
  omega

theorem carry_at (i : ℕ) (hi : i < 2) (l : Fin 128) : ∀ k, k < 8 →
    carry T x i k (ix2 0 l) = ∑ n ∈ Finset.range (256 * k), at2 x (2048 * i + n) l.val
  | 0, _ => by
    rw [carry, zero_at]
    rfl
  | k + 1, h => by
    rw [carry, carryOf_at, sum_at_of T hT x hx i k hi (by omega) _ l (carry_at i hi l k (by omega))]
    rfl

theorem coefs_sum (R : Fin 4096) (l : Fin 128) :
    coefs T x (ix2 R l) = part l.val (∑ n ∈ Finset.range (R.val % 2048 + 1), at2 x (2048 * (R.val / 2048) + n) l.val) := by
  rw [coefs_at, parts, partsOf_at, sum_at_of T hT x hx _ _ (by omega) (by omega) _ l
    (carry_at T hT x hx _ (by omega) l _ (by omega)), show R.val / 256 / 8 = R.val / 2048 by omega]
  congr 2
  show Finset.range (256 * (R.val / 256 % 8) + (R.val % 256 + 1)) = _
  congr 1
  omega

theorem affine_sum (w : FVec Ideal S128x512 .bf16) (b : FVec Ideal S1x512 .f32) (R : Fin 4096) (j : Fin 512) :
    affine (coefs T x) w b (ix2 R j) = decayAt (at2 x) (fun l => w (ix2 l j)) (b (ix2 0 j)) R.val := by
  rw [affine_at, decayAt]
  congr 1
  exact Finset.sum_congr rfl fun l _ => by rw [coefs_sum T hT x hx]

end

end Cert.DecayIdeal.Tile

end
-- ==== Proof.DecayArray.lean ====
/-
  The decay's kernel's two result arrays, each as one function of the argument arrays. Grid point `t` takes the two
  sequences of rows `4096 t` to `4096 t + 4095`.
-/
module

public import proofs.«01_k».proof.Proof.DecayTile

@[expose] public section

set_option maxRecDepth 16384

noncomputable section

namespace Cert.DecayIdeal.Array

open Cert.DecayIdeal Cert.DecayIdeal.Gen Cert.DecayIdeal.Tile Cert.Layer Cert.Online Idealize.ShloMosaic
open Idealize.ShloMosaic.TcCoe Idealize.SL.Sem Idealize.ShloMosaic.WordCmp
open Idealize.ShloMosaic.Pipeline (Dat)

/-! ## The blocks a grid point stores -/

section
variable (x0 : Vec Ideal S4096x128 .f32) (x1 : Vec Ideal S256x256 .bf16) (x2 x3 : Vec Ideal S128x512 .bf16)
  (x4 x5 : Vec Ideal S1x512 .f32) (h1 : IsTri x1) (h0 : ∀ i, x0 i ≠ ⊤)
include h1 h0

theorem tri_cast : IsTri (k0_pay2 x1) := fun r k => by
  rw [← h1 r k]
  pointwise [k0_pay2]

theorem out_6 (R : Fin 4096) (j : Fin 512) : out0_6 x0 x1 x2 x3 x4 x5 (ix2 R j)
    = decayAt (at2 x0) (fun l => x2 (ix2 l j)) (x4 (ix2 0 j)) R.val := by
  rw [out6_eq, View.ld_unit_zero (S := S256x256) hz, View.ld_unit_zero (S := S128x512) hz,
    View.ld_unit_zero (S := S1x512) hz, View.canon_unit_zero (S := S4096x512) hz]
  exact affine_sum _ (tri_cast x0 x1 h1 h0) x0 h0 x2 x4 R j

theorem out_7 (R : Fin 4096) (j : Fin 512) : out0_7 x0 x1 x2 x3 x4 x5 (ix2 R j)
    = decayAt (at2 x0) (fun l => x3 (ix2 l j)) (x5 (ix2 0 j)) R.val := by
  rw [out7_eq, View.ld_unit_zero (S := S256x256) hz, View.ld_unit_zero (S := S128x512) hz,
    View.ld_unit_zero (S := S1x512) hz, View.canon_unit_zero (S := S4096x512) hz]
  exact affine_sum _ (tri_cast x0 x1 h1 h0) x0 h0 x3 x5 R j

end

variable (m : (ℓ : Loc nD τ sig) → Buf (Elt Ideal) ℓ)

abbrev arr0 (c : Dev nD) : S16384x128.Idx → EReal := m ((c : Thread nD τ).loc main_arg0)
abbrev arr1 (c : Dev nD) : S128x512.Idx → EReal := m ((c : Thread nD τ).loc main_arg1)
abbrev arr2 (c : Dev nD) : S128x512.Idx → EReal := m ((c : Thread nD τ).loc main_arg2)
abbrev arr3 (c : Dev nD) : S1x512.Idx → EReal := m ((c : Thread nD τ).loc main_arg3)
abbrev arr4 (c : Dev nD) : S1x512.Idx → EReal := m ((c : Thread nD τ).loc main_arg4)

/-! ## The triangle made before the kernel starts -/

/-- The comparison of the rows' numbers with the columns'. -/
def tri : FVec Ideal S256x256 .bf16 :=
  uitofp .bf16 (cmpi .sge
    (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0))))

theorem entry_v6 (c : Dev nD) : V m c main_v6 = tri := by
  show StableHlo.after hostOps0 _ (Proc.devRef .tc main_v6) = _
  after_results
  rfl

theorem tri_at : IsTri tri := fun r k => by
  pointwise [tri]
  rw [cmpi_sge_ofNat (by omega) (by omega)]
  by_cases h : k.val ≤ r.val <;> simp [h, FloatOps.uitofp]

/-! ## The blocks of the arguments -/

theorem index_facts : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0) := by
  decide +kernel

theorem lt4 (t : Fin cfg0.N) : t.val < 4 := lt_of_lt_of_eq t.isLt N_0

theorem off (k n v : ℕ) (h : k = 0) : k * n + 1 * v = v := by subst h; omega

theorem row_off (k t v n : ℕ) (h : k = t) : k * n + 1 * v = n * t + v := by subst h; rw [Nat.mul_comm]; omega

/-- The row of the array at a row of a grid point's block. -/
abbrev place (t : Fin cfg0.N) (r : Fin 4096) : Fin 16384 := ⟨4096 * t.val + r.val, by have := lt4 t; omega⟩

theorem blk0 (c : Dev nD) (t : Fin cfg0.N) (i : Fin 4096) (j : Fin 128) :
    (iblk m c 0 t : S4096x128.Idx → EReal) (ix2 i j) = arr0 m c (ix2 (place t i) j) := by
  have hx := (index_facts t).1
  refine (congrArg (V m c main_arg0 : S16384x128.Idx → EReal) (funext fun a => Fin.ext ?_)).trans
    (congrFun (V_main_arg0 m c) _)
  match a with
  | ⟨0, _⟩ => exact row_off _ _ _ 4096 hx.1
  | ⟨1, _⟩ => exact off _ _ _ hx.2

theorem blk1 (c : Dev nD) (t : Fin cfg0.N) : IsTri (iblk m c 1 t : S256x256.Idx → EReal) := fun i j => by
  have hx := (index_facts t).2.1
  refine Eq.trans ?_ (tri_at i j)
  rw [← entry_v6 m c]
  refine congrArg (V m c main_v6 : S256x256.Idx → EReal) (funext fun a => Fin.ext ?_)
  match a with
  | ⟨0, _⟩ => exact off _ _ _ hx.1
  | ⟨1, _⟩ => exact off _ _ _ hx.2

theorem blk2 (c : Dev nD) (t : Fin cfg0.N) (i : Fin 128) (j : Fin 512) :
    (iblk m c 2 t : S128x512.Idx → EReal) (ix2 i j) = arr1 m c (ix2 i j) := by
  have hx := (index_facts t).2.2.1
  refine (congrArg (V m c main_arg1 : S128x512.Idx → EReal) (funext fun a => Fin.ext ?_)).trans
    (congrFun (V_main_arg1 m c) _)
  match a with
  | ⟨0, _⟩ => exact off _ _ _ hx.1
  | ⟨1, _⟩ => exact off _ _ _ hx.2

theorem blk3 (c : Dev nD) (t : Fin cfg0.N) (i : Fin 128) (j : Fin 512) :
    (iblk m c 3 t : S128x512.Idx → EReal) (ix2 i j) = arr2 m c (ix2 i j) := by
  have hx := (index_facts t).2.2.2.1
  refine (congrArg (V m c main_arg2 : S128x512.Idx → EReal) (funext fun a => Fin.ext ?_)).trans
    (congrFun (V_main_arg2 m c) _)
  match a with
  | ⟨0, _⟩ => exact off _ _ _ hx.1
  | ⟨1, _⟩ => exact off _ _ _ hx.2

theorem blk4 (c : Dev nD) (t : Fin cfg0.N) (i : Fin 1) (j : Fin 512) :
    (iblk m c 4 t : S1x512.Idx → EReal) (ix2 i j) = arr3 m c (ix2 i j) := by
  have hx := (index_facts t).2.2.2.2.1
  refine (congrArg (V m c main_arg3 : S1x512.Idx → EReal) (funext fun a => Fin.ext ?_)).trans
    (congrFun (V_main_arg3 m c) _)
  match a with
  | ⟨0, _⟩ => exact off _ _ _ hx.1
  | ⟨1, _⟩ => exact off _ _ _ hx.2

theorem blk5 (c : Dev nD) (t : Fin cfg0.N) (i : Fin 1) (j : Fin 512) :
    (iblk m c 5 t : S1x512.Idx → EReal) (ix2 i j) = arr4 m c (ix2 i j) := by
  have hx := (index_facts t).2.2.2.2.2.1
  refine (congrArg (V m c main_arg4 : S1x512.Idx → EReal) (funext fun a => Fin.ext ?_)).trans
    (congrFun (V_main_arg4 m c) _)
  match a with
  | ⟨0, _⟩ => exact off _ _ _ hx.1
  | ⟨1, _⟩ => exact off _ _ _ hx.2

/-! ## The two results -/

/-- The running sums' coefficients against the first matrix. -/
def res6 (c : Dev nD) : S16384x512.Idx → EReal :=
  fun i => decayAt (at2 (arr0 m c)) (fun l => arr1 m c (ix2 l (i 1))) (arr3 m c (ix2 0 (i 1))) (i 0).val

/-- The running sums' coefficients against the second matrix. -/
def res7 (c : Dev nD) : S16384x512.Idx → EReal :=
  fun i => decayAt (at2 (arr0 m c)) (fun l => arr2 m c (ix2 l (i 1))) (arr4 m c (ix2 0 (i 1))) (i 0).val

/-- The sequences of a block are those of the array. -/
theorem decay_place (c : Dev nD) (t : Fin cfg0.N) (w : Fin 128 → EReal) (b : EReal) (r : Fin 4096) :
    decayAt (at2 (iblk m c 0 t : S4096x128.Idx → EReal)) w b r.val = decayAt (at2 (arr0 m c)) w b (4096 * t.val + r.val) := by
  unfold decayAt
  congr 1
  refine Finset.sum_congr rfl fun l _ => ?_
  rw [show (4096 * t.val + r.val) % 2048 = r.val % 2048 by omega]
  congr 2
  refine Finset.sum_congr rfl fun n hn => ?_
  have hn' := Finset.mem_range.1 hn
  rw [at2_ix2 (iblk m c 0 t : S4096x128.Idx → EReal) ⟨2048 * (r.val / 2048) + n, by omega⟩ l, blk0,
    ← at2_ix2 (arr0 m c)]
  congr 1
  show 4096 * t.val + (2048 * (r.val / 2048) + n) = 2048 * ((4096 * t.val + r.val) / 2048) + n
  omega

theorem ne_of_rows (hfin : ∀ c i, arr0 m c i ≠ ⊤) (c : Dev nD) (t : Fin cfg0.N) (x : S4096x128.Idx → EReal)
    (hx : ∀ i j, x (ix2 i j) = arr0 m c (ix2 (place t i) j)) (i : S4096x128.Idx) : x i ≠ ⊤ := by
  obtain ⟨r, l, rfl⟩ : ∃ r l, i = ix2 (n0 := 4096) (n1 := 128) r l := ⟨i 0, i 1, eq_ix2 i⟩
  rw [hx]
  exact hfin c _

theorem emb6 (t : Fin cfg0.N) (r : Fin 4096) (k : Fin 512) : ((cfg0.win 6).blk t).view.emb (ix2 r k)
    = ix2 (n0 := 16384) (n1 := 512) (place t r) k :=
  funext fun a => Fin.ext (match a with
    | ⟨0, _⟩ => row_off _ _ _ 4096 (index_facts t).2.2.2.2.2.2.1.1
    | ⟨1, _⟩ => off _ _ _ (index_facts t).2.2.2.2.2.2.1.2)

theorem mem_blk6 (t : Fin cfg0.N) (i : S16384x512.Idx) :
    i ∈ ((cfg0.win 6).blk t).view.set ↔ (i 0).val / 4096 = t.val := by
  have hx := (index_facts t).2.2.2.2.2.2.1
  have hi : (i 1).val < 512 := (i 1).isLt
  show i ∈ ((View.whole main_v7_0).slice (win0_6.rect t)).set ↔ _
  rw [View.set_slice_whole, Rect.mem_set_unit]
  constructor
  · intro h
    have h0 : win0_6.index t 0 * 4096 ≤ (i 0).val ∧ (i 0).val < win0_6.index t 0 * 4096 + 4096 := h 0
    rw [hx.1] at h0
    omega
  · intro h a
    match a with
    | ⟨0, _⟩ => show win0_6.index t 0 * 4096 ≤ (i 0).val ∧ (i 0).val < win0_6.index t 0 * 4096 + 4096; rw [hx.1]; omega
    | ⟨1, _⟩ => show win0_6.index t 1 * 512 ≤ (i 1).val ∧ (i 1).val < win0_6.index t 1 * 512 + 512; rw [hx.2]; omega

theorem flushed6 (hfin : ∀ c i, arr0 m c i ≠ ⊤) (c : Dev nD) (t : Fin cfg0.N) (hf : (cfg0.win 6).flush t = true) :
    (dats m 0 c).flushed 6 t = ((cfg0.win 6).blk t).view.read (Elt Ideal) (res6 m c) := by
  rw [Value.flushed6 m c t]
  funext x
  obtain ⟨r, k, rfl⟩ : ∃ r k, x = ix2 (n0 := 4096) (n1 := 512) r k := ⟨x 0, x 1, eq_ix2 x⟩
  show out0_6 (iblk m c 0 t) (iblk m c 1 t) (iblk m c 2 t) (iblk m c 3 t) (iblk m c 4 t) (iblk m c 5 t) (ix2 r k)
    = res6 m c (((cfg0.win 6).blk t).view.emb (ix2 r k))
  rw [emb6, out_6 _ _ _ _ _ _ (blk1 m c t) (ne_of_rows m hfin c t _ (blk0 m c t)), decay_place]
  simp only [blk2, blk4]
  rfl

theorem final6 (hfin : ∀ c i, arr0 m c i ≠ ⊤) (c : Dev nD) : (dats m 0 c).arrAt 6 cfg0.N = res6 m c :=
  (dats m 0 c).arrAt_eq_of_cover 6 (res6 m c) (flushed6 m hfin c) fun i => by
    have h0 : (i 0).val < 16384 := (i 0).isLt
    refine ⟨⟨(i 0).val / 4096, by rw [show cfg0.N = 4 from N_0]; omega⟩, flush0_6 _, ?_⟩
    rw [mem_blk6]

theorem emb7 (t : Fin cfg0.N) (r : Fin 4096) (k : Fin 512) : ((cfg0.win 7).blk t).view.emb (ix2 r k)
    = ix2 (n0 := 16384) (n1 := 512) (place t r) k :=
  funext fun a => Fin.ext (match a with
    | ⟨0, _⟩ => row_off _ _ _ 4096 (index_facts t).2.2.2.2.2.2.2.1
    | ⟨1, _⟩ => off _ _ _ (index_facts t).2.2.2.2.2.2.2.2)

theorem mem_blk7 (t : Fin cfg0.N) (i : S16384x512.Idx) :
    i ∈ ((cfg0.win 7).blk t).view.set ↔ (i 0).val / 4096 = t.val := by
  have hx := (index_facts t).2.2.2.2.2.2.2
  have hi : (i 1).val < 512 := (i 1).isLt
  show i ∈ ((View.whole main_v7_1).slice (win0_7.rect t)).set ↔ _
  rw [View.set_slice_whole, Rect.mem_set_unit]
  constructor
  · intro h
    have h0 : win0_7.index t 0 * 4096 ≤ (i 0).val ∧ (i 0).val < win0_7.index t 0 * 4096 + 4096 := h 0
    rw [hx.1] at h0
    omega
  · intro h a
    match a with
    | ⟨0, _⟩ => show win0_7.index t 0 * 4096 ≤ (i 0).val ∧ (i 0).val < win0_7.index t 0 * 4096 + 4096; rw [hx.1]; omega
    | ⟨1, _⟩ => show win0_7.index t 1 * 512 ≤ (i 1).val ∧ (i 1).val < win0_7.index t 1 * 512 + 512; rw [hx.2]; omega

theorem flushed7 (hfin : ∀ c i, arr0 m c i ≠ ⊤) (c : Dev nD) (t : Fin cfg0.N) (hf : (cfg0.win 7).flush t = true) :
    (dats m 0 c).flushed 7 t = ((cfg0.win 7).blk t).view.read (Elt Ideal) (res7 m c) := by
  rw [Value.flushed7 m c t]
  funext x
  obtain ⟨r, k, rfl⟩ : ∃ r k, x = ix2 (n0 := 4096) (n1 := 512) r k := ⟨x 0, x 1, eq_ix2 x⟩
  show out0_7 (iblk m c 0 t) (iblk m c 1 t) (iblk m c 2 t) (iblk m c 3 t) (iblk m c 4 t) (iblk m c 5 t) (ix2 r k)
    = res7 m c (((cfg0.win 7).blk t).view.emb (ix2 r k))
  rw [emb7, out_7 _ _ _ _ _ _ (blk1 m c t) (ne_of_rows m hfin c t _ (blk0 m c t)), decay_place]
  simp only [blk3, blk5]
  rfl

theorem final7 (hfin : ∀ c i, arr0 m c i ≠ ⊤) (c : Dev nD) : (dats m 0 c).arrAt 7 cfg0.N = res7 m c :=
  (dats m 0 c).arrAt_eq_of_cover 7 (res7 m c) (flushed7 m hfin c) fun i => by
    have h0 : (i 0).val < 16384 := (i 0).isLt
    refine ⟨⟨(i 0).val / 4096, by rw [show cfg0.N = 4 from N_0]; omega⟩, flush0_7 _, ?_⟩
    rw [mem_blk7]

/-- The kernel's run: the two results, and the arguments as they were. -/
theorem run (hfin : ∀ c i, arr0 m c i ≠ ⊤) (ρ : Dev nD → PrngReg) :
    θ_run defs (onTc (τ := τ) (main (F := Ideal))) ⟨m, fun _ => 0, ρ⟩ fun r => ∀ c : Dev nD,
      r.2.mem ((c : Thread nD τ).loc main_v7_0) = res6 m c
      ∧ r.2.mem ((c : Thread nD τ).loc main_v7_1) = res7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, h1, h2⟩ := h c
    exact ⟨h0.trans (final6 m hfin c), h1.trans (final7 m hfin c), h2⟩) (Value.run_blocks m ρ)

end Cert.DecayIdeal.Array

end
-- ==== Proof.DecayReference.lean ====
/-
  The decay's reference at an index: the running sums of each sequence against the two matrices. Of the kernel's
  three parts of a finite sum the first is the whole sum and the other two are zero.
-/
module

public import proofs.«01_k».proof.Pre_finite_gates
public import proofs.«01_k».proof.Proof.DecayArray
public import proofs.«01_k».proof.Proof.FoxReference
public import proofs.«01_k».proof.Proof.Gen.DecayRefIdeal.Read

@[expose] public section

set_option maxRecDepth 16384

noncomputable section

namespace Cert.DecayRefIdeal.Sums

open Cert.DecayRefIdeal Cert.DecayRefIdeal.Gen Cert.DecayRefIdeal.Read Cert.Layer Cert.Online Cert.DecayIdeal.Tile
open Cert.FoxRefIdeal.Soft (IsReal isReal_of_lt of_ofBool)
open Idealize.ShloMosaic Idealize.ShloMosaic.TcCoe Idealize.SL.Sem Idealize.ShloMosaic.WordCmp

variable (x0 : S16384x128.Idx → EReal) (x1 x2 : S128x512.Idx → EReal) (x3 x4 : S1x512.Idx → EReal)

/-- The triangle of ones. -/
theorem tri_at (r k : Fin 2048) : val_main_v6 (F := Ideal) (ix2 r k) = if k.val ≤ r.val then 1 else 0 := by
  pointwise [val_main_v6, val_main_v5, val_main_v4, val_main_v3, val_main_v2, val_main_v1, val_main_v0]
  rw [cmpi_sge_ofNat (by omega) (by omega)]
  by_cases h : k.val ≤ r.val <;> simp [h, FloatOps.uitofp]

/-- The gates by sequence. -/
theorem seq_at (b : Fin 8) (k : Fin 2048) (l : Fin 8) :
    val_main_v8 (F := Ideal) x0 (ix3 b k l) = at2 x0 (2048 * b.val + k.val) l.val := by
  refine Eq.trans ?_ (at2_ix2 x0 ⟨2048 * b.val + k.val, by omega⟩ ⟨l.val, by omega⟩).symm
  unfold val_main_v8
  refine (shapeCast_apply _ shapeCasts_S16384x8_S8x2048x8 (ix3 b k l)
    (ix2 (n0 := 16384) (n1 := 8) ⟨2048 * b.val + k.val, by omega⟩ l) ?_).trans ?_
  · rewrite [Shape.rowMajor_val_three, Shape.rowMajor_val_two]
    show (2048 * b.val + k.val) * 8 + l.val = (b.val * 2048 + k.val) * 8 + l.val
    omega
  · pointwise [val_main_v7]

/-- The running sums by sequence. -/
theorem run_at (b : Fin 8) (t : Fin 2048) (l : Fin 8) :
    val_main_v10 (F := Ideal) x0 (ix3 b t l) = ∑ n ∈ Finset.range (t.val + 1), at2 x0 (2048 * b.val + n) l.val := by
  rw [← sum_le (n := 2048) (fun n => at2 x0 (2048 * b.val + n) l.val) t.val t.isLt]
  pointwise [val_main_v10, val_main_v9]
  refine Finset.sum_congr rfl fun k _ => ?_
  rw [seq_at, tri_at, mul_ite, mul_one, mul_zero]

/-- The running sums by row. -/
theorem sum_at (R : Fin 16384) (l : Fin 8) : val_main_v11 (F := Ideal) x0 (ix2 R l)
    = ∑ n ∈ Finset.range (R.val % 2048 + 1), at2 x0 (2048 * (R.val / 2048) + n) l.val := by
  rw [← run_at x0 ⟨R.val / 2048, by omega⟩ ⟨R.val % 2048, Nat.mod_lt _ (by decide)⟩ l]
  unfold val_main_v11
  refine shapeCast_apply _ shapeCasts_S8x2048x8_S16384x8 (ix2 R l)
    (ix3 (n0 := 8) (n1 := 2048) (n2 := 8) ⟨R.val / 2048, by omega⟩ ⟨R.val % 2048, Nat.mod_lt _ (by decide)⟩ l) ?_
  rewrite [Shape.rowMajor_val_three, Shape.rowMajor_val_two]
  show (R.val / 2048 * 2048 + R.val % 2048) * 8 + l.val = R.val * 8 + l.val
  omega

/-! ## The three parts of a real number -/

theorem log2e_real : IsReal log2e := by
  simp only [IsReal, log2e, Ideal.ofBits, Ideal.ieee]
  exact ⟨_, if_neg (by decide) |>.trans (if_neg (by decide))⟩

/-- The first part is the number, and the others are zero. -/
theorem part_real {c : EReal} (h : IsReal c) (l : ℕ) : part l c = if l < 8 then c * log2e else 0 := by
  obtain ⟨r, hr⟩ := IsReal.mul h log2e_real
  rw [part, hr, ← EReal.coe_sub, sub_self]
  simp

theorem isReal_sum (n : ℕ) (f : ℕ → EReal) (h : ∀ k, IsReal (f k)) : IsReal (∑ k ∈ Finset.range n, f k) := by
  choose g hg using h
  exact ⟨∑ k ∈ Finset.range n, g k, by rw [coe_sum]; exact Finset.sum_congr rfl fun k _ => hg k⟩

/-- A row of the result, from the eight heads' running sums alone. -/
def plainAt (x : ℕ → ℕ → EReal) (w : Fin 8 → EReal) (b : EReal) (R : ℕ) : EReal :=
  (∑ h : Fin 8, (∑ n ∈ Finset.range (R % 2048 + 1), x (2048 * (R / 2048) + n) h.val) * log2e * w h) + b

/-- Where the gates are real, the kernel's row is the eight heads' alone. -/
theorem decay_eq (h0 : ∀ i, IsReal (x0 i)) (w : Fin 128 → EReal) (b : EReal) (R : ℕ) :
    decayAt (at2 x0) w b R = plainAt (at2 x0) (fun h => w ⟨h.val, by omega⟩) b R := by
  have hs : ∀ l, IsReal (∑ n ∈ Finset.range (R % 2048 + 1), at2 x0 (2048 * (R / 2048) + n) l) := fun l =>
    isReal_sum _ _ fun k => IsReal.at2 _ _ fun _ _ => h0 _
  unfold decayAt plainAt
  congr 1
  refine (Fin.sum_univ_add (a := 8) (b := 120) fun l : Fin 128 => part l.val
    (∑ n ∈ Finset.range (R % 2048 + 1), at2 x0 (2048 * (R / 2048) + n) l.val) * w l).trans ?_
  have hz : (∑ l : Fin 120, part (Fin.natAdd 8 l).val
      (∑ n ∈ Finset.range (R % 2048 + 1), at2 x0 (2048 * (R / 2048) + n) (Fin.natAdd 8 l).val) * w (Fin.natAdd 8 l)) = 0 :=
    Finset.sum_eq_zero fun l _ => by
      rw [part_real (hs _), if_neg (by simp), zero_mul]
  rw [hz, add_zero]
  refine Finset.sum_congr rfl fun l _ => ?_
  rw [part_real (hs _), if_pos (by simp)]
  rfl

/-! ## The reference's results -/

/-- The reference's first result. -/
theorem first_at (R : Fin 16384) (j : Fin 512) : val_main_v19 (F := Ideal) x0 x1 x3 (ix2 R j)
    = plainAt (at2 x0) (fun h => x1 (ix2 ⟨h.val, by omega⟩ j)) (x3 (ix2 0 j)) R.val := by
  pointwise [val_main_v19, val_main_v18, val_main_v17, val_main_v16, val_main_v15, val_main_v14, val_main_v13, val_main_v12,
    val_main_cst]
  simp only [sum_at]
  rfl

/-- The reference's second result. -/
theorem second_at (R : Fin 16384) (j : Fin 512) : val_main_v25 (F := Ideal) x0 x2 x4 (ix2 R j)
    = plainAt (at2 x0) (fun h => x2 (ix2 ⟨h.val, by omega⟩ j)) (x4 (ix2 0 j)) R.val := by
  pointwise [val_main_v25, val_main_v24, val_main_v23, val_main_v22, val_main_v21, val_main_v20, val_main_v13, val_main_v12,
    val_main_cst]
  simp only [sum_at]
  rfl

/-! ## The precondition -/

theorem pre_facts : Cert.Pre_finite_gates.Facts where
  bcast_S_S16384x128 := by decide

/-- The gates are real numbers. -/
theorem real_of_pre [Cert.Pre_finite_gates.Facts]
    (h : Cert.Pre_finite_gates.fn (F := Ideal) x0 x1 x2 x3 x4 = fun _ => 1#1) (i : S16384x128.Idx) : IsReal (x0 i) := by
  have hinf : Ideal.ofBits .f32 0x7F800000#32 = ⊤ := by
    simp [Ideal.ofBits, Ideal.ieee]
  obtain ⟨R, l, rfl⟩ : ∃ R l, i = ix2 (n0 := 16384) (n1 := 128) R l := ⟨i 0, i 1, eq_ix2 i⟩
  have hi := congrFun h (ix2 R l)
  pointwise [Cert.Pre_finite_gates.fn] at hi
  rw [hinf] at hi
  exact isReal_of_lt (of_decide_eq_true (of_ofBool hi))

theorem real_ne_top {x : EReal} (h : IsReal x) : x ≠ ⊤ := by
  obtain ⟨r, rfl⟩ := h
  exact EReal.coe_ne_top r

end Cert.DecayRefIdeal.Sums

end
-- ==== Proof.DecayClaims.lean ====
/-
  The claims about the running sums of the log forget gates and their features.
-/
module

public import proofs.«01_k».proof.Defs
public import proofs.«01_k».proof.Proof.Gen.DecayIdeal.Value
public import proofs.«01_k».proof.Proof.Gen.DecayRefIdeal.Read
public import proofs.«01_k».proof.Proof.Gen.Decay.Frame
public import proofs.«01_k».proof.Proof.Gen.DecayIdeal.Frame
public import proofs.«01_k».proof.Proof.Gen.DecayRefIdeal.Run
public import proofs.«01_k».proof.Proof.DecayReference
public import Idealize.ShloMosaic.Lib.Quiescent

@[expose] public section

set_option maxRecDepth 16384

noncomputable section

namespace Cert.Proof.DecayClaims

open Idealize.ShloMosaic Idealize.ShloMosaic.TcCoe Idealize.SL.Sem

instance hDecay : Cert.Decay.Facts := Cert.Decay.Gen.facts
instance hDecayIdeal : Cert.DecayIdeal.Facts := Cert.DecayIdeal.Gen.facts
instance hDecayRefIdeal : Cert.DecayRefIdeal.Facts := Cert.DecayRefIdeal.Gen.facts
instance hPre : Cert.Pre_finite_gates.Facts := Cert.DecayRefIdeal.Sums.pre_facts

theorem frame_p : Cert.quiescent_Decay := fun m ρ _ => Cert.Decay.Gen.frame m ρ

theorem frame_pi : Cert.quiescent_DecayIdeal := fun m ρ _ => Cert.DecayIdeal.Gen.frame m ρ

theorem frame_pi_pre : Cert.quiescent_DecayIdeal_pre_finite_gates := fun m ρ _ => Cert.DecayIdeal.Gen.frame m ρ

theorem frame_ri : Cert.quiescent_DecayRefIdeal := fun m ρ _ =>
  (θ_run Cert.DecayRefIdeal.defs _ _).mono (fun r h => ⟨fun c => (h c).2.2, sem_eq_zero_of_no_sems rfl r.2⟩)
    (Cert.DecayRefIdeal.Value.run (F := Ideal) m ρ)

theorem frame_ri_pre : Cert.quiescent_DecayRefIdeal_pre_finite_gates := fun m ρ _ => frame_ri m ρ trivial

theorem preserves : Cert.preserves_Decay_DecayIdeal := trivial

/-- The kernel's two results and the reference's are the same arrays. -/
theorem algebraic : Cert.algebraic_DecayIdeal_DecayRefIdeal_pre_finite_gates := fun m ρ m' ρ' hpre hag =>
  ⟨fun c => Cert.DecayIdeal.Array.res6 m c, fun c => Cert.DecayIdeal.Array.res7 m c,
    Cert.DecayIdeal.Array.run m (fun c i => Cert.DecayRefIdeal.Sums.real_ne_top (Cert.DecayRefIdeal.Sums.real_of_pre _ _ _ _ _ (hpre c) i)) ρ,
    (θ_run Cert.DecayRefIdeal.defs _ _).mono
      (fun _ h c => by
        obtain ⟨h0, h1, h2⟩ := h c
        obtain ⟨a0, a1, a2, a3, a4⟩ := hag c
        have hfin := Cert.DecayRefIdeal.Sums.real_of_pre _ _ _ _ _ (hpre c)
        refine ⟨h0.trans ?_, h1.trans ?_, h2⟩
        · rw [Cert.DecayRefIdeal.Read.val_main_v19_eq, a0, a1, a3]
          funext i
          obtain ⟨r, j, rfl⟩ : ∃ r j, i = ix2 (n0 := 16384) (n1 := 512) r j := ⟨i 0, i 1, eq_ix2 i⟩
          exact (Cert.DecayRefIdeal.Sums.first_at _ _ _ r j).trans (Cert.DecayRefIdeal.Sums.decay_eq _ hfin
            (fun l => Cert.DecayIdeal.Array.arr1 m c (ix2 l j)) (Cert.DecayIdeal.Array.arr3 m c (ix2 0 j)) r.val).symm
        · rw [Cert.DecayRefIdeal.Read.val_main_v25_eq, a0, a2, a4]
          funext i
          obtain ⟨r, j, rfl⟩ : ∃ r j, i = ix2 (n0 := 16384) (n1 := 512) r j := ⟨i 0, i 1, eq_ix2 i⟩
          exact (Cert.DecayRefIdeal.Sums.second_at _ _ _ r j).trans (Cert.DecayRefIdeal.Sums.decay_eq _ hfin
            (fun l => Cert.DecayIdeal.Array.arr2 m c (ix2 l j)) (Cert.DecayIdeal.Array.arr4 m c (ix2 0 j)) r.val).symm)
      (Cert.DecayRefIdeal.Value.run (F := Ideal) m' ρ')⟩

end Cert.Proof.DecayClaims

end
-- ==== Proof.lean ====
module

public import proofs.«01_k».proof.Proof.FoxClaims
public import proofs.«01_k».proof.Proof.FfnClaims
public import proofs.«01_k».proof.Proof.InpClaims
public import proofs.«01_k».proof.Proof.PostClaims
public import proofs.«01_k».proof.Proof.MemkvClaims
public import proofs.«01_k».proof.Proof.DecayClaims

@[expose] public section

noncomputable section

namespace Cert.Proof

theorem claim : Cert.Claim :=
  ⟨Cert.Fox.Gen.facts, Cert.FoxIdeal.Gen.facts, Cert.FoxRefIdeal.Gen.facts,
    Cert.Ffn.Gen.facts, Cert.FfnIdeal.Gen.facts, Cert.FfnRefIdeal.Gen.facts,
    Cert.Inp.Gen.facts, Cert.InpIdeal.Gen.facts, Cert.InpRefIdeal.Gen.facts,
    Cert.Post.Gen.facts, Cert.PostIdeal.Gen.facts, Cert.PostRefIdeal.Gen.facts,
    Cert.Memkv.Gen.facts, Cert.MemkvIdeal.Gen.facts, Cert.MemkvRefIdeal.Gen.facts,
    Cert.Decay.Gen.facts, Cert.DecayIdeal.Gen.facts, Cert.DecayRefIdeal.Gen.facts,
    Cert.FoxRefIdeal.Soft.pre_facts, Cert.PostRefIdeal.Rows.pre_facts, Cert.DecayRefIdeal.Sums.pre_facts,
    FoxClaims.frame_p, FoxClaims.frame_pi, FoxClaims.frame_pi_pre, FoxClaims.frame_ri, FoxClaims.frame_ri_pre,
    FfnClaims.frame_p, FfnClaims.frame_pi, FfnClaims.frame_ri,
    InpClaims.frame_p, InpClaims.frame_pi, InpClaims.frame_ri,
    PostClaims.frame_p, PostClaims.frame_pi, PostClaims.frame_pi_pre, PostClaims.frame_ri, PostClaims.frame_ri_pre,
    MemkvClaims.frame_p, MemkvClaims.frame_pi, MemkvClaims.frame_ri,
    DecayClaims.frame_p, DecayClaims.frame_pi, DecayClaims.frame_pi_pre, DecayClaims.frame_ri, DecayClaims.frame_ri_pre,
    FoxClaims.preserves, FoxClaims.algebraic, FfnClaims.preserves, FfnClaims.algebraic, InpClaims.preserves, InpClaims.algebraic,
    PostClaims.preserves, PostClaims.algebraic, MemkvClaims.preserves, MemkvClaims.algebraic,
    DecayClaims.preserves, DecayClaims.algebraic⟩

end Cert.Proof

end
